-- ==== Defs.lean ====
def Pre_Kernel [hPre_chosen : Cert.Pre_chosen.Facts] (m : (ℓ : Loc Cert.Kernel.nD Cert.Kernel.τ Cert.Kernel.sig) → Buf (Elt Bits) ℓ) : Prop :=
  ∀ c : Dev Cert.Kernel.nD,
    (Cert.Pre_chosen.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_chosen : Cert.Pre_chosen.Facts] (m : (ℓ : Loc Cert.KernelIdeal.nD Cert.KernelIdeal.τ Cert.KernelIdeal.sig) → Buf (Elt Ideal) ℓ) : Prop :=
  ∀ c : Dev Cert.KernelIdeal.nD,
    (Cert.Pre_chosen.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_chosen [hPre_chosen : Cert.Pre_chosen.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chosen.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_chosen : Cert.Pre_chosen.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_chosen : Cert.Pre_chosen.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_chosen [hReferenceIdeal : Cert.ReferenceIdeal.Facts] [hPre_chosen : Cert.Pre_chosen.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chosen m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_chosen : Cert.Pre_chosen.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)) (v4 : (c : Dev Cert.Kernel3Ideal.nD) → Buf (Elt Ideal) ((c.tc : Thread Cert.Kernel3Ideal.nD Cert.Kernel3Ideal.τ).loc Cert.Kernel3Ideal.main_v12_4)) (v5 : (c : Dev Cert.Kernel3Ideal.nD) → Buf (Elt Ideal) ((c.tc : Thread Cert.Kernel3Ideal.nD Cert.Kernel3Ideal.τ).loc Cert.Kernel3Ideal.main_v12_5)) (v6 : (c : Dev Cert.Kernel3Ideal.nD) → Buf (Elt Ideal) ((c.tc : Thread Cert.Kernel3Ideal.nD Cert.Kernel3Ideal.τ).loc Cert.Kernel3Ideal.main_v12_6)) (v7 : (c : Dev Cert.Kernel3Ideal.nD) → Buf (Elt Ideal) ((c.tc : Thread Cert.Kernel3Ideal.nD Cert.Kernel3Ideal.τ).loc Cert.Kernel3Ideal.main_v12_7)) (v8 : (c : Dev Cert.Kernel3Ideal.nD) → Buf (Elt Ideal) ((c.tc : Thread Cert.Kernel3Ideal.nD Cert.Kernel3Ideal.τ).loc Cert.Kernel3Ideal.main_v12_8)) (v9 : (c : Dev Cert.Kernel3Ideal.nD) → Buf (Elt Ideal) ((c.tc : Thread Cert.Kernel3Ideal.nD Cert.Kernel3Ideal.τ).loc Cert.Kernel3Ideal.main_v12_9)) (v10 : (c : Dev Cert.Kernel3Ideal.nD) → Buf (Elt Ideal) ((c.tc : Thread Cert.Kernel3Ideal.nD Cert.Kernel3Ideal.τ).loc Cert.Kernel3Ideal.main_v12_10)) (v11 : (c : Dev Cert.Kernel3Ideal.nD) → Buf (Elt Ideal) ((c.tc : Thread Cert.Kernel3Ideal.nD Cert.Kernel3Ideal.τ).loc Cert.Kernel3Ideal.main_v12_11)) (v12 : (c : Dev Cert.Kernel3Ideal.nD) → Buf (Elt Ideal) ((c.tc : Thread Cert.Kernel3Ideal.nD Cert.Kernel3Ideal.τ).loc Cert.Kernel3Ideal.main_v12_12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_v12_4) = v4 c
          ∧ r.2.mem ((c.tc : Thread Cert.Kernel3Ideal.nD Cert.Kernel3Ideal.τ).loc Cert.Kernel3Ideal.main_v12_5) = v5 c
          ∧ r.2.mem ((c.tc : Thread Cert.Kernel3Ideal.nD Cert.Kernel3Ideal.τ).loc Cert.Kernel3Ideal.main_v12_6) = v6 c
          ∧ r.2.mem ((c.tc : Thread Cert.Kernel3Ideal.nD Cert.Kernel3Ideal.τ).loc Cert.Kernel3Ideal.main_v12_7) = v7 c
          ∧ r.2.mem ((c.tc : Thread Cert.Kernel3Ideal.nD Cert.Kernel3Ideal.τ).loc Cert.Kernel3Ideal.main_v12_8) = v8 c
          ∧ r.2.mem ((c.tc : Thread Cert.Kernel3Ideal.nD Cert.Kernel3Ideal.τ).loc Cert.Kernel3Ideal.main_v12_9) = v9 c
          ∧ r.2.mem ((c.tc : Thread Cert.Kernel3Ideal.nD Cert.Kernel3Ideal.τ).loc Cert.Kernel3Ideal.main_v12_10) = v10 c
          ∧ r.2.mem ((c.tc : Thread Cert.Kernel3Ideal.nD Cert.Kernel3Ideal.τ).loc Cert.Kernel3Ideal.main_v12_11) = v11 c
          ∧ r.2.mem ((c.tc : Thread Cert.Kernel3Ideal.nD Cert.Kernel3Ideal.τ).loc Cert.Kernel3Ideal.main_v12_12) = v12 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_v20) = v3 c
          ∧ r.2.mem ((c.tc : Thread Cert.Reference3Ideal.nD Cert.Reference3Ideal.τ).loc Cert.Reference3Ideal.main_v39) = v4 c
          ∧ r.2.mem ((c.tc : Thread Cert.Reference3Ideal.nD Cert.Reference3Ideal.τ).loc Cert.Reference3Ideal.main_v42) = v5 c
          ∧ r.2.mem ((c.tc : Thread Cert.Reference3Ideal.nD Cert.Reference3Ideal.τ).loc Cert.Reference3Ideal.main_v45) = v6 c
          ∧ r.2.mem ((c.tc : Thread Cert.Reference3Ideal.nD Cert.Reference3Ideal.τ).loc Cert.Reference3Ideal.main_v48) = v7 c
          ∧ r.2.mem ((c.tc : Thread Cert.Reference3Ideal.nD Cert.Reference3Ideal.τ).loc Cert.Reference3Ideal.main_v51) = v8 c
          ∧ r.2.mem ((c.tc : Thread Cert.Reference3Ideal.nD Cert.Reference3Ideal.τ).loc Cert.Reference3Ideal.main_v54) = v9 c
          ∧ r.2.mem ((c.tc : Thread Cert.Reference3Ideal.nD Cert.Reference3Ideal.τ).loc Cert.Reference3Ideal.main_v57) = v10 c
          ∧ r.2.mem ((c.tc : Thread Cert.Reference3Ideal.nD Cert.Reference3Ideal.τ).loc Cert.Reference3Ideal.main_v60) = v11 c
          ∧ r.2.mem ((c.tc : Thread Cert.Reference3Ideal.nD Cert.Reference3Ideal.τ).loc Cert.Reference3Ideal.main_v63) = v12 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  IdealRules.named_const.Statement Cert.Kernel7Ideal.κ "mask" .f32 0xF149F2CA#32 ⊥

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v77) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_chosen : Cert.Pre_chosen.Facts),
    quiescent_Kernel (hKernel := hKernel) (hPre_chosen := hPre_chosen)
    ∧ quiescent_KernelIdeal (hKernelIdeal := hKernelIdeal) (hPre_chosen := hPre_chosen)
    ∧ quiescent_ReferenceIdeal (hReferenceIdeal := hReferenceIdeal)
    ∧ quiescent_ReferenceIdeal_pre_chosen (hReferenceIdeal := hReferenceIdeal) (hPre_chosen := hPre_chosen)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_chosen := hPre_chosen)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_chosen.lean ====
abbrev S16384x2 : Shape := ⟨2, ![16384, 2]⟩
abbrev S36352x512 : Shape := ⟨2, ![36352, 512]⟩
abbrev S8192x3584 : Shape := ⟨2, ![8192, 3584]⟩
abbrev S28672x1024 : Shape := ⟨2, ![28672, 1024]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : IVec S16384x2 32) (main_arg1 : IVec S36352x512 32) (main_arg2 : FVec F S8192x3584 .bf16) (main_arg3 : FVec F S8192x3584 .bf16) (main_arg4 : FVec F S28672x1024 .bf16) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg0 main_v0
  let main_c_0 : IVec S_ 32 := constantI S_ 32 8#32
  let main_v2 : IVec S16384x2 32 := broadcastInDim S16384x2 ![] bcast_S_S16384x2 main_c_0
  let main_v3 : IVec S16384x2 1 := cmpi .slt main_arg0 main_v2
  let main_v4 : IVec S16384x2 1 := andi main_v1 main_v3
  let main_c_1 : IVec S_ 1 := constantI S_ 1 1#1
  let main_v5 : IVec S_ 1 := (fun x v => Host.reduce IntOp.andi x v reducesTo_S16384x2_S_d0_1 h_S_) main_v4 main_c_1
  main_v5
-- ==== Kernel.lean ====
abbrev S16384x2 : Shape := ⟨2, ![16384, 2]⟩
abbrev S36352x512 : Shape := ⟨2, ![36352, 512]⟩
abbrev S8192x3584 : Shape := ⟨2, ![8192, 3584]⟩
abbrev S28672x1024 : Shape := ⟨2, ![28672, 1024]⟩
abbrev S32768 : Shape := ⟨1, ![32768]⟩
abbrev S32768x1 : Shape := ⟨2, ![32768, 1]⟩
abbrev S8 : Shape := ⟨1, ![8]⟩
abbrev S1x8 : Shape := ⟨2, ![1, 8]⟩
abbrev S32768x8 : Shape := ⟨2, ![32768, 8]⟩
abbrev S_ : Shape := ⟨0, ![]⟩
abbrev S71 : Shape := ⟨1, ![71]⟩
abbrev S71x1 : Shape := ⟨2, ![71, 1]⟩
abbrev S71x8 : Shape := ⟨2, ![71, 8]⟩
abbrev S1 : Shape := ⟨1, ![1]⟩
abbrev S8x1024x3584 : Shape := ⟨3, ![8, 1024, 3584]⟩
abbrev S8x3584x1024 : Shape := ⟨3, ![8, 3584, 1024]⟩
abbrev S36352x1024 : Shape := ⟨2, ![36352, 1024]⟩
abbrev S512x512 : Shape := ⟨2, ![512, 512]⟩
abbrev S1x1024x1792 : Shape := ⟨3, ![1, 1024, 1792]⟩
abbrev S1x1792x1024 : Shape := ⟨3, ![1, 1792, 1024]⟩
abbrev S512x1024 : Shape := ⟨2, ![512, 1024]⟩
abbrev S1024x1792 : Shape := ⟨2, ![1024, 1792]⟩
abbrev S1792x1024 : Shape := ⟨2, ![1792, 1024]⟩
abbrev S512x1792 : Shape := ⟨2, ![512, 1792]⟩

abbrev nBuf : Space → Nat
  | .hbm => 91
  | .vmem => 12
  | .smem => 2
  | _ => 0

abbrev bufTy : (tb : Table) → Fin (tcTables nBuf tb) → BufTy
  | .hbm, ⟨0, _⟩ => ⟨S16384x2, .i32⟩
  | .hbm, ⟨1, _⟩ => ⟨S36352x512, .i32⟩
  | .hbm, ⟨2, _⟩ => ⟨S8192x3584, .bf16⟩
  | .hbm, ⟨3, _⟩ => ⟨S8192x3584, .bf16⟩
  | .hbm, ⟨4, _⟩ => ⟨S28672x1024, .bf16⟩
  | .hbm, ⟨5, _⟩ => ⟨S32768, .i32⟩
  | .hbm, ⟨6, _⟩ => ⟨S32768x1, .i32⟩
  | .hbm, ⟨7, _⟩ => ⟨S8, .i32⟩
  | .hbm, ⟨8, _⟩ => ⟨S1x8, .i32⟩
  | .hbm, ⟨9, _⟩ => ⟨S32768x8, .i32⟩
  | .hbm, ⟨10, _⟩ => ⟨S32768x8, .i32⟩
  | .hbm, ⟨11, _⟩ => ⟨S32768x8, .i1⟩
  | .hbm, ⟨12, _⟩ => ⟨S32768x8, .i32⟩
  | .hbm, ⟨13, _⟩ => ⟨S_, .i32⟩
  | .hbm, ⟨14, _⟩ => ⟨S_, .i32⟩
  | .hbm, ⟨15, _⟩ => ⟨S32768x8, .i32⟩
  | .hbm, ⟨16, _⟩ => ⟨S1x8, .i32⟩
  | .hbm, ⟨17, _⟩ => ⟨S8, .i32⟩
  | .hbm, ⟨18, _⟩ => ⟨S32768x8, .i32⟩
  | .hbm, ⟨19, _⟩ => ⟨S32768x8, .i32⟩
  | .hbm, ⟨20, _⟩ => ⟨S_, .i32⟩
  | .hbm, ⟨21, _⟩ => ⟨S32768, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S8, .i32⟩
  | .hbm, ⟨33, _⟩ => ⟨S_, .i32⟩
  | .hbm, ⟨34, _⟩ => ⟨S8, .i32⟩
  | .hbm, ⟨35, _⟩ => ⟨S8, .i1⟩
  | .hbm, ⟨36, _⟩ => ⟨S8, .i32⟩
  | .hbm, ⟨37, _⟩ => ⟨S8, .i32⟩
  | .hbm, ⟨38, _⟩ => ⟨S_, .i32⟩
  | .hbm, ⟨39, _⟩ => ⟨S8, .i32⟩
  | .hbm, ⟨40, _⟩ => ⟨S8, .i1⟩
  | .hbm, ⟨41, _⟩ => ⟨S8, .i1⟩
  | .hbm, ⟨42, _⟩ => ⟨S_, .i32⟩
  | .hbm, ⟨43, _⟩ => ⟨S8, .i32⟩
  | .hbm, ⟨44, _⟩ => ⟨S8, .i32⟩
  | .hbm, ⟨45, _⟩ => ⟨S8, .i32⟩
  | .hbm, ⟨46, _⟩ => ⟨S_, .i32⟩
  | .hbm, ⟨47, _⟩ => ⟨S_, .i32⟩
  | .hbm, ⟨48, _⟩ => ⟨S8, .i32⟩
  | .hbm, ⟨49, _⟩ => ⟨S8, .i32⟩
  | .hbm, ⟨50, _⟩ => ⟨S1x8, .i32⟩
  | .hbm, ⟨51, _⟩ => ⟨S32768x8, .i32⟩
  | .hbm, ⟨52, _⟩ => ⟨S32768x8, .i32⟩
  | .hbm, ⟨53, _⟩ => ⟨S_, .i32⟩
  | .hbm, ⟨54, _⟩ => ⟨S32768, .i32⟩
  | .hbm, ⟨55, _⟩ => ⟨S_, .i32⟩
  | .hbm, ⟨56, _⟩ => ⟨S32768, .i32⟩
  | .hbm, ⟨57, _⟩ => ⟨S32768, .i32⟩
  | .hbm, ⟨58, _⟩ => ⟨S32768, .i32⟩
  | .hbm, ⟨59, _⟩ => ⟨S71, .i32⟩
  | .hbm, ⟨60, _⟩ => ⟨S71x1, .i32⟩
  | .hbm, ⟨61, _⟩ => ⟨S1x8, .i32⟩
  | .hbm, ⟨62, _⟩ => ⟨S71x8, .i32⟩
  | .hbm, ⟨63, _⟩ => ⟨S71x8, .i32⟩
  | .hbm, ⟨64, _⟩ => ⟨S71x8, .i1⟩
  | .hbm, ⟨65, _⟩ => ⟨S71x8, .i32⟩
  | .hbm, ⟨66, _⟩ => ⟨S_, .i32⟩
  | .hbm, ⟨67, _⟩ => ⟨S71, .i32⟩
  | .hbm, ⟨68, _⟩ => ⟨S1, .i32⟩
  | .hbm, ⟨69, _⟩ => ⟨S_, .i32⟩
  | .hbm, ⟨70, _⟩ => ⟨S_, .i32⟩
  | .hbm, ⟨71, _⟩ => ⟨S71, .i32⟩
  | .hbm, ⟨72, _⟩ => ⟨S71, .i32⟩
  | .hbm, ⟨73, _⟩ => ⟨S71, .i32⟩
  | .hbm, ⟨74, _⟩ => ⟨S71, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S1, .i32⟩
  | .hbm, ⟨85, _⟩ => ⟨S_, .i32⟩
  | .hbm, ⟨86, _⟩ => ⟨S71, .i32⟩
  | .hbm, ⟨87, _⟩ => ⟨S8x1024x3584, .bf16⟩
  | .hbm, ⟨88, _⟩ => ⟨S8x1024x3584, .bf16⟩
  | .hbm, ⟨89, _⟩ => ⟨S8x3584x1024, .bf16⟩
  | .hbm, ⟨90, _⟩ => ⟨S36352x1024, .f32⟩
  | .local _ .vmem, ⟨0, _⟩ => ⟨S512x512, .i32⟩
  | .local _ .vmem, ⟨1, _⟩ => ⟨S512x512, .i32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S71, .i32⟩
  | .local _ .smem, ⟨1, _⟩ => ⟨S1, .i32⟩
  | _, _ => ⟨S16384x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_call0_c : Ref sig .tc := ⟨.hbm, 13, rfl⟩
abbrev main_call0_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v18 : Ref sig .tc := ⟨.hbm, 45, rfl⟩
abbrev main_call2_call0_c : Ref sig .tc := ⟨.hbm, 46, rfl⟩
abbrev main_call2_call0_v0 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_3 : Ref sig .tc := ⟨.hbm, 53, rfl⟩
abbrev main_v24 : Ref sig .tc := ⟨.hbm, 54, rfl⟩
abbrev main_c_4 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_6 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_7 : Ref sig .tc := ⟨.hbm, 75, rfl⟩
abbrev main_v42 : Ref sig .tc := ⟨.hbm, 76, rfl⟩
abbrev main_c_8 : Ref sig .tc := ⟨.hbm, 77, rfl⟩
abbrev main_v43 : Ref sig .tc := ⟨.hbm, 78, rfl⟩
abbrev main_c_9 : Ref sig .tc := ⟨.hbm, 79, rfl⟩
abbrev main_v44 : Ref sig .tc := ⟨.hbm, 80, rfl⟩
abbrev main_c_10 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_call3_v0 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v49 : Ref sig .tc := ⟨.smem, 0, rfl⟩
abbrev main_v50 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![71, 2], ![false, false]⟩

abbrev pre0 : Pipeline.Prefetch sig := ⟨2, ![main_v49.idx, main_v50.idx], fun | 0 => main_v49.names | 1 => main_v50.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v0 : BitVec 32) : BitVec 1 :=
  let arg1 : BitVec 32 := BitVec.ofNat 32 (i 1).val
  let c1_i32 : BitVec 32 := 1#32
  let v6 : BitVec 1 := Scalar.cmpi .eq arg1 c1_i32
  let arg0 : BitVec 32 := BitVec.ofNat 32 (i 0).val
  let v1 : BitVec 1 := Scalar.cmpi .slt arg0 v0
  let v7 : BitVec 1 := Scalar.andi v6 v1
  let v8 : BitVec 32 := Scalar.extui v7
  let c0_i32_1 : BitVec 32 := 0#32
  let v9 : BitVec 1 := Scalar.cmpi .ne v8 c0_i32_1
  v9

def k0_cond3 (i : grid0.Coords) (v0 : BitVec 32) : BitVec 1 :=
  let arg1 : BitVec 32 := BitVec.ofNat 32 (i 1).val
  let c1_i32_2 : BitVec 32 := 1#32
  let v10 : BitVec 1 := Scalar.cmpi .eq arg1 c1_i32_2
  let arg0 : BitVec 32 := BitVec.ofNat 32 (i 0).val
  let v1 : BitVec 1 := Scalar.cmpi .slt arg0 v0
  let v_true : BitVec 1 := 1#1
  let v11 : BitVec 1 := Scalar.xori v1 v_true
  let v12 : BitVec 1 := Scalar.andi v10 v11
  let v13 : BitVec 32 := Scalar.extui v12
  let c0_i32_3 : BitVec 32 := 0#32
  let v14 : BitVec 1 := Scalar.cmpi .ne v13 c0_i32_3
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S71.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S71) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S71.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S71) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S71.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S71) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S16384x2 : Shape := ⟨2, ![16384, 2]⟩
abbrev S36352x512 : Shape := ⟨2, ![36352, 512]⟩
abbrev S8192x3584 : Shape := ⟨2, ![8192, 3584]⟩
abbrev S28672x1024 : Shape := ⟨2, ![28672, 1024]⟩
abbrev S_ : Shape := ⟨0, ![]⟩
abbrev S36352x1024 : Shape := ⟨2, ![36352, 1024]⟩
abbrev S8 : Shape := ⟨1, ![8]⟩
abbrev S32768 : Shape := ⟨1, ![32768]⟩
abbrev S32768x1 : Shape := ⟨2, ![32768, 1]⟩
abbrev S1x8 : Shape := ⟨2, ![1, 8]⟩
abbrev S32768x8 : Shape := ⟨2, ![32768, 8]⟩
abbrev S36352 : Shape := ⟨1, ![36352]⟩
abbrev S36352x1 : Shape := ⟨2, ![36352, 1]⟩
abbrev S36352x8 : Shape := ⟨2, ![36352, 8]⟩
abbrev S8x1024x3584 : Shape := ⟨3, ![8, 1024, 3584]⟩
abbrev S8x3584x1024 : Shape := ⟨3, ![8, 3584, 1024]⟩
abbrev S1x1024x3584 : Shape := ⟨3, ![1, 1024, 3584]⟩
abbrev S1024x3584 : Shape := ⟨2, ![1024, 3584]⟩
abbrev S36352x3584 : Shape := ⟨2, ![36352, 3584]⟩
abbrev S1x3584x1024 : Shape := ⟨3, ![1, 3584, 1024]⟩
abbrev S3584x1024 : Shape := ⟨2, ![3584, 1024]⟩

abbrev nBuf : Space → Nat
  | .hbm => 256
  | .vmem => 0
  | .smem => 0
  | _ => 0

abbrev hbmTy0_0 (i : Nat) : BufTy := match i % 128 with
  | 0 => ⟨S16384x2, .i32⟩
  | 1 => ⟨S36352x512, .i32⟩
  | 2 => ⟨S8192x3584, .bf16⟩
  | 3 => ⟨S8192x3584, .bf16⟩
  | 4 => ⟨S28672x1024, .bf16⟩
  | 5 => ⟨S_, .i32⟩
  | 6 => ⟨S36352x512, .i32⟩
  | 7 => ⟨S36352x512, .i32⟩
  | 8 => ⟨S36352x512, .f32⟩
  | 9 => ⟨S_, .i32⟩
  | 10 => ⟨S36352x512, .i32⟩
  | 11 => ⟨S36352x512, .i32⟩
  | 12 => ⟨S36352x512, .f32⟩
  | 13 => ⟨S36352x1024, .f32⟩
  | 14 => ⟨S8, .i32⟩
  | 15 => ⟨S32768, .i32⟩
  | 16 => ⟨S32768x1, .i32⟩
  | 17 => ⟨S1x8, .i32⟩
  | 18 => ⟨S32768x8, .i32⟩
  | 19 => ⟨S32768x8, .i32⟩
  | 20 => ⟨S32768x8, .i1⟩
  | 21 => ⟨S32768x8, .i32⟩
  | 22 => ⟨S_, .i32⟩
  | 23 => ⟨S8, .i32⟩
  | 24 => ⟨S_, .i32⟩
  | 25 => ⟨S8, .i32⟩
  | 26 => ⟨S8, .i32⟩
  | 27 => ⟨S_, .i32⟩
  | 28 => ⟨S_, .i32⟩
  | 29 => ⟨S8, .i32⟩
  | 30 => ⟨S8, .i32⟩
  | 31 => ⟨S8, .i32⟩
  | 32 => ⟨S_, .i32⟩
  | 33 => ⟨S8, .i32⟩
  | 34 => ⟨S8, .i1⟩
  | 35 => ⟨S8, .i32⟩
  | 36 => ⟨S8, .i32⟩
  | 37 => ⟨S_, .i32⟩
  | 38 => ⟨S8, .i32⟩
  | 39 => ⟨S8, .i1⟩
  | 40 => ⟨S8, .i1⟩
  | 41 => ⟨S_, .i32⟩
  | 42 => ⟨S8, .i32⟩
  | 43 => ⟨S8, .i32⟩
  | 44 => ⟨S8, .i32⟩
  | 45 => ⟨S_, .i32⟩
  | 46 => ⟨S8, .i32⟩
  | 47 => ⟨S8, .i32⟩
  | 48 => ⟨S_, .i32⟩
  | 49 => ⟨S_, .i32⟩
  | 50 => ⟨S8, .i32⟩
  | 51 => ⟨S8, .i32⟩
  | 52 => ⟨S36352, .i32⟩
  | 53 => ⟨S36352x1, .i32⟩
  | 54 => ⟨S1x8, .i32⟩
  | 55 => ⟨S36352x8, .i32⟩
  | 56 => ⟨S36352x8, .i32⟩
  | 57 => ⟨S36352x8, .i1⟩
  | 58 => ⟨S1x8, .i32⟩
  | 59 => ⟨S36352x8, .i32⟩
  | 60 => ⟨S36352x8, .i32⟩
  | 61 => ⟨S36352x8, .i1⟩
  | 62 => ⟨S36352x8, .i1⟩
  | 63 => ⟨S36352x8, .f32⟩
  | 64 => ⟨S8192x3584, .f32⟩
  | 65 => ⟨S8x1024x3584, .f32⟩
  | 66 => ⟨S8192x3584, .f32⟩
  | 67 => ⟨S8x1024x3584, .f32⟩
  | 68 => ⟨S28672x1024, .f32⟩
  | 69 => ⟨S8x3584x1024, .f32⟩
  | 70 => ⟨S_, .f32⟩
  | 71 => ⟨S36352x1024, .f32⟩
  | 72 => ⟨S1x1024x3584, .f32⟩
  | 73 => ⟨S1024x3584, .f32⟩
  | 74 => ⟨S36352x3584, .f32⟩
  | 75 => ⟨S36352x1, .f32⟩
  | 76 => ⟨S36352x3584, .f32⟩
  | 77 => ⟨S36352x3584, .f32⟩
  | 78 => ⟨S_, .f32⟩
  | 79 => ⟨S36352x3584, .f32⟩
  | 80 => ⟨S36352x3584, .f32⟩
  | 81 => ⟨S_, .f32⟩
  | 82 => ⟨S36352x3584, .f32⟩
  | 83 => ⟨S36352x3584, .f32⟩
  | 84 => ⟨S36352x3584, .f32⟩
  | 85 => ⟨S1x1024x3584, .f32⟩
  | 86 => ⟨S1024x3584, .f32⟩
  | 87 => ⟨S36352x3584, .f32⟩
  | 88 => ⟨S36352x3584, .f32⟩
  | 89 => ⟨S1x3584x1024, .f32⟩
  | 90 => ⟨S3584x1024, .f32⟩
  | 91 => ⟨S36352x1024, .f32⟩
  | 92 => ⟨S36352x1024, .f32⟩
  | 93 => ⟨S36352x1024, .f32⟩
  | 94 => ⟨S36352x1024, .f32⟩
  | 95 => ⟨S1x1024x3584, .f32⟩
  | 96 => ⟨S1024x3584, .f32⟩
  | 97 => ⟨S36352x3584, .f32⟩
  | 98 => ⟨S36352x1, .f32⟩
  | 99 => ⟨S36352x3584, .f32⟩
  | 100 => ⟨S36352x3584, .f32⟩
  | 101 => ⟨S_, .f32⟩
  | 102 => ⟨S36352x3584, .f32⟩
  | 103 => ⟨S36352x3584, .f32⟩
  | 104 => ⟨S_, .f32⟩
  | 105 => ⟨S36352x3584, .f32⟩
  | 106 => ⟨S36352x3584, .f32⟩
  | 107 => ⟨S36352x3584, .f32⟩
  | 108 => ⟨S1x1024x3584, .f32⟩
  | 109 => ⟨S1024x3584, .f32⟩
  | 110 => ⟨S36352x3584, .f32⟩
  | 111 => ⟨S36352x3584, .f32⟩
  | 112 => ⟨S1x3584x1024, .f32⟩
  | 113 => ⟨S3584x1024, .f32⟩
  | 114 => ⟨S36352x1024, .f32⟩
  | 115 => ⟨S36352x1024, .f32⟩
  | 116 => ⟨S36352x1024, .f32⟩
  | 117 => ⟨S36352x1024, .f32⟩
  | 118 => ⟨S1x1024x3584, .f32⟩
  | 119 => ⟨S1024x3584, .f32⟩
  | 120 => ⟨S36352x3584, .f32⟩
  | 121 => ⟨S36352x1, .f32⟩
  | 122 => ⟨S36352x3584, .f32⟩
  | 123 => ⟨S36352x3584, .f32⟩
  | 124 => ⟨S_, .f32⟩
  | 125 => ⟨S36352x3584, .f32⟩
  | 126 => ⟨S36352x3584, .f32⟩
  | 127 => ⟨S_, .f32⟩
  | _ => ⟨S16384x2, .i32⟩

abbrev hbmTy0_1 (i : Nat) : BufTy := match i % 128 with
  | 0 => ⟨S36352x3584, .f32⟩
  | 1 => ⟨S36352x3584, .f32⟩
  | 2 => ⟨S36352x3584, .f32⟩
  | 3 => ⟨S1x1024x3584, .f32⟩
  | 4 => ⟨S1024x3584, .f32⟩
  | 5 => ⟨S36352x3584, .f32⟩
  | 6 => ⟨S36352x3584, .f32⟩
  | 7 => ⟨S1x3584x1024, .f32⟩
  | 8 => ⟨S3584x1024, .f32⟩
  | 9 => ⟨S36352x1024, .f32⟩
  | 10 => ⟨S36352x1024, .f32⟩
  | 11 => ⟨S36352x1024, .f32⟩
  | 12 => ⟨S36352x1024, .f32⟩
  | 13 => ⟨S1x1024x3584, .f32⟩
  | 14 => ⟨S1024x3584, .f32⟩
  | 15 => ⟨S36352x3584, .f32⟩
  | 16 => ⟨S36352x1, .f32⟩
  | 17 => ⟨S36352x3584, .f32⟩
  | 18 => ⟨S36352x3584, .f32⟩
  | 19 => ⟨S_, .f32⟩
  | 20 => ⟨S36352x3584, .f32⟩
  | 21 => ⟨S36352x3584, .f32⟩
  | 22 => ⟨S_, .f32⟩
  | 23 => ⟨S36352x3584, .f32⟩
  | 24 => ⟨S36352x3584, .f32⟩
  | 25 => ⟨S36352x3584, .f32⟩
  | 26 => ⟨S1x1024x3584, .f32⟩
  | 27 => ⟨S1024x3584, .f32⟩
  | 28 => ⟨S36352x3584, .f32⟩
  | 29 => ⟨S36352x3584, .f32⟩
  | 30 => ⟨S1x3584x1024, .f32⟩
  | 31 => ⟨S3584x1024, .f32⟩
  | 32 => ⟨S36352x1024, .f32⟩
  | 33 => ⟨S36352x1024, .f32⟩
  | 34 => ⟨S36352x1024, .f32⟩
  | 35 => ⟨S36352x1024, .f32⟩
  | 36 => ⟨S1x1024x3584, .f32⟩
  | 37 => ⟨S1024x3584, .f32⟩
  | 38 => ⟨S36352x3584, .f32⟩
  | 39 => ⟨S36352x1, .f32⟩
  | 40 => ⟨S36352x3584, .f32⟩
  | 41 => ⟨S36352x3584, .f32⟩
  | 42 => ⟨S_, .f32⟩
  | 43 => ⟨S36352x3584, .f32⟩
  | 44 => ⟨S36352x3584, .f32⟩
  | 45 => ⟨S_, .f32⟩
  | 46 => ⟨S36352x3584, .f32⟩
  | 47 => ⟨S36352x3584, .f32⟩
  | 48 => ⟨S36352x3584, .f32⟩
  | 49 => ⟨S1x1024x3584, .f32⟩
  | 50 => ⟨S1024x3584, .f32⟩
  | 51 => ⟨S36352x3584, .f32⟩
  | 52 => ⟨S36352x3584, .f32⟩
  | 53 => ⟨S1x3584x1024, .f32⟩
  | 54 => ⟨S3584x1024, .f32⟩
  | 55 => ⟨S36352x1024, .f32⟩
  | 56 => ⟨S36352x1024, .f32⟩
  | 57 => ⟨S36352x1024, .f32⟩
  | 58 => ⟨S36352x1024, .f32⟩
  | 59 => ⟨S1x1024x3584, .f32⟩
  | 60 => ⟨S1024x3584, .f32⟩
  | 61 => ⟨S36352x3584, .f32⟩
  | 62 => ⟨S36352x1, .f32⟩
  | 63 => ⟨S36352x3584, .f32⟩
  | 64 => ⟨S36352x3584, .f32⟩
  | 65 => ⟨S_, .f32⟩
  | 66 => ⟨S36352x3584, .f32⟩
  | 67 => ⟨S36352x3584, .f32⟩
  | 68 => ⟨S_, .f32⟩
  | 69 => ⟨S36352x3584, .f32⟩
  | 70 => ⟨S36352x3584, .f32⟩
  | 71 => ⟨S36352x3584, .f32⟩
  | 72 => ⟨S1x1024x3584, .f32⟩
  | 73 => ⟨S1024x3584, .f32⟩
  | 74 => ⟨S36352x3584, .f32⟩
  | 75 => ⟨S36352x3584, .f32⟩
  | 76 => ⟨S1x3584x1024, .f32⟩
  | 77 => ⟨S3584x1024, .f32⟩
  | 78 => ⟨S36352x1024, .f32⟩
  | 79 => ⟨S36352x1024, .f32⟩
  | 80 => ⟨S36352x1024, .f32⟩
  | 81 => ⟨S36352x1024, .f32⟩
  | 82 => ⟨S1x1024x3584, .f32⟩
  | 83 => ⟨S1024x3584, .f32⟩
  | 84 => ⟨S36352x3584, .f32⟩
  | 85 => ⟨S36352x1, .f32⟩
  | 86 => ⟨S36352x3584, .f32⟩
  | 87 => ⟨S36352x3584, .f32⟩
  | 88 => ⟨S_, .f32⟩
  | 89 => ⟨S36352x3584, .f32⟩
  | 90 => ⟨S36352x3584, .f32⟩
  | 91 => ⟨S_, .f32⟩
  | 92 => ⟨S36352x3584, .f32⟩
  | 93 => ⟨S36352x3584, .f32⟩
  | 94 => ⟨S36352x3584, .f32⟩
  | 95 => ⟨S1x1024x3584, .f32⟩
  | 96 => ⟨S1024x3584, .f32⟩
  | 97 => ⟨S36352x3584, .f32⟩
  | 98 => ⟨S36352x3584, .f32⟩
  | 99 => ⟨S1x3584x1024, .f32⟩
  | 100 => ⟨S3584x1024, .f32⟩
  | 101 => ⟨S36352x1024, .f32⟩
  | 102 => ⟨S36352x1024, .f32⟩
  | 103 => ⟨S36352x1024, .f32⟩
  | 104 => ⟨S36352x1024, .f32⟩
  | 105 => ⟨S1x1024x3584, .f32⟩
  | 106 => ⟨S1024x3584, .f32⟩
  | 107 => ⟨S36352x3584, .f32⟩
  | 108 => ⟨S36352x1, .f32⟩
  | 109 => ⟨S36352x3584, .f32⟩
  | 110 => ⟨S36352x3584, .f32⟩
  | 111 => ⟨S_, .f32⟩
  | 112 => ⟨S36352x3584, .f32⟩
  | 113 => ⟨S36352x3584, .f32⟩
  | 114 => ⟨S_, .f32⟩
  | 115 => ⟨S36352x3584, .f32⟩
  | 116 => ⟨S36352x3584, .f32⟩
  | 117 => ⟨S36352x3584, .f32⟩
  | 118 => ⟨S1x1024x3584, .f32⟩
  | 119 => ⟨S1024x3584, .f32⟩
  | 120 => ⟨S36352x3584, .f32⟩
  | 121 => ⟨S36352x3584, .f32⟩
  | 122 => ⟨S1x3584x1024, .f32⟩
  | 123 => ⟨S3584x1024, .f32⟩
  | 124 => ⟨S36352x1024, .f32⟩
  | 125 => ⟨S36352x1024, .f32⟩
  | 126 => ⟨S36352x1024, .f32⟩
  | 127 => ⟨S36352x1024, .f32⟩
  | _ => ⟨S16384x2, .i32⟩

abbrev hbmTy (i : Nat) : BufTy := match i / 128 with
  | 0 => hbmTy0_0 i
  | 1 => hbmTy0_1 i
  | _ => ⟨S16384x2, .i32⟩

abbrev bufTy : (tb : Table) → Fin (tcTables nBuf tb) → BufTy
  | .hbm, ⟨i, _⟩ => hbmTy i
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v18 : Ref sig .tc := ⟨.hbm, 44, rfl⟩
abbrev main_c_4 : Ref sig .tc := ⟨.hbm, 45, rfl⟩
abbrev main_v19 : Ref sig .tc := ⟨.hbm, 46, rfl⟩
abbrev main_v20 : Ref sig .tc := ⟨.hbm, 47, rfl⟩
abbrev main_call1_call0_c : Ref sig .tc := ⟨.hbm, 48, rfl⟩
abbrev main_call1_call0_v0 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_call2_v0 : Ref sig .tc := ⟨.hbm, 76, rfl⟩
abbrev main_call2_v1 : Ref sig .tc := ⟨.hbm, 77, rfl⟩
abbrev main_call2_cst : Ref sig .tc := ⟨.hbm, 78, rfl⟩
abbrev main_call2_v2 : Ref sig .tc := ⟨.hbm, 79, rfl⟩
abbrev main_call2_v3 : Ref sig .tc := ⟨.hbm, 80, rfl⟩
abbrev main_call2_cst_0 : Ref sig .tc := ⟨.hbm, 81, rfl⟩
abbrev main_call2_v4 : Ref sig .tc := ⟨.hbm, 82, rfl⟩
abbrev main_call2_v5 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_call3_v0 : Ref sig .tc := ⟨.hbm, 99, rfl⟩
abbrev main_call3_v1 : Ref sig .tc := ⟨.hbm, 100, rfl⟩
abbrev main_call3_cst : Ref sig .tc := ⟨.hbm, 101, rfl⟩
abbrev main_call3_v2 : Ref sig .tc := ⟨.hbm, 102, rfl⟩
abbrev main_call3_v3 : Ref sig .tc := ⟨.hbm, 103, rfl⟩
abbrev main_call3_cst_0 : Ref sig .tc := ⟨.hbm, 104, rfl⟩
abbrev main_call3_v4 : Ref sig .tc := ⟨.hbm, 105, rfl⟩
abbrev main_call3_v5 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_call4_v0 : Ref sig .tc := ⟨.hbm, 122, rfl⟩
abbrev main_call4_v1 : Ref sig .tc := ⟨.hbm, 123, rfl⟩
abbrev main_call4_cst : Ref sig .tc := ⟨.hbm, 124, rfl⟩
abbrev main_call4_v2 : Ref sig .tc := ⟨.hbm, 125, rfl⟩
abbrev main_call4_v3 : Ref sig .tc := ⟨.hbm, 126, rfl⟩
abbrev main_call4_cst_0 : Ref sig .tc := ⟨.hbm, 127, rfl⟩
abbrev main_call4_v4 : Ref sig .tc := ⟨.hbm, 128, rfl⟩
abbrev main_call4_v5 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_call5_v0 : Ref sig .tc := ⟨.hbm, 145, rfl⟩
abbrev main_call5_v1 : Ref sig .tc := ⟨.hbm, 146, rfl⟩
abbrev main_call5_cst : Ref sig .tc := ⟨.hbm, 147, rfl⟩
abbrev main_call5_v2 : Ref sig .tc := ⟨.hbm, 148, rfl⟩
abbrev main_call5_v3 : Ref sig .tc := ⟨.hbm, 149, rfl⟩
abbrev main_call5_cst_0 : Ref sig .tc := ⟨.hbm, 150, rfl⟩
abbrev main_call5_v4 : Ref sig .tc := ⟨.hbm, 151, rfl⟩
abbrev main_call5_v5 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_call6_v0 : Ref sig .tc := ⟨.hbm, 168, rfl⟩
abbrev main_call6_v1 : Ref sig .tc := ⟨.hbm, 169, rfl⟩
abbrev main_call6_cst : Ref sig .tc := ⟨.hbm, 170, rfl⟩
abbrev main_call6_v2 : Ref sig .tc := ⟨.hbm, 171, rfl⟩
abbrev main_call6_v3 : Ref sig .tc := ⟨.hbm, 172, rfl⟩
abbrev main_call6_cst_0 : Ref sig .tc := ⟨.hbm, 173, rfl⟩
abbrev main_call6_v4 : Ref sig .tc := ⟨.hbm, 174, rfl⟩
abbrev main_call6_v5 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_call7_v0 : Ref sig .tc := ⟨.hbm, 191, rfl⟩
abbrev main_call7_v1 : Ref sig .tc := ⟨.hbm, 192, rfl⟩
abbrev main_call7_cst : Ref sig .tc := ⟨.hbm, 193, rfl⟩
abbrev main_call7_v2 : Ref sig .tc := ⟨.hbm, 194, rfl⟩
abbrev main_call7_v3 : Ref sig .tc := ⟨.hbm, 195, rfl⟩
abbrev main_call7_cst_0 : Ref sig .tc := ⟨.hbm, 196, rfl⟩
abbrev main_call7_v4 : Ref sig .tc := ⟨.hbm, 197, rfl⟩
abbrev main_call7_v5 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_call8_v0 : Ref sig .tc := ⟨.hbm, 214, rfl⟩
abbrev main_call8_v1 : Ref sig .tc := ⟨.hbm, 215, rfl⟩
abbrev main_call8_cst : Ref sig .tc := ⟨.hbm, 216, rfl⟩
abbrev main_call8_v2 : Ref sig .tc := ⟨.hbm, 217, rfl⟩
abbrev main_call8_v3 : Ref sig .tc := ⟨.hbm, 218, rfl⟩
abbrev main_call8_cst_0 : Ref sig .tc := ⟨.hbm, 219, rfl⟩
abbrev main_call8_v4 : Ref sig .tc := ⟨.hbm, 220, rfl⟩
abbrev main_call8_v5 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_call9_v0 : Ref sig .tc := ⟨.hbm, 237, rfl⟩
abbrev main_call9_v1 : Ref sig .tc := ⟨.hbm, 238, rfl⟩
abbrev main_call9_cst : Ref sig .tc := ⟨.hbm, 239, rfl⟩
abbrev main_call9_v2 : Ref sig .tc := ⟨.hbm, 240, rfl⟩
abbrev main_call9_v3 : Ref sig .tc := ⟨.hbm, 241, rfl⟩
abbrev main_call9_cst_0 : Ref sig .tc := ⟨.hbm, 242, rfl⟩
abbrev main_call9_v4 : Ref sig .tc := ⟨.hbm, 243, rfl⟩
abbrev main_call9_v5 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S1536x1024 : Shape := ⟨2, ![1536, 1024]⟩
abbrev S512x1536 : Shape := ⟨2, ![512, 1536]⟩
abbrev S1024x1280 : Shape := ⟨2, ![1024, 1280]⟩
abbrev S1280x1024 : Shape := ⟨2, ![1280, 1024]⟩
abbrev S512x1280 : Shape := ⟨2, ![512, 1280]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S4x1024x4864 : Shape := ⟨3, ![4, 1024, 4864]⟩
abbrev S4x512x1024 : Shape := ⟨3, ![4, 512, 1024]⟩
abbrev S4x1024x1024 : Shape := ⟨3, ![4, 1024, 1024]⟩
abbrev S2x1024x2816 : Shape := ⟨3, ![2, 1024, 2816]⟩
abbrev S2x2816x1024 : Shape := ⟨3, ![2, 2816, 1024]⟩
abbrev S2048x1024 : Shape := ⟨2, ![2048, 1024]⟩
abbrev S4096x1024 : Shape := ⟨2, ![4096, 1024]⟩
abbrev S2048x2816 : Shape := ⟨2, ![2048, 2816]⟩
abbrev S5632x1024 : Shape := ⟨2, ![5632, 1024]⟩
abbrev S4096x4864 : Shape := ⟨2, ![4096, 4864]⟩
abbrev S1x1024 : Shape := ⟨2, ![1, 1024]⟩
abbrev S1x1024x4864 : Shape := ⟨3, ![1, 1024, 4864]⟩
abbrev S1024x4864 : Shape := ⟨2, ![1024, 4864]⟩
abbrev S16384x512 : Shape := ⟨2, ![16384, 512]⟩
abbrev S16384x1536 : Shape := ⟨2, ![16384, 1536]⟩
abbrev S16384x2048 : Shape := ⟨2, ![16384, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S16x1024 : Shape := ⟨2, ![16, 1024]⟩
abbrev S32x1024 : Shape := ⟨2, ![32, 1024]⟩
abbrev S32x2816 : Shape := ⟨2, ![32, 2816]⟩
abbrev S176x1024 : Shape := ⟨2, ![176, 1024]⟩
abbrev S32x4864 : Shape := ⟨2, ![32, 4864]⟩
abbrev S512x512 : Shape := ⟨2, ![512, 512]⟩
abbrev S512x1536 : Shape := ⟨2, ![512, 1536]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S512x256 : Shape := ⟨2, ![512, 256]⟩
abbrev S512x128 : Shape := ⟨2, ![512, 128]⟩
abbrev S512x64 : Shape := ⟨2, ![512, 64]⟩

abbrev nBuf : Space → Nat
  | .hbm => 35
  | .vmem => 46
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x4864, .f32⟩
  | .hbm, ⟨3, _⟩ => ⟨S4x512x1024, .f32⟩
  | .hbm, ⟨4, _⟩ => ⟨S4x512x1024, .f32⟩
  | .hbm, ⟨5, _⟩ => ⟨S4x1024x1024, .f32⟩
  | .hbm, ⟨6, _⟩ => ⟨S4x1024x1024, .f32⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S2048x1024, .f32⟩
  | .hbm, ⟨11, _⟩ => ⟨S2048x1024, .f32⟩
  | .hbm, ⟨12, _⟩ => ⟨S4096x1024, .f32⟩
  | .hbm, ⟨13, _⟩ => ⟨S4096x1024, .f32⟩
  | .hbm, ⟨14, _⟩ => ⟨S2048x2816, .f32⟩
  | .hbm, ⟨15, _⟩ => ⟨S2048x2816, .f32⟩
  | .hbm, ⟨16, _⟩ => ⟨S5632x1024, .f32⟩
  | .hbm, ⟨17, _⟩ => ⟨S4096x4864, .f32⟩
  | .hbm, ⟨18, _⟩ => ⟨S1x1024, .f32⟩
  | .hbm, ⟨19, _⟩ => ⟨S1x1024x4864, .f32⟩
  | .hbm, ⟨20, _⟩ => ⟨S1024x4864, .f32⟩
  | .hbm, ⟨21, _⟩ => ⟨S1024x4864, .bf16⟩
  | .hbm, ⟨22, _⟩ => ⟨S16384x512, .bf16⟩
  | .hbm, ⟨23, _⟩ => ⟨S16384x512, .bf16⟩
  | .hbm, ⟨24, _⟩ => ⟨S16384x1536, .bf16⟩
  | .hbm, ⟨25, _⟩ => ⟨S16384x512, .f32⟩
  | .hbm, ⟨26, _⟩ => ⟨S16384x2048, .bf16⟩
  | .hbm, ⟨27, _⟩ => ⟨S512x1024, .bf16⟩
  | .hbm, ⟨28, _⟩ => ⟨S512x1024, .bf16⟩
  | .hbm, ⟨29, _⟩ => ⟨S1024x1024, .bf16⟩
  | .hbm, ⟨30, _⟩ => ⟨S1024x1024, .bf16⟩
  | .hbm, ⟨31, _⟩ => ⟨S1024x2816, .bf16⟩
  | .hbm, ⟨32, _⟩ => ⟨S1024x2816, .bf16⟩
  | .hbm, ⟨33, _⟩ => ⟨S2816x1024, .bf16⟩
  | .hbm, ⟨34, _⟩ => ⟨S1024x4864, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4864, .bf16⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x2816, .f32⟩
  | .local _ .vmem, ⟨13, _⟩ => ⟨S32x2816, .f32⟩
  | .local _ .vmem, ⟨14, _⟩ => ⟨S32x2816, .f32⟩
  | .local _ .vmem, ⟨15, _⟩ => ⟨S32x2816, .f32⟩
  | .local _ .vmem, ⟨16, _⟩ => ⟨S176x1024, .f32⟩
  | .local _ .vmem, ⟨17, _⟩ => ⟨S176x1024, .f32⟩
  | .local _ .vmem, ⟨18, _⟩ => ⟨S32x4864, .f32⟩
  | .local _ .vmem, ⟨19, _⟩ => ⟨S32x4864, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x1536, .bf16⟩
  | .local _ .vmem, ⟨25, _⟩ => ⟨S512x1536, .bf16⟩
  | .local _ .vmem, ⟨26, _⟩ => ⟨S512x512, .f32⟩
  | .local _ .vmem, ⟨27, _⟩ => ⟨S512x512, .f32⟩
  | .local _ .vmem, ⟨28, _⟩ => ⟨S512x2048, .bf16⟩
  | .local _ .vmem, ⟨29, _⟩ => ⟨S512x2048, .bf16⟩
  | .local _ .vmem, ⟨30, _⟩ => ⟨S16x1024, .bf16⟩
  | .local _ .vmem, ⟨31, _⟩ => ⟨S16x1024, .bf16⟩
  | .local _ .vmem, ⟨32, _⟩ => ⟨S16x1024, .bf16⟩
  | .local _ .vmem, ⟨33, _⟩ => ⟨S16x1024, .bf16⟩
  | .local _ .vmem, ⟨34, _⟩ => ⟨S32x1024, .bf16⟩
  | .local _ .vmem, ⟨35, _⟩ => ⟨S32x1024, .bf16⟩
  | .local _ .vmem, ⟨36, _⟩ => ⟨S32x1024, .bf16⟩
  | .local _ .vmem, ⟨37, _⟩ => ⟨S32x1024, .bf16⟩
  | .local _ .vmem, ⟨38, _⟩ => ⟨S32x2816, .bf16⟩
  | .local _ .vmem, ⟨39, _⟩ => ⟨S32x2816, .bf16⟩
  | .local _ .vmem, ⟨40, _⟩ => ⟨S32x2816, .bf16⟩
  | .local _ .vmem, ⟨41, _⟩ => ⟨S32x2816, .bf16⟩
  | .local _ .vmem, ⟨42, _⟩ => ⟨S176x1024, .bf16⟩
  | .local _ .vmem, ⟨43, _⟩ => ⟨S176x1024, .bf16⟩
  | .local _ .vmem, ⟨44, _⟩ => ⟨S32x4864, .bf16⟩
  | .local _ .vmem, ⟨45, _⟩ => ⟨S32x4864, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v12_5 : Ref sig .tc := ⟨.hbm, 27, rfl⟩
abbrev main_v12_6 : Ref sig .tc := ⟨.hbm, 28, rfl⟩
abbrev main_v12_7 : Ref sig .tc := ⟨.hbm, 29, rfl⟩
abbrev main_v12_8 : Ref sig .tc := ⟨.hbm, 30, rfl⟩
abbrev main_v12_9 : Ref sig .tc := ⟨.hbm, 31, rfl⟩
abbrev main_v12_10 : Ref sig .tc := ⟨.hbm, 32, rfl⟩
abbrev main_v12_11 : Ref sig .tc := ⟨.hbm, 33, rfl⟩
abbrev main_v12_12 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43
abbrev cc0_sem23_0 : DmaSem sig := 44
abbrev cc0_sem23_1 : DmaSem sig := 45

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let v1 : BitVec 32 := Scalar.addi c0_i32 v0
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c32_i32 : BitVec 32 := 32#32
  let v1 : BitVec 32 := Scalar.addi c32_i32 v0
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x4864 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S16x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x2816 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x2816 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S176x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S32x4864 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference3Ideal.lean ====
abbrev S16384x1024 : Shape := ⟨2, ![16384, 1024]⟩
abbrev S1024 : Shape := ⟨1, ![1024]⟩
abbrev S4x1024x4864 : Shape := ⟨3, ![4, 1024, 4864]⟩
abbrev S4x512x1024 : Shape := ⟨3, ![4, 512, 1024]⟩
abbrev S4x1024x1024 : Shape := ⟨3, ![4, 1024, 1024]⟩
abbrev S2x1024x2816 : Shape := ⟨3, ![2, 1024, 2816]⟩
abbrev S2x2816x1024 : Shape := ⟨3, ![2, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x4864 : Shape := ⟨3, ![1, 1024, 4864]⟩
abbrev S1024x4864 : Shape := ⟨2, ![1024, 4864]⟩
abbrev S16384x4864 : Shape := ⟨2, ![16384, 4864]⟩
abbrev S16384x512 : Shape := ⟨2, ![16384, 512]⟩
abbrev S16384x128 : Shape := ⟨2, ![16384, 128]⟩
abbrev S16384x64 : Shape := ⟨2, ![16384, 64]⟩
abbrev S16384x1536 : Shape := ⟨2, ![16384, 1536]⟩
abbrev S16384x2048 : Shape := ⟨2, ![16384, 2048]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1024x4864, .f32⟩
  | .hbm, ⟨3, _⟩ => ⟨S4x512x1024, .f32⟩
  | .hbm, ⟨4, _⟩ => ⟨S4x512x1024, .f32⟩
  | .hbm, ⟨5, _⟩ => ⟨S4x1024x1024, .f32⟩
  | .hbm, ⟨6, _⟩ => ⟨S4x1024x1024, .f32⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S1x1024x4864, .f32⟩
  | .hbm, ⟨27, _⟩ => ⟨S1024x4864, .f32⟩
  | .hbm, ⟨28, _⟩ => ⟨S16384x4864, .f32⟩
  | .hbm, ⟨29, _⟩ => ⟨S16384x512, .f32⟩
  | .hbm, ⟨30, _⟩ => ⟨S16384x128, .f32⟩
  | .hbm, ⟨31, _⟩ => ⟨S16384x128, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S16384x512, .bf16⟩
  | .hbm, ⟨42, _⟩ => ⟨S16384x64, .f32⟩
  | .hbm, ⟨43, _⟩ => ⟨S16384x64, .f32⟩
  | .hbm, ⟨44, _⟩ => ⟨S16384x128, .f32⟩
  | .hbm, ⟨45, _⟩ => ⟨S16384x64, .f32⟩
  | .hbm, ⟨46, _⟩ => ⟨S16384x64, .f32⟩
  | .hbm, ⟨47, _⟩ => ⟨S16384x128, .f32⟩
  | .hbm, ⟨48, _⟩ => ⟨S16384x512, .f32⟩
  | .hbm, ⟨49, _⟩ => ⟨S16384x512, .bf16⟩
  | .hbm, ⟨50, _⟩ => ⟨S16384x1536, .f32⟩
  | .hbm, ⟨51, _⟩ => ⟨S16384x1536, .bf16⟩
  | .hbm, ⟨52, _⟩ => ⟨S16384x2048, .f32⟩
  | .hbm, ⟨53, _⟩ => ⟨S16384x2048, .bf16⟩
  | .hbm, ⟨54, _⟩ => ⟨S1x512x1024, .f32⟩
  | .hbm, ⟨55, _⟩ => ⟨S512x1024, .f32⟩
  | .hbm, ⟨56, _⟩ => ⟨S512x1024, .bf16⟩
  | .hbm, ⟨57, _⟩ => ⟨S1x512x1024, .f32⟩
  | .hbm, ⟨58, _⟩ => ⟨S512x1024, .f32⟩
  | .hbm, ⟨59, _⟩ => ⟨S512x1024, .bf16⟩
  | .hbm, ⟨60, _⟩ => ⟨S1x1024x1024, .f32⟩
  | .hbm, ⟨61, _⟩ => ⟨S1024x1024, .f32⟩
  | .hbm, ⟨62, _⟩ => ⟨S1024x1024, .bf16⟩
  | .hbm, ⟨63, _⟩ => ⟨S1x1024x1024, .f32⟩
  | .hbm, ⟨64, _⟩ => ⟨S1024x1024, .f32⟩
  | .hbm, ⟨65, _⟩ => ⟨S1024x1024, .bf16⟩
  | .hbm, ⟨66, _⟩ => ⟨S1x1024x2816, .f32⟩
  | .hbm, ⟨67, _⟩ => ⟨S1024x2816, .f32⟩
  | .hbm, ⟨68, _⟩ => ⟨S1024x2816, .bf16⟩
  | .hbm, ⟨69, _⟩ => ⟨S1x1024x2816, .f32⟩
  | .hbm, ⟨70, _⟩ => ⟨S1024x2816, .f32⟩
  | .hbm, ⟨71, _⟩ => ⟨S1024x2816, .bf16⟩
  | .hbm, ⟨72, _⟩ => ⟨S1x2816x1024, .f32⟩
  | .hbm, ⟨73, _⟩ => ⟨S2816x1024, .f32⟩
  | .hbm, ⟨74, _⟩ => ⟨S2816x1024, .bf16⟩
  | .hbm, ⟨75, _⟩ => ⟨S1x1024x4864, .f32⟩
  | .hbm, ⟨76, _⟩ => ⟨S1024x4864, .f32⟩
  | .hbm, ⟨77, _⟩ => ⟨S1024x4864, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== Kernel4.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x1024, .bf16⟩
  | .hbm, ⟨4, _⟩ => ⟨S256x1024, .f32⟩
  | .hbm, ⟨5, _⟩ => ⟨S1x1024, .f32⟩
  | .hbm, ⟨6, _⟩ => ⟨S256x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x1024, .bf16⟩
  | .hbm, ⟨4, _⟩ => ⟨S256x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel5.lean ====
abbrev S16384x1024 : Shape := ⟨2, ![16384, 1024]⟩
abbrev S32768x1024 : Shape := ⟨2, ![32768, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S16384x2048 : Shape := ⟨2, ![16384, 2048]⟩
abbrev S1x1024 : Shape := ⟨2, ![1, 1024]⟩
abbrev S512x1024 : Shape := ⟨2, ![512, 1024]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S32768x1024, .f32⟩
  | .hbm, ⟨2, _⟩ => ⟨S16384x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S16384x2048, .f32⟩
  | .hbm, ⟨8, _⟩ => ⟨S1x1024, .f32⟩
  | .hbm, ⟨9, _⟩ => ⟨S1024x1024, .bf16⟩
  | .hbm, ⟨10, _⟩ => ⟨S256x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16384x1024 : Shape := ⟨2, ![16384, 1024]⟩
abbrev S32768x1024 : Shape := ⟨2, ![32768, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S16384x2x1024 : Shape := ⟨3, ![16384, 2, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S32768x1024, .f32⟩
  | .hbm, ⟨2, _⟩ => ⟨S16384x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S16384x2x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Kernel6.lean ====
abbrev S16384x512 : Shape := ⟨2, ![16384, 512]⟩
abbrev S16384x1024 : Shape := ⟨2, ![16384, 1024]⟩
abbrev S512x1024 : Shape := ⟨2, ![512, 1024]⟩
abbrev S1024x1024 : Shape := ⟨2, ![1024, 1024]⟩
abbrev S512x512 : Shape := ⟨2, ![512, 512]⟩

abbrev nBuf : Space → Nat
  | .hbm => 12
  | .vmem => 15
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S16384x512 : Shape := ⟨2, ![16384, 512]⟩
abbrev S16384x1024 : Shape := ⟨2, ![16384, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Kernel7.lean ====
abbrev S16384x512 : Shape := ⟨2, ![16384, 512]⟩
abbrev S16384x128 : Shape := ⟨2, ![16384, 128]⟩
abbrev S8 : Shape := ⟨1, ![8]⟩
abbrev S8x128x256 : Shape := ⟨3, ![8, 128, 256]⟩
abbrev S128x512 : Shape := ⟨2, ![128, 512]⟩
abbrev S128x128 : Shape := ⟨2, ![128, 128]⟩
abbrev S128x256 : Shape := ⟨2, ![128, 256]⟩
abbrev S256x128 : Shape := ⟨2, ![256, 128]⟩
abbrev S128x64 : Shape := ⟨2, ![128, 64]⟩
abbrev S256x64 : Shape := ⟨2, ![256, 64]⟩
abbrev S1x128x256 : Shape := ⟨3, ![1, 128, 256]⟩
abbrev S1 : Shape := ⟨1, ![1]⟩
abbrev S128 : Shape := ⟨1, ![128]⟩
abbrev S128x1 : Shape := ⟨2, ![128, 1]⟩

abbrev nBuf : Space → Nat
  | .hbm => 6
  | .vmem => 13
  | .smem => 1
  | _ => 0

abbrev bufTy : (tb : Table) → Fin (tcTables nBuf tb) → BufTy
  | .hbm, ⟨0, _⟩ => ⟨S16384x512, .bf16⟩
  | .hbm, ⟨1, _⟩ => ⟨S16384x128, .bf16⟩
  | .hbm, ⟨2, _⟩ => ⟨S16384x128, .bf16⟩
  | .hbm, ⟨3, _⟩ => ⟨S8, .f32⟩
  | .hbm, ⟨4, _⟩ => ⟨S8x128x256, .f32⟩
  | .hbm, ⟨5, _⟩ => ⟨S16384x512, .bf16⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S8x128x256, .f32⟩
  | .local _ .vmem, ⟨11, _⟩ => ⟨S128x512, .bf16⟩
  | .local _ .vmem, ⟨12, _⟩ => ⟨S128x512, .bf16⟩
  | .local _ .smem, ⟨0, _⟩ => ⟨S8, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel7Ideal.lean ====
variable {F : FTy → Type} [FloatOps F] [Named F]
def κ : String → Option EReal := fun
  | "mask" => some ⊥
  | _ => none
-- ==== Reference7Ideal.lean ====
abbrev S16384x512 : Shape := ⟨2, ![16384, 512]⟩
abbrev S16384x128 : Shape := ⟨2, ![16384, 128]⟩
abbrev S8 : Shape := ⟨1, ![8]⟩
abbrev S8x128x256 : Shape := ⟨3, ![8, 128, 256]⟩
abbrev S4x32x128x8x64 : Shape := ⟨5, ![4, 32, 128, 8, 64]⟩
abbrev S4x4096x2x64 : Shape := ⟨4, ![4, 4096, 2, 64]⟩
abbrev S_ : Shape := ⟨0, ![]⟩
abbrev S4x4224x2x64 : Shape := ⟨4, ![4, 4224, 2, 64]⟩
abbrev S4x33x128x2x64 : Shape := ⟨5, ![4, 33, 128, 2, 64]⟩
abbrev S4x32x128x2x64 : Shape := ⟨5, ![4, 32, 128, 2, 64]⟩
abbrev S4x32x256x2x64 : Shape := ⟨5, ![4, 32, 256, 2, 64]⟩
abbrev S4x32x256x2x4x64 : Shape := ⟨6, ![4, 32, 256, 2, 4, 64]⟩
abbrev S4x32x256x8x64 : Shape := ⟨5, ![4, 32, 256, 8, 64]⟩
abbrev S4x32x8x128x256 : Shape := ⟨5, ![4, 32, 8, 128, 256]⟩
abbrev S1x1x8x128x256 : Shape := ⟨5, ![1, 1, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x128x256 : Shape := ⟨5, ![1, 32, 1, 128, 256]⟩
abbrev S1x1x8x1x1 : Shape := ⟨5, ![1, 1, 8, 1, 1]⟩
abbrev S4x32x8x128 : Shape := ⟨4, ![4, 32, 8, 128]⟩
abbrev S4x32x8x128x1 : Shape := ⟨5, ![4, 32, 8, 128, 1]⟩
abbrev S4x32x8x128x64 : Shape := ⟨5, ![4, 32, 8, 128, 64]⟩

abbrev nBuf : Space → Nat
  | .hbm => 100
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x128, .bf16⟩
  | .hbm, ⟨2, _⟩ => ⟨S16384x128, .bf16⟩
  | .hbm, ⟨3, _⟩ => ⟨S8, .f32⟩
  | .hbm, ⟨4, _⟩ => ⟨S8x128x256, .f32⟩
  | .hbm, ⟨5, _⟩ => ⟨S16384x512, .f32⟩
  | .hbm, ⟨6, _⟩ => ⟨S16384x128, .f32⟩
  | .hbm, ⟨7, _⟩ => ⟨S16384x128, .f32⟩
  | .hbm, ⟨8, _⟩ => ⟨S4x32x128x8x64, .f32⟩
  | .hbm, ⟨9, _⟩ => ⟨S4x4096x2x64, .f32⟩
  | .hbm, ⟨10, _⟩ => ⟨S_, .i32⟩
  | .hbm, ⟨11, _⟩ => ⟨S_, .f32⟩
  | .hbm, ⟨12, _⟩ => ⟨S4x4224x2x64, .f32⟩
  | .hbm, ⟨13, _⟩ => ⟨S4x33x128x2x64, .f32⟩
  | .hbm, ⟨14, _⟩ => ⟨S4x32x128x2x64, .f32⟩
  | .hbm, ⟨15, _⟩ => ⟨S4x32x128x2x64, .f32⟩
  | .hbm, ⟨16, _⟩ => ⟨S4x32x256x2x64, .f32⟩
  | .hbm, ⟨17, _⟩ => ⟨S4x32x256x2x4x64, .f32⟩
  | .hbm, ⟨18, _⟩ => ⟨S4x32x256x8x64, .f32⟩
  | .hbm, ⟨19, _⟩ => ⟨S4x4096x2x64, .f32⟩
  | .hbm, ⟨20, _⟩ => ⟨S_, .i32⟩
  | .hbm, ⟨21, _⟩ => ⟨S_, .f32⟩
  | .hbm, ⟨22, _⟩ => ⟨S4x4224x2x64, .f32⟩
  | .hbm, ⟨23, _⟩ => ⟨S4x33x128x2x64, .f32⟩
  | .hbm, ⟨24, _⟩ => ⟨S4x32x128x2x64, .f32⟩
  | .hbm, ⟨25, _⟩ => ⟨S4x32x128x2x64, .f32⟩
  | .hbm, ⟨26, _⟩ => ⟨S4x32x256x2x64, .f32⟩
  | .hbm, ⟨27, _⟩ => ⟨S4x32x256x2x4x64, .f32⟩
  | .hbm, ⟨28, _⟩ => ⟨S4x32x256x8x64, .f32⟩
  | .hbm, ⟨29, _⟩ => ⟨S4x32x8x128x256, .f32⟩
  | .hbm, ⟨30, _⟩ => ⟨S_, .f32⟩
  | .hbm, ⟨31, _⟩ => ⟨S4x32x8x128x256, .f32⟩
  | .hbm, ⟨32, _⟩ => ⟨S4x32x8x128x256, .f32⟩
  | .hbm, ⟨33, _⟩ => ⟨S1x1x8x128x256, .f32⟩
  | .hbm, ⟨34, _⟩ => ⟨S4x32x8x128x256, .f32⟩
  | .hbm, ⟨35, _⟩ => ⟨S4x32x8x128x256, .f32⟩
  | .hbm, ⟨36, _⟩ => ⟨S128, .i32⟩
  | .hbm, ⟨37, _⟩ => ⟨S128x1, .i32⟩
  | .hbm, ⟨38, _⟩ => ⟨S256, .i32⟩
  | .hbm, ⟨39, _⟩ => ⟨S1x256, .i32⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S32, .i32⟩
  | .hbm, ⟨47, _⟩ => ⟨S32x1x1, .i32⟩
  | .hbm, ⟨48, _⟩ => ⟨S_, .i32⟩
  | .hbm, ⟨49, _⟩ => ⟨S32x1x1, .i32⟩
  | .hbm, ⟨50, _⟩ => ⟨S32x1x1, .i32⟩
  | .hbm, ⟨51, _⟩ => ⟨S_, .i32⟩
  | .hbm, ⟨52, _⟩ => ⟨S32x1x1, .i32⟩
  | .hbm, ⟨53, _⟩ => ⟨S32x1x1, .i32⟩
  | .hbm, ⟨54, _⟩ => ⟨S1x1x256, .i32⟩
  | .hbm, ⟨55, _⟩ => ⟨S32x1x256, .i32⟩
  | .hbm, ⟨56, _⟩ => ⟨S32x1x256, .i32⟩
  | .hbm, ⟨57, _⟩ => ⟨S32x1x256, .i32⟩
  | .hbm, ⟨58, _⟩ => ⟨S_, .i32⟩
  | .hbm, ⟨59, _⟩ => ⟨S128x256, .i32⟩
  | .hbm, ⟨60, _⟩ => ⟨S128x256, .i1⟩
  | .hbm, ⟨61, _⟩ => ⟨S_, .i32⟩
  | .hbm, ⟨62, _⟩ => ⟨S128x256, .i32⟩
  | .hbm, ⟨63, _⟩ => ⟨S128x256, .i1⟩
  | .hbm, ⟨64, _⟩ => ⟨S128x256, .i1⟩
  | .hbm, ⟨65, _⟩ => ⟨S_, .i32⟩
  | .hbm, ⟨66, _⟩ => ⟨S32x1x256, .i32⟩
  | .hbm, ⟨67, _⟩ => ⟨S32x1x256, .i1⟩
  | .hbm, ⟨68, _⟩ => ⟨S1x128x256, .i1⟩
  | .hbm, ⟨69, _⟩ => ⟨S32x128x256, .i1⟩
  | .hbm, ⟨70, _⟩ => ⟨S32x128x256, .i1⟩
  | .hbm, ⟨71, _⟩ => ⟨S32x128x256, .i1⟩
  | .hbm, ⟨72, _⟩ => ⟨S1x32x1x128x256, .i1⟩
  | .hbm, ⟨73, _⟩ => ⟨S_, .f32⟩
  | .hbm, ⟨74, _⟩ => ⟨S_, .f32⟩
  | .hbm, ⟨75, _⟩ => ⟨S4x32x8x128x256, .i1⟩
  | .hbm, ⟨76, _⟩ => ⟨S4x32x8x128x256, .f32⟩
  | .hbm, ⟨77, _⟩ => ⟨S4x32x8x128x256, .f32⟩
  | .hbm, ⟨78, _⟩ => ⟨S1x1x8x1x1, .f32⟩
  | .hbm, ⟨79, _⟩ => ⟨S_, .f32⟩
  | .hbm, ⟨80, _⟩ => ⟨S4x32x8x128, .f32⟩
  | .hbm, ⟨81, _⟩ => ⟨S4x32x8x128x1, .f32⟩
  | .hbm, ⟨82, _⟩ => ⟨S4x32x8x128x1, .f32⟩
  | .hbm, ⟨83, _⟩ => ⟨S4x32x8x128x1, .f32⟩
  | .hbm, ⟨84, _⟩ => ⟨S4x32x8x128x256, .f32⟩
  | .hbm, ⟨85, _⟩ => ⟨S4x32x8x128x256, .f32⟩
  | .hbm, ⟨86, _⟩ => ⟨S4x32x8x128x256, .f32⟩
  | .hbm, ⟨87, _⟩ => ⟨S_, .f32⟩
  | .hbm, ⟨88, _⟩ => ⟨S4x32x8x128, .f32⟩
  | .hbm, ⟨89, _⟩ => ⟨S4x32x8x128x1, .f32⟩
  | .hbm, ⟨90, _⟩ => ⟨S4x32x8x128x1, .f32⟩
  | .hbm, ⟨91, _⟩ => ⟨S4x32x8x128x1, .f32⟩
  | .hbm, ⟨92, _⟩ => ⟨S4x32x8x128x1, .f32⟩
  | .hbm, ⟨93, _⟩ => ⟨S4x32x8x128x1, .f32⟩
  | .hbm, ⟨94, _⟩ => ⟨S4x32x8x128x64, .f32⟩
  | .hbm, ⟨95, _⟩ => ⟨S4x32x8x128x64, .f32⟩
  | .hbm, ⟨96, _⟩ => ⟨S4x32x8x128x64, .f32⟩
  | .hbm, ⟨97, _⟩ => ⟨S4x32x128x8x64, .f32⟩
  | .hbm, ⟨98, _⟩ => ⟨S16384x512, .f32⟩
  | .hbm, ⟨99, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_2 : Ref sig .tc := ⟨.hbm, 48, rfl⟩
abbrev main_v37 : Ref sig .tc := ⟨.hbm, 49, rfl⟩
abbrev main_v38 : Ref sig .tc := ⟨.hbm, 50, rfl⟩
abbrev main_c_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_4 : Ref sig .tc := ⟨.hbm, 58, rfl⟩
abbrev main_v45 : Ref sig .tc := ⟨.hbm, 59, rfl⟩
abbrev main_v46 : Ref sig .tc := ⟨.hbm, 60, rfl⟩
abbrev main_c_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== Proof.ExpertsKit.lean ====
/-
The experts' call: the set-up its runs share. What each buffer holds when the call begins, the two prefetched
tables (the expert of each tile, and how many tiles are used), the blocks of the windows, and the three branch
conditions of the body in terms of the point and of the number of used tiles.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the call begins -/

/-- The host code before the call, a stretch for each function it goes through. -/
abbrev opss : List (List (HloOp τ sig (Elt F))) :=
  [hostOps0, hostOps0_1, hostOps0_2, hostOps0_3, hostOps0_4, hostOps0_5, hostOps0_6, hostOps0_7]

theorem opss_sub : (opss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub⟩

theorem opss_fresh : (opss : List (List (HloOp τ sig (Elt F)))).Forall fun ops => ops.Forall fun op => op.fresh = ∅ := by
  simp only [List.Forall]
  repeat' constructor

/-- The buffers when the call begins: as the host code before it leaves them. -/
def V (c : Dev nD) (b : Ref sig .tc) : Buf (Elt F) ((c : Thread nD τ).loc b) :=
  StableHlo.after (opss (F := F)).flatten (fun b => m (c, b)) b

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss opss_sub opss_fresh main_chain

/-- The tables' contents. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The number of used tiles, as the second table holds it. -/
abbrev nu : BitVec 32 := (tbl m).atD 1 ![0]

abbrev teM : Memref sig .tc .smem S71 .i32 := Memref.whole main_v49
abbrev hteM : teM.IsWhole := Memref.isWhole_whole _
abbrev nuM : Memref sig .tc .smem S1 .i32 := Memref.whole main_v50
abbrev hnuM : nuM.IsWhole := Memref.isWhole_whole _

abbrev TbBuf (c : Dev nD) {S : Shape} {e : EltTy} (M : Memref sig .tc .smem S e) : Type := Buf (Elt F) (M.view.loc (c : Thread nD τ))
/-- A table as the body may read it: held at half of the full share. -/
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c teM (tbl m 0) ∗ tbPt c nuM (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branch conditions

Point `t` is half `t % 2` of tile `t / 2`. -/

theorem co0 (t : Fin grid0.N) : (grid0.coords t 0).val = t.val / 2 := by
  have ht : t.val < 142 := Nat.lt_of_lt_of_eq t.isLt N_0
  have e0 : (grid0.coords t 0).val = t.val / 2 % 71 := Pipeline.Grid.coords_val t 0 (by decide) rfl
  omega
theorem co1 (t : Fin grid0.N) : (grid0.coords t 1).val = t.val % 2 := by
  have e1 : (grid0.coords t 1).val = t.val / 1 % 2 := Pipeline.Grid.coords_val t 1 (by decide) rfl
  omega

/-- Tile `a` is used, `n` being the number of used tiles. -/
def Used (n : BitVec 32) (a : ℕ) : Prop := (a : ℤ) < n.toInt
instance (n : BitVec 32) (a : ℕ) : Decidable (Used n a) := inferInstanceAs (Decidable (_ < _))

/-- The first branch's condition. -/
abbrev cond1 (i : grid0.Coords) (v0 : BitVec 32) : Prop :=
  Scalar.cmpi .ne (Scalar.extui (Scalar.andi (Scalar.cmpi .eq (BitVec.ofNat 32 (i 1).val) 0#32) (Scalar.cmpi .slt (BitVec.ofNat 32 (i 0).val) v0))) 0#32 = 1#1

theorem slt_ofNat (a : ℕ) (ha : a < 71) (n : BitVec 32) :
    Scalar.cmpi .slt (BitVec.ofNat 32 a) n = if Used n a then 1#1 else 0#1 := by
  have e : (BitVec.ofNat 32 a).toInt = a := by
    rw [BitVec.toInt_eq_toNat_cond, BitVec.toNat_ofNat, Nat.mod_eq_of_lt (by omega)]; split <;> omega
  show IntOp.cmpi .slt _ _ = _
  unfold IntOp.cmpi Used
  simp only [BitVec.slt, e]
  by_cases h : (a : ℤ) < n.toInt <;> simp [h]

theorem hcond1 (t : Fin grid0.N) (n : BitVec 32) : cond1 (grid0.coords t) n ↔ (t.val % 2 = 0 ∧ Used n (t.val / 2)) := by
  have ht : t.val < 142 := Nat.lt_of_lt_of_eq t.isLt N_0
  simp only [cond1, co0, co1]
  rw [slt_ofNat _ (by omega)]
  rcases Nat.mod_two_eq_zero_or_one t.val with h | h <;> rw [h] <;> split_ifs with hu <;> simp [hu] <;> decide
theorem hcond2 (t : Fin grid0.N) (n : BitVec 32) : k0_cond2 (grid0.coords t) n = 1#1 ↔ (t.val % 2 = 1 ∧ Used n (t.val / 2)) := by
  have ht : t.val < 142 := Nat.lt_of_lt_of_eq t.isLt N_0
  simp only [k0_cond2, co0, co1]
  rw [slt_ofNat _ (by omega)]
  rcases Nat.mod_two_eq_zero_or_one t.val with h | h <;> rw [h] <;> split_ifs with hu <;> simp [hu] <;> decide
theorem hcond3 (t : Fin grid0.N) (n : BitVec 32) : k0_cond3 (grid0.coords t) n = 1#1 ↔ (t.val % 2 = 1 ∧ ¬ Used n (t.val / 2)) := by
  have ht : t.val < 142 := Nat.lt_of_lt_of_eq t.isLt N_0
  simp only [k0_cond3, co0, co1]
  rw [slt_ofNat _ (by omega)]
  rcases Nat.mod_two_eq_zero_or_one t.val with h | h <;> rw [h] <;> split_ifs with hu <;> simp [hu] <;> decide

/-! ## Where the output window is written and written back -/

theorem live_0 (hO : Ok m) : ∀ t : Fin (cfgM m hO).N, (cfgM m hO).idle 0 (grid0.coords t) = false :=
  (fun _ => rfl : ∀ t : Fin grid0.N, idle0 (tbl m) 0 (grid0.coords t) = false)
theorem live_1 (hO : Ok m) : ∀ t : Fin (cfgM m hO).N, (cfgM m hO).idle 1 (grid0.coords t) = false :=
  (fun _ => rfl : ∀ t : Fin grid0.N, idle0 (tbl m) 1 (grid0.coords t) = false)
theorem live_2 (hO : Ok m) : ∀ t : Fin (cfgM m hO).N, (cfgM m hO).idle 2 (grid0.coords t) = false :=
  (fun _ => rfl : ∀ t : Fin grid0.N, idle0 (tbl m) 2 (grid0.coords t) = false)
theorem live_3 (hO : Ok m) : ∀ t : Fin (cfgM m hO).N, (cfgM m hO).idle 3 (grid0.coords t) = false :=
  (fun _ => rfl : ∀ t : Fin grid0.N, idle0 (tbl m) 3 (grid0.coords t) = false)

/-- The output's block is written at a tile's second half only. -/
theorem idle_4 (hO : Ok m) (t : Fin (cfgM m hO).N) : (cfgM m hO).idle 4 (grid0.coords t) = decide (t.val % 2 = 0) := by
  show (!(k0_cond2 (grid0.coords t) (nu m) == 1#1) && !(k0_cond3 (grid0.coords t) (nu m) == 1#1)) = _
  have h2 := hcond2 t (nu m)
  have h3 := hcond3 t (nu m)
  rcases Nat.mod_two_eq_zero_or_one t.val with h | h
  · have : ¬ k0_cond2 (grid0.coords t) (nu m) = 1#1 := fun e => by have := h2.mp e; omega
    have h' : ¬ k0_cond3 (grid0.coords t) (nu m) = 1#1 := fun e => by have := h3.mp e; omega
    simp [this, h', h]
  · by_cases hu : Used (nu m) (t.val / 2)
    · simp [h2.mpr ⟨h, hu⟩, h]
    · simp [h3.mpr ⟨h, hu⟩, h]

/-- The output's block is written back at a tile's second half. -/
theorem flush_4 (hO : Ok m) (t : Fin (cfgM m hO).N) : ((cfgM m hO).win 4).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1) t

/-! ## The memrefs the body is handed -/

abbrev ms_0 (hO : Ok m) (t : Fin (cfgM m hO).N) : Memref sig .tc .vmem S512x512 .i32 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x1024x1792 .bf16 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x1024x1792 .bf16 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S1x1792x1024 .bf16 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S512x1024 .f32 := spec0_4.stage ((cfgM m hO).slots t 4)
abbrev hs_4 (hO : Ok m) (t : Fin (cfgM m hO).N) : (ms_4 m hO t).IsWhole := hstage0_4 (((cfgM m hO).slots t 4).cast nbuf0_4)
/-- The unpacked rows and the first half's part of the result, which the body keeps from a tile's first half to its second. -/
abbrev xM : Memref sig .tc .vmem S512x1024 .bf16 := Memref.whole cc0_scratch0
abbrev accM : Memref sig .tc .vmem S512x1024 .f32 := Memref.whole cc0_scratch1

/-- The body at point `t`. -/
abbrev bodyAt (hO : Ok m) (t : Fin (cfgM m hO).N) : Prog (TpuEff nD τ sig (Elt F) Λ₀ .tc) PUnit :=
  cc0_moe_experts (grid0.coords t) teM hteM nuM hnuM (ms_0 m hO t) (hs_0 m hO t) (ms_1 m hO t) (hs_1 m hO t) (ms_2 m hO t) (hs_2 m hO t) (ms_3 m hO t) (hs_3 m hO t) (ms_4 m hO t) (hs_4 m hO t) xM (Memref.isWhole_whole _) accM (Memref.isWhole_whole _)

theorem PhiA_eq (c : Dev nD) :
    (Pipeline.ΦA spec0 c : sProp 𝕄)
      = iprop(iprop((∃ d, owns (c : Thread nD τ) xM fullShare d) ∗ (∃ d, owns (c : Thread nD τ) accM fullShare d)) ∗ (∃ r, prngReg c r)) := by
  unfold Pipeline.ΦA; rw [scopedRest0_eq]; simp only [xM, accM, owns_whole]; try rfl

end Cert.Experts

end
-- ==== Proof.ExpertsIndex.lean ====
/-
The experts' call: the index maps of its windows in closed form, as functions of the two tables, and that every
block they name lies inside its array when each tile names one of the eight experts and at least one tile is used.
-/
module

public import proofs.«01_k».proof.Proof.ExpertsKit

@[expose] public section

set_option maxRecDepth 16384

noncomputable section

namespace Cert.Experts

open Cert.KernelIdeal Cert.KernelIdeal.Gen
open Idealize.ShloMosaic Idealize.ShloMosaic.TcCoe Idealize.ShloMosaic.WordCmp

variable {F : FTy → Type} [FloatOps F] (pf : pre0.Contents (Elt F))

/-- The expert of tile `a`, and the number of used tiles, as the tables hold them. -/
def teOf (a : ℕ) : BitVec 32 := pf.atD 0 ![a]
def nuOf : BitVec 32 := pf.atD 1 ![0]

theorem at_nu (h : ∀ a, (![0] : Fin 1 → Nat) a + S1.size a ≤ S1.size a) (h1 : S1.numel = 1) :
    pf.at 1 (Rect.unit (s := S1) ![0] S1.size h) h1 = nuOf pf := by
  have hd : ∀ a : Fin (pre0.ref 1).ty.shape.rank, (![0] : Fin 1 → Nat) a + 1 ≤ (pre0.ref 1).ty.shape.size a := by
    intro a; fin_cases a; decide
  rw [show nuOf pf = pf 1 (fun a => ⟨(![0] : Fin 1 → Nat) a, hd a⟩) from by unfold nuOf; exact dif_pos hd]
  refine congrArg (pf 1) (funext fun a => Fin.ext ?_)
  fin_cases a
  rfl

theorem at_te (i : grid0.Coords) (h : ∀ a, (k0_off1 i) a + S1.size a ≤ S71.size a) (h1 : S1.numel = 1) :
    pf.at 0 (Rect.unit (s := S71) (k0_off1 i) S1.size h) h1 = teOf pf (i 0).val := by
  have hi : (i 0).val < 71 := (i 0).isLt
  have hd : ∀ a : Fin (pre0.ref 0).ty.shape.rank, (![(i 0).val] : Fin 1 → Nat) a + 1 ≤ (pre0.ref 0).ty.shape.size a := by
    intro a; fin_cases a; exact hi
  rw [show teOf pf (i 0).val = pf 0 (fun a => ⟨(![(i 0).val] : Fin 1 → Nat) a, hd a⟩) from dif_pos hd]
  refine congrArg (pf 0) (funext fun a => Fin.ext ?_)
  fin_cases a
  show (BitVec.ofNat 32 (i 0).val).toNat + 1 * 0 = (i 0).val
  rw [toNat_ofNat_of_lt (by omega)]; omega

/-- The half of the experts' width a point works on: its own in a used tile, else the second. -/
def half (i : grid0.Coords) : ℕ := if Used (nuOf pf) (i 0).val then (i 1).val else 1

theorem half_lt (i : grid0.Coords) : half pf i < 2 := by
  have : (i 1).val < 2 := (i 1).isLt
  unfold half; split <;> omega

theorem sel_half (i : grid0.Coords) (h : ∀ a, (![0] : Fin 1 → Nat) a + S1.size a ≤ S1.size a) (h1 : S1.numel = 1) :
    (Scalar.select (Scalar.cmpi .slt (BitVec.ofNat 32 (i 0).val) (pf.at 1 (Rect.unit (s := S1) ![0] S1.size h) h1))
      (BitVec.ofNat 32 (i 1).val) 1#32).toNat = half pf i := by
  have hi : (i 0).val < 71 := (i 0).isLt
  have hj : (i 1).val < 2 := (i 1).isLt
  rw [at_nu, slt_ofNat _ hi]
  unfold half
  split_ifs
  · rw [select_one, toNat_ofNat_of_lt (by omega)]
  · rw [select_zero]; rfl

theorem tr1 (i : grid0.Coords) (h0 h1 h2) : cc0_transform_1 h0 h1 h2 pf i = ![(teOf pf (i 0).val).toNat, 0, half pf i] := by
  funext a
  fin_cases a
  · exact congrArg BitVec.toNat (at_te pf i (h0 i) h1)
  · rfl
  · exact sel_half pf i h2 h1
theorem tr2 (i : grid0.Coords) (h0 h1 h2) : cc0_transform_2 h0 h1 h2 pf i = ![(teOf pf (i 0).val).toNat, 0, half pf i] := by
  funext a
  fin_cases a
  · exact congrArg BitVec.toNat (at_te pf i (h0 i) h1)
  · rfl
  · exact sel_half pf i h2 h1
theorem tr3 (i : grid0.Coords) (h0 h1 h2) : cc0_transform_3 h0 h1 h2 pf i = ![(teOf pf (i 0).val).toNat, half pf i, 0] := by
  funext a
  fin_cases a
  · exact congrArg BitVec.toNat (at_te pf i (h0 i) h1)
  · exact sel_half pf i h2 h1
  · rfl

/-- The tile whose rows a point reads: its own in a used tile, else the last used one. -/
def rowTile (i : grid0.Coords) : ℕ := if Used (nuOf pf) (i 0).val then (i 0).val else (nuOf pf).toNat - 1

theorem tr0 (i : grid0.Coords) (h0 h1) (hn : 1 ≤ (nuOf pf).toInt) : cc0_transform_0 h0 h1 pf i = ![rowTile pf i, 0] := by
  have hi : (i 0).val < 71 := (i 0).isLt
  funext a
  fin_cases a
  · show (Scalar.minsi (BitVec.ofNat 32 (i 0).val) (Scalar.subi (pf.at 1 (Rect.unit (s := S1) ![0] S1.size h0) h1) 1#32)).toNat = rowTile pf i
    rw [at_nu]
    have hpos : (nuOf pf).toNat < 2 ^ 31 := (toInt_nonneg_iff_lt_half _).mp (by omega)
    have hI : (nuOf pf).toInt = (nuOf pf).toNat := toInt_eq_toNat_of_lt_half hpos
    have hs : (Scalar.subi (nuOf pf) 1#32).toNat = (nuOf pf).toNat - 1 := by
      show ((nuOf pf) - 1#32).toNat = _
      rw [BitVec.toNat_sub]; simp only [BitVec.toNat_ofNat]; omega
    have hsI : (Scalar.subi (nuOf pf) 1#32).toInt = (nuOf pf).toNat - 1 := by
      rw [toInt_eq_toNat_of_lt_half (by rw [hs]; omega), hs]; omega
    have hiI : (BitVec.ofNat 32 (i 0).val).toInt = (i 0).val := by
      rw [toInt_eq_toNat_of_lt_half (by rw [toNat_ofNat_of_lt (by omega)]; omega), toNat_ofNat_of_lt (by omega)]
    show (IntOp.minsi _ _).toNat = _
    unfold IntOp.minsi rowTile
    simp only [BitVec.slt, BitVec.sle, hiI, hsI, hI]
    split_ifs with h h' h' <;> simp only [decide_eq_true_eq] at h <;> unfold Used at h' <;> rw [hI] at h' <;> first
      | (rw [toNat_ofNat_of_lt (by omega)]; done)
      | (rw [hs]; omega)
      | (rw [hs]; done)
      | (rw [toNat_ofNat_of_lt (by omega)]; omega)
  · rfl

theorem rowTile_lt (hn : 1 ≤ (nuOf pf).toInt) (i : grid0.Coords) : rowTile pf i < 71 := by
  have hi : (i 0).val < 71 := (i 0).isLt
  have hpos : (nuOf pf).toNat < 2 ^ 31 := (toInt_nonneg_iff_lt_half _).mp (by omega)
  have hI : (nuOf pf).toInt = (nuOf pf).toNat := toInt_eq_toNat_of_lt_half hpos
  unfold rowTile
  split_ifs with h <;> unfold Used at h <;> omega

/-- Every block the tables name lies inside its array. -/
theorem ok_of (ht : ∀ a < 71, (teOf pf a).toNat < 8) (hn : 1 ≤ (nuOf pf).toInt) : ok0 pf := by
  refine ⟨fun i => ⟨?_, .inl rfl⟩, fun i => ⟨?_, .inr ?_⟩, fun i => ⟨?_, .inr ?_⟩, fun i => ⟨?_, .inr ?_⟩⟩
  · rw [tr0 pf i _ _ hn]
    have := rowTile_lt pf hn i
    intro a; fin_cases a
    · show (rowTile pf i + 1) * 512 ≤ 36352; omega
    · show (0 + 1) * 512 ≤ 512; omega
  · rw [tr1]
    have h1 := ht (i 0).val (i 0).isLt
    have h2 := half_lt pf i
    intro a; fin_cases a
    · show ((teOf pf (i 0).val).toNat + 1) * 1 ≤ 8; omega
    · show (0 + 1) * 1024 ≤ 1024; omega
    · show (half pf i + 1) * 1792 ≤ 3584; omega
  · refine .inr ⟨by decide, rfl, ?_, rfl⟩
    show cc0_transform_1 _ _ _ pf i 1 * 1024 = 0
    rw [tr1]; rfl
  · rw [tr2]
    have h1 := ht (i 0).val (i 0).isLt
    have h2 := half_lt pf i
    intro a; fin_cases a
    · show ((teOf pf (i 0).val).toNat + 1) * 1 ≤ 8; omega
    · show (0 + 1) * 1024 ≤ 1024; omega
    · show (half pf i + 1) * 1792 ≤ 3584; omega
  · refine .inr ⟨by decide, rfl, ?_, rfl⟩
    show cc0_transform_2 _ _ _ pf i 1 * 1024 = 0
    rw [tr2]; rfl
  · rw [tr3]
    have h1 := ht (i 0).val (i 0).isLt
    have h2 := half_lt pf i
    intro a; fin_cases a
    · show ((teOf pf (i 0).val).toNat + 1) * 1 ≤ 8; omega
    · show (half pf i + 1) * 1792 ≤ 3584; omega
    · show (0 + 1) * 1024 ≤ 1024; omega
  · refine .inl ?_
    refine .inr ⟨by decide, rfl, .inl ⟨?_, ?_⟩⟩
    · show 2 ∣ cc0_transform_3 _ _ _ pf i 1 * 1792
      exact Dvd.dvd.mul_left (by decide) _
    · show 2 ∣ 1792
      decide

end Cert.Experts

end
-- ==== Proof.ExpertsPlan.lean ====
/-
The plan of the experts' call, in natural numbers: how many choices name each expert, how many tiles those take,
where each expert's tiles end, and whose a tile is. Then the words the two programs compute hold these numbers.
-/
module

public import Idealize.ShloMosaic.Lib.Routing.Ops
public import Idealize.ShloMosaic.Lib.Routing.OpsOne
public import Idealize.ShloMosaic.Lib.Routing.Words
public import Idealize.ShloMosaic.Lib.PlanTiles.Rows
public import Idealize.ShloMosaic.Lib.WordCmp
public import Idealize.ShloMosaic.Lib.Pointwise

@[expose] public section

set_option maxRecDepth 16384

noncomputable section

namespace Cert.Plan

open Idealize.ShloMosaic hiding ix0 ix1 ix2
open Idealize.ShloMosaic.ValueIdx Idealize.ShloMosaic.Routing Idealize.ShloMosaic.WordCmp

/-! ## Indices -/

theorem ix1_eq {n : ℕ} (a : Fin n) : Idealize.ShloMosaic.ix1 a = ix1 a := by
  funext i; fin_cases i; rfl
theorem ix2_eq {n k : ℕ} (a : Fin n) (b : Fin k) : Idealize.ShloMosaic.ix2 a b = ix2 a b := by
  funext i; fin_cases i <;> rfl

/-! ## Numbers -/

/-- Where expert `e`'s tiles end, `T e'` being the number of tiles of expert `e'`. -/
def ends (T : ℕ → ℕ) (e : ℕ) : ℕ := ((List.range (e + 1)).map T).sum

theorem ends_zero (T : ℕ → ℕ) : ends T 0 = T 0 := by simp [ends]
theorem ends_succ (T : ℕ → ℕ) (e : ℕ) : ends T (e + 1) = ends T e + T (e + 1) := by
  unfold ends
  rw [List.range_succ, List.map_append, List.sum_append]
  simp

theorem ends_mono (T : ℕ → ℕ) {a b : ℕ} (h : a ≤ b) : ends T a ≤ ends T b := by
  induction b, h using Nat.le_induction with
  | base => exact le_refl _
  | succ b _ ih => rw [ends_succ]; omega

theorem ends_le (T : ℕ → ℕ) (B : ℕ) (h : ∀ e, T e ≤ B) (e : ℕ) : ends T e ≤ B * (e + 1) := by
  induction e with
  | zero => rw [ends_zero]; have := h 0; omega
  | succ e ih => rw [ends_succ]; have := h (e + 1); rw [Nat.mul_succ]; omega

theorem le_ends (T : ℕ → ℕ) (e : ℕ) : T e ≤ ends T e := by
  cases e with
  | zero => rw [ends_zero]
  | succ e => rw [ends_succ]; omega

/-- The number of experts whose tiles end at or before tile `t`: tile `t`'s own expert, if one has it. -/
def own (T : ℕ → ℕ) (t : ℕ) : ℕ := Nat.count (fun e => ends T e ≤ t) 8

theorem own_le (T : ℕ → ℕ) (t : ℕ) : own T t ≤ 8 := Nat.count_le _

/-- A property that holds below whatever it holds at: it holds exactly below its count. -/
theorem count_down (p : ℕ → Prop) [DecidablePred p] (hp : ∀ a b, a ≤ b → p b → p a) (n : ℕ) : ∀ e < n, p e ↔ e < Nat.count p n := by
  induction n with
  | zero => intro e he; omega
  | succ n ih =>
    have hle : Nat.count p n ≤ n := Nat.count_le _
    intro e he
    rw [Nat.count_succ]
    by_cases h : p n
    · rw [if_pos h]
      have hn : n ≤ Nat.count p n := by
        rcases Nat.eq_zero_or_pos n with h0 | h0
        · omega
        · have := (ih (n - 1) (by omega)).mp (hp _ _ (by omega) h)
          omega
      exact ⟨fun _ => by omega, fun _ => hp _ _ (by omega) h⟩
    · rw [if_neg h, Nat.add_zero]
      rcases Nat.lt_or_ge e n with h' | h'
      · exact ih e h'
      · obtain rfl : e = n := by omega
        exact ⟨fun q => absurd q h, fun q => by omega⟩

theorem ends_le_iff (T : ℕ → ℕ) (t : ℕ) {e : ℕ} (he : e < 8) : ends T e ≤ t ↔ e < own T t :=
  count_down (fun e => ends T e ≤ t) (fun a b h q => le_trans (ends_mono T h) q) 8 e he

/-- A tile is used exactly when some expert has it. -/
theorem lt_last_iff (T : ℕ → ℕ) (t : ℕ) : t < ends T 7 ↔ own T t < 8 := by
  have := ends_le_iff T t (show 7 < 8 by omega)
  have := own_le T t
  omega

/-- Tile `t` is one of expert `e`'s exactly when `e` is its own expert. -/
theorem mine_iff (T : ℕ → ℕ) (t : ℕ) {e : ℕ} (he : e < 8) : (ends T e - T e ≤ t ∧ t < ends T e) ↔ e = own T t := by
  have h1 := ends_le_iff T t he
  have h2 : ends T e - T e ≤ t ↔ e ≤ own T t := by
    cases e with
    | zero => rw [ends_zero]; omega
    | succ e =>
      have := ends_le_iff T t (show e < 8 by omega)
      rw [ends_succ]; omega
  omega

theorem ends_mul (T : ℕ → ℕ) (k e : ℕ) : ends (fun e => T e * k) e = ends T e * k := by
  induction e with
  | zero => rw [ends_zero, ends_zero]
  | succ e ih => rw [ends_succ, ends_succ, ih]; ring

/-! ## The choices -/

/-- How many of the choices `f` name expert `e`, and how many tiles of 512 rows those take. -/
def hits (f : IVec (shape1 32768) 32) (e : ℕ) : ℕ := (Finset.univ.filter fun p : Fin 32768 => f (ix1 p) = BitVec.ofNat 32 e).card
def tiles (f : IVec (shape1 32768) 32) (e : ℕ) : ℕ := (hits f e + 511) / 512

theorem hits_le (f : IVec (shape1 32768) 32) (e : ℕ) : hits f e ≤ 32768 :=
  (Finset.card_le_univ _).trans (by simp)

theorem tiles_le (f : IVec (shape1 32768) 32) (e : ℕ) : tiles f e ≤ 64 := by
  have := hits_le f e
  unfold tiles; omega

theorem ends_tiles_le (f : IVec (shape1 32768) 32) {e : ℕ} (he : e < 8) : ends (tiles f) e ≤ 512 := by
  have := ends_le (tiles f) 64 (tiles_le f) e
  omega

/-- Where a choice names one of the experts, at least one tile is used. -/
theorem last_pos (f : IVec (shape1 32768) 32) (p : Fin 32768) (h : (f (ix1 p)).toNat < 8) : 1 ≤ ends (tiles f) 7 := by
  have hh : 1 ≤ hits f (f (ix1 p)).toNat := by
    refine Finset.card_pos.mpr ⟨p, Finset.mem_filter.mpr ⟨Finset.mem_univ _, ?_⟩⟩
    rw [BitVec.ofNat_toNat, BitVec.setWidth_eq]
  have ht : 1 ≤ tiles f (f (ix1 p)).toNat := by unfold tiles; omega
  exact ht.trans ((le_ends _ _).trans (ends_mono _ (by omega)))

/-! ## The words -/

section words

variable (f : IVec (shape1 32768) 32)

/-- Choice `p` is compared with expert `e`. -/
theorem hit_ap (h₁ : (shape1 32768).BroadcastsInDim (shape2 32768 1) (![0] : Fin 1 → Fin (shape2 32768 1).rank))
    (h₂ : (shape2 32768 1).BroadcastsInDim (shape2 32768 8) (![0, 1] : Fin 2 → Fin (shape2 32768 8).rank))
    (h₃ : (shape1 8).BroadcastsInDim (shape2 1 8) (![1] : Fin 1 → Fin (shape2 1 8).rank))
    (h₄ : (shape2 1 8).BroadcastsInDim (shape2 32768 8) (![0, 1] : Fin 2 → Fin (shape2 32768 8).rank)) (p : Fin 32768) (e : Fin 8) :
    cmpi .eq (broadcastInDim (shape2 32768 8) ![0, 1] h₂ (broadcastInDim (shape2 32768 1) ![0] h₁ f))
      (broadcastInDim (shape2 32768 8) ![0, 1] h₄ (broadcastInDim (shape2 1 8) ![1] h₃ (iotaInDim (shape1 8) 32 0))) (ix2 p e) = 1#1
      ↔ f (ix1 p) = BitVec.ofNat 32 e.val := by
  rw [cmpi_at, bcRows, bcCols, iota1_ap, cmpi_eq_eq, ofBool_decide_eq_one_iff]

variable (msk : IVec (shape2 32768 8) 1) (hm : ∀ (p : Fin 32768) (e : Fin 8), msk (ix2 p e) = 1#1 ↔ f (ix1 p) = BitVec.ofNat 32 e.val)

include hm in
/-- The counts as a sum over the choices. -/
theorem sum_ap (hw : 1 < 32) (h : (shape2 32768 8).ReducesTo [0] (shape1 8)) (hu : 0 < shape0.numel) (e : Fin 8) :
    Host.reduce IntOp.addi (extui 32 msk hw) (constantI shape0 32 0#32) h hu (ix1 e) = BitVec.ofNat 32 (hits f e.val) := by
  have hl := hits_le f e.val
  apply BitVec.eq_of_toNat_eq
  rw [StableHlo.Predicate.toNat_reduce_count_rows (by norm_num) msk hw h hu (ix1 e), toNat_ofNat_of_lt (by omega)]
  refine congrArg Finset.card (Finset.filter_congr fun p _ => ?_)
  rw [ij_eq_ix2]
  exact hm p e

include hm in
/-- The counts as the last row of a running sum over the choices. -/
theorem last_row_ap (hw : 1 < 32) (init : IVec shape0 32) (hinit : init ix0 = 0#32)
    (h : (shape2 32768 8).ReduceWindows (![32768, 1] : Fin 2 → Nat) ![1, 1] ![32767, 0] ![0, 0] (shape2 32768 8)) (hu : 0 < shape0.numel)
    (hs : (shape2 32768 8).Slices ![32767, 0] (shape2 1 8)) (hc : (shape2 1 8).ShapeCasts (shape1 8)) (e : Fin 8) :
    shapeCast (shape1 8) (extractStridedSlice (shape2 1 8) ![32767, 0]
      (Host.reduceWindow IntOp.addi ![32768, 1] ![1, 1] ![32767, 0] ![0, 0] (extui 32 msk hw) init h hu) hs) hc (ix1 e) = BitVec.ofNat 32 (hits f e.val) := by
  rw [cast21 _ hc (0 : Fin 1) e e (by simp), PlanTiles.slice_row 32767 (by omega), cumsum_rows_sum (by norm_num) _ init hinit h hu]
  have e1 : ∀ w : Fin 32768, (if w ≤ (⟨32767, by omega⟩ : Fin 32768) then extui 32 msk hw (ix2 w e) else 0) = if f (ix1 w) = BitVec.ofNat 32 e.val then (1 : BitVec 32) else 0 := by
    intro w
    rw [if_pos (show w ≤ (⟨32767, by omega⟩ : Fin 32768) from Fin.le_def.mpr (by show w.val ≤ 32767; omega))]
    have := hm w e
    rcases BitVec.eq_zero_or_eq_one (msk (ix2 w e)) with h0 | h1
    · rw [if_neg (fun q => by rw [h0] at this; exact absurd (this.mpr q) (by decide))]
      show (msk (ix2 w e)).setWidth 32 = 0
      rw [h0]; rfl
    · rw [if_pos (this.mp h1)]
      show (msk (ix2 w e)).setWidth 32 = 1
      rw [h1]; rfl
  rw [Finset.sum_congr rfl fun w _ => e1 w, Finset.sum_boole]
  rfl

/-- The tiles of each expert, from its count and 511 rows more. -/
theorem tiles_ap (hb : shape0.BroadcastsInDim (shape1 8) (![] : Fin 0 → Fin (shape1 8).rank)) (x : IVec (shape1 8) 32)
    (hx : ∀ e : Fin 8, x (ix1 e) = BitVec.ofNat 32 (hits f e.val + 511)) (e : Fin 8) :
    pyDiv hb x (constantI shape0 32 512#32) (ix1 e) = BitVec.ofNat 32 (tiles f e.val) := by
  have hl := hits_le f e.val
  exact pyDiv_ap hb x _ (ix1 e) (hx e) rfl (by omega) (by omega) (by omega)

/-- Where each expert's tiles end, as a running sum. -/
theorem ends_ap (x : IVec (shape1 8) 32) (T : ℕ → ℕ) (hx : ∀ e : Fin 8, x (ix1 e) = BitVec.ofNat 32 (T e.val)) (init : IVec shape0 32) (hinit : init ix0 = 0#32)
    (h : (shape1 8).ReduceWindows (![8] : Fin 1 → Nat) ![1] ![7] ![0] (shape1 8)) (hu : 0 < shape0.numel) (e : Fin 8) :
    Host.reduceWindow IntOp.addi ![8] ![1] ![7] ![0] x init h hu (ix1 e) = BitVec.ofNat 32 (ends T e.val) :=
  cumsum1 (by norm_num) x T hx init hinit h hu e

/-- Two words below half of their range compare as their numbers. -/
theorem sge_word {a b : ℕ} (ha : a < 2 ^ 31) (hb : b < 2 ^ 31) : IntOp.cmpi .sge (BitVec.ofNat 32 a) (BitVec.ofNat 32 b) = 1#1 ↔ b ≤ a := by
  rw [cmpi_sge_eq, ofBool_decide_eq_one_iff, toInt_ofNat_of_lt (w := 32) ha, toInt_ofNat_of_lt (w := 32) hb]
  omega
theorem slt_word {a b : ℕ} (ha : a < 2 ^ 31) (hb : b < 2 ^ 31) : IntOp.cmpi .slt (BitVec.ofNat 32 a) (BitVec.ofNat 32 b) = 1#1 ↔ a < b := by
  rw [cmpi_slt_eq, ofBool_decide_eq_one_iff, toInt_ofNat_of_lt (w := 32) ha, toInt_ofNat_of_lt (w := 32) hb]
  omega

/-- How many experts' tiles end at or before a tile, at most 7. -/
theorem before_ap {n : ℕ} (hn : n < 2 ^ 31) (T : ℕ → ℕ) (hT : ∀ e < 8, ends T e < 2 ^ 31) (x : IVec (shape1 8) 32) (hx : ∀ e : Fin 8, x (ix1 e) = BitVec.ofNat 32 (ends T e.val))
    (h₁ : (shape1 n).BroadcastsInDim (shape2 n 1) (![0] : Fin 1 → Fin (shape2 n 1).rank))
    (h₂ : (shape2 n 1).BroadcastsInDim (shape2 n 8) (![0, 1] : Fin 2 → Fin (shape2 n 8).rank))
    (h₃ : (shape1 8).BroadcastsInDim (shape2 1 8) (![1] : Fin 1 → Fin (shape2 1 8).rank))
    (h₄ : (shape2 1 8).BroadcastsInDim (shape2 n 8) (![0, 1] : Fin 2 → Fin (shape2 n 8).rank))
    (hw : 1 < 32) (hr : (shape2 n 8).ReducesTo [1] (shape1 n)) (hu : 0 < shape0.numel)
    (hb : shape0.BroadcastsInDim (shape1 n) (![] : Fin 0 → Fin (shape1 n).rank)) (t : Fin n) :
    minsi (Host.reduce IntOp.addi (extui 32 (cmpi .sge (broadcastInDim (shape2 n 8) ![0, 1] h₂ (broadcastInDim (shape2 n 1) ![0] h₁ (iotaInDim (shape1 n) 32 0)))
      (broadcastInDim (shape2 n 8) ![0, 1] h₄ (broadcastInDim (shape2 1 8) ![1] h₃ x))) hw) (constantI shape0 32 0#32) hr hu)
      (broadcastInDim (shape1 n) ![] hb (constantI shape0 32 7#32)) (ix1 t) = BitVec.ofNat 32 (min 7 (own T t.val)) := by
  have ht := t.isLt
  have hm : ∀ e : Fin 8, cmpi .sge (broadcastInDim (shape2 n 8) ![0, 1] h₂ (broadcastInDim (shape2 n 1) ![0] h₁ (iotaInDim (shape1 n) 32 0)))
      (broadcastInDim (shape2 n 8) ![0, 1] h₄ (broadcastInDim (shape2 1 8) ![1] h₃ x)) (ix2 t e) = 1#1 ↔ ends T e.val ≤ t.val := by
    intro e
    rw [cmpi_at, bcRows, bcCols, iota1_ap, hx e, sge_word (by omega) (hT _ e.isLt)]
  show IntOp.minsi _ _ = _
  rw [reduce_count (by norm_num) _ hw hr hu t (fun e => ends T e ≤ t.val) hm, bc0]
  show IntOp.minsi (BitVec.ofNat 32 (own T t.val)) (BitVec.ofNat 32 7) = _
  have := own_le T t.val
  exact PlanTiles.minsi_word (by omega) (by omega)

/-- The last of eight entries. -/
theorem last_ap (x : IVec (shape1 8) 32) (hs : (shape1 8).Slices ![7] (shape1 1)) (hc : (shape1 1).ShapeCasts shape0) (i : shape0.Idx) :
    shapeCast shape0 (extractStridedSlice (shape1 1) ![7] x hs) hc i = x (ix1 7) := by
  refine (shapeCast_apply _ hc i (ix1 (0 : Fin 1)) ?_).trans (slice1 7 x hs 0 (by decide))
  have h1 := (Shape.rowMajor (shape1 1) (ix1 (0 : Fin 1))).isLt
  have h0 := (Shape.rowMajor shape0 i).isLt
  have e1 : (shape1 1).numel = 1 := by decide
  have e0 : shape0.numel = 1 := by decide
  omega

/-- A block of one entry is one of the entries, wherever it is taken. -/
theorem dyn_ap {α : Type} {n : ℕ} (x : (shape1 n).Idx → α) (st) (hs : (shape1 n).Slices (fun _ => 0) (shape1 1)) (hc : (shape1 1).ShapeCasts shape0) :
    ∃ k : Fin n, ∀ i : shape0.Idx, shapeCast shape0 (Host.dynamicSlice (shape1 1) x st hs) hc i = x (ix1 k) := by
  have h : ∃ k : (shape1 n).Idx, shapeCast shape0 (Host.dynamicSlice (shape1 1) x st hs) hc ix0 = x k := ⟨_, rfl⟩
  obtain ⟨k, hk⟩ := h
  refine ⟨k 0, fun i => ?_⟩
  rw [show i = ix0 from funext fun a => a.elim0, hk]
  refine congrArg x (funext fun a => ?_)
  match a with
  | ⟨0, _⟩ => rfl

end words

end Cert.Plan

end
-- ==== Proof.ExpertsHost.lean ====
/-
The experts' call: what its host code computes from the router's choices, a stretch at a time, and the two tables
and the weights as the call finds them.
-/
module

public import proofs.«01_k».proof.Proof.ExpertsKit
public import proofs.«01_k».proof.Proof.ExpertsPlan
public import Idealize.ShloMosaic.Lib.StableHlo.Run

@[expose] public section

set_option maxRecDepth 16384

noncomputable section

namespace Cert.Experts

open Cert.KernelIdeal Cert.KernelIdeal.Gen
open Idealize.ShloMosaic Idealize.ShloMosaic.TcCoe Idealize.ShloMosaic.StableHlo

variable {F : FTy → Type} [FloatOps F]

/-! ## Each stretch over what it begins with -/

section stretches

variable (W : Valuation τ sig (Elt F))

/-- Which expert each choice names. -/
def hitOf (f : IVec S32768 32) : IVec S32768x8 1 :=
  cmpi .eq (broadcastInDim S32768x8 ![0, 1] bcast_S32768x1_S32768x8_0_1 (broadcastInDim S32768x1 ![0] bcast_S32768_S32768x1_0 f))
    (broadcastInDim S32768x8 ![0, 1] bcast_S1x8_S32768x8_0_1 (broadcastInDim S1x8 ![1] bcast_S8_S1x8_1 (iotaInDim S8 32 0)))

theorem s0 : after hostOps0 W (Proc.devRef .tc main_v7)
    = extui 32 (hitOf (shapeCast S32768 (W (Proc.devRef .tc main_arg0)) shapeCasts_S16384x2_S32768)) natLt_1_32 := by
  simp only [hostOps0]
  after_results_simp
  rfl

def cum0 : IVec S_ 32 := broadcastInDim S_ ![] bcast_S_S_ (constantI S_ 32 0#32)

theorem s1 : after hostOps0_1 W (Proc.devRef .tc main_v8)
    = Host.reduceWindow IntOp.addi ![32768, 1] ![1, 1] ![32767, 0] ![0, 0] (W (Proc.devRef .tc main_v7)) cum0 reduceWindows_S32768x8_S32768x8_w32768s1p32767_0_w1s1p0_0 h_S_ := by
  simp only [hostOps0_1, TRef.nullary, TRef.binary, TRef.unary, TRef.toBuf, TRef.ofBuf, cast_eq]
  after_results_simp
  rfl

/-- Each expert's count, and the same with 511 rows more. -/
def lastRow (x : IVec S32768x8 32) : IVec S8 32 :=
  shapeCast S8 (extractStridedSlice S1x8 ![32767, 0] x slices_S32768x8_S1x8_32767_0) shapeCasts_S1x8_S8
def upBy (x : IVec S8 32) : IVec S8 32 :=
  subi (addi x (broadcastInDim S8 ![] bcast_S_S8 (constantI S_ 32 512#32))) (broadcastInDim S8 ![] bcast_S_S8 (constantI S_ 32 1#32))

theorem s2 : after hostOps0_2 W (Proc.devRef .tc main_v17) = upBy (lastRow (W (Proc.devRef .tc main_v8))) := by
  simp only [hostOps0_2]
  after_results_simp
  rfl
theorem s2c : after hostOps0_2 W (Proc.devRef .tc main_c_2) = constantI S_ 32 512#32 := by
  simp only [hostOps0_2]
  after_results_simp

theorem s3 : after hostOps0_3 W (Proc.devRef .tc main_v18) = Routing.pyDiv bcast_S_S8 (W (Proc.devRef .tc main_v17)) (W (Proc.devRef .tc main_c_2)) := by
  simp only [hostOps0_3, TRef.nullary, TRef.binary, TRef.unary, TRef.ternary, TRef.toBuf, TRef.ofBuf, cast_eq]
  after_results_simp
  rfl

theorem s4 : after hostOps0_4 W (Proc.devRef .tc main_v19)
    = Host.reduceWindow IntOp.addi ![8] ![1] ![7] ![0] (W (Proc.devRef .tc main_v18)) cum0 reduceWindows_S8_S8_w8s1p7_0 h_S_ := by
  simp only [hostOps0_4, TRef.nullary, TRef.binary, TRef.unary, TRef.toBuf, TRef.ofBuf, cast_eq]
  after_results_simp
  rfl

/-- How many experts' tiles end at or before each tile, at most 7. -/
def before (x : IVec S8 32) : IVec S71 32 :=
  minsi (Host.reduce IntOp.addi (extui 32 (cmpi .sge (broadcastInDim S71x8 ![0, 1] bcast_S71x1_S71x8_0_1 (broadcastInDim S71x1 ![0] bcast_S71_S71x1_0 (iotaInDim S71 32 0)))
      (broadcastInDim S71x8 ![0, 1] bcast_S1x8_S71x8_0_1 (broadcastInDim S1x8 ![1] bcast_S8_S1x8_1 x))) natLt_1_32) (constantI S_ 32 0#32) reducesTo_S71x8_S71_d1 h_S_)
    (broadcastInDim S71 ![] bcast_S_S71 (constantI S_ 32 7#32))
/-- The number of used tiles. -/
def last (x : IVec S8 32) : IVec S_ 32 := shapeCast S_ (extractStridedSlice S1 ![7] x slices_S8_S1_7) shapeCasts_S1_S_

theorem s5b : after hostOps0_5 W (Proc.devRef .tc main_v39) = before (W (Proc.devRef .tc main_v19)) := by
  simp only [hostOps0_5]
  after_results_simp
  rfl
theorem s5n : after hostOps0_5 W (Proc.devRef .tc main_v37) = last (W (Proc.devRef .tc main_v19)) := by
  simp only [hostOps0_5]
  after_results_simp
  rfl
theorem s5u : after hostOps0_5 W (Proc.devRef .tc main_v41)
    = cmpi .slt (iotaInDim S71 32 0) (broadcastInDim S71 ![] bcast_S_S71 (last (W (Proc.devRef .tc main_v19)))) := by
  simp only [hostOps0_5]
  after_results_simp
  rfl
/-- The entry the unused tiles take: one of the entries. -/
theorem s5d : ∃ st, after hostOps0_5 W (Proc.devRef .tc main_v48)
    = shapeCast S_ (Host.dynamicSlice S1 (before (W (Proc.devRef .tc main_v19))) st sliceFits_S71_S1) shapeCasts_S1_S_ := by
  refine ⟨?_, ?_⟩
  rotate_left
  · simp only [hostOps0_5]
    after_results_simp
    rfl
theorem s5l : ∃ k : Fin 71, ∀ i, after hostOps0_5 W (Proc.devRef .tc main_v48) i = before (W (Proc.devRef .tc main_v19)) (ValueIdx.ix1 k) := by
  obtain ⟨st, h⟩ := s5d W
  obtain ⟨k, hk⟩ := Plan.dyn_ap (n := 71) (before (W (Proc.devRef .tc main_v19))) st sliceFits_S71_S1 shapeCasts_S1_S_
  exact ⟨k, fun i => (congrFun h i).trans (hk i)⟩

theorem s6 : after hostOps0_6 W (Proc.devRef .tc main_v49)
    = select (W (Proc.devRef .tc main_v41)) (W (Proc.devRef .tc main_v39)) (broadcastInDim S71 ![] bcast_S_S71 (W (Proc.devRef .tc main_v48))) := by
  simp only [hostOps0_6, TRef.nullary, TRef.binary, TRef.unary, TRef.ternary, TRef.toBuf, TRef.ofBuf, cast_eq]
  after_results_simp
theorem s6n : after hostOps0_6 W (Proc.devRef .tc main_v37) = W (Proc.devRef .tc main_v37) := by
  simp only [hostOps0_6, TRef.nullary, TRef.binary, TRef.unary, TRef.ternary, TRef.toBuf, TRef.ofBuf, cast_eq]
  after_results_simp

theorem s7t : after hostOps0_7 W (Proc.devRef .tc main_v49) = W (Proc.devRef .tc main_v49) := by
  simp only [hostOps0_7]
  after_results_simp
theorem s7n : after hostOps0_7 W (Proc.devRef .tc main_v50) = shapeCast S1 (W (Proc.devRef .tc main_v37)) shapeCasts_S_S1 := by
  simp only [hostOps0_7]
  after_results_simp
  rfl
theorem s7a : after hostOps0_7 W (Proc.devRef .tc main_v51) = shapeCast S8x1024x3584 (W (Proc.devRef .tc main_arg2)) shapeCasts_S8192x3584_S8x1024x3584 := by
  simp only [hostOps0_7]
  after_results_simp
  rfl
theorem s7b : after hostOps0_7 W (Proc.devRef .tc main_v52) = shapeCast S8x1024x3584 (W (Proc.devRef .tc main_arg3)) shapeCasts_S8192x3584_S8x1024x3584 := by
  simp only [hostOps0_7]
  after_results_simp
  rfl
theorem s7c : after hostOps0_7 W (Proc.devRef .tc main_v53) = shapeCast S8x3584x1024 (W (Proc.devRef .tc main_arg4)) shapeCasts_S28672x1024_S8x3584x1024 := by
  simp only [hostOps0_7]
  after_results_simp
  rfl

end stretches

/-! ## The stretches in order -/

section order

variable (m : (ℓ : Loc nD τ sig) → Buf (Elt F) ℓ) (c : Dev nD)

/-- The buffers at launch and after each stretch but the last. -/
abbrev L0 : Valuation τ sig (Elt F) := fun b => m (c, b)
def L1 : Valuation τ sig (Elt F) := after hostOps0 (L0 m c)
def L2 : Valuation τ sig (Elt F) := after hostOps0_1 (L1 m c)
def L3 : Valuation τ sig (Elt F) := after hostOps0_2 (L2 m c)
def L4 : Valuation τ sig (Elt F) := after hostOps0_3 (L3 m c)
def L5 : Valuation τ sig (Elt F) := after hostOps0_4 (L4 m c)
def L6 : Valuation τ sig (Elt F) := after hostOps0_5 (L5 m c)
def L7 : Valuation τ sig (Elt F) := after hostOps0_6 (L6 m c)

theorem V_eq (b : Ref sig .tc) : V m c b = after hostOps0_7 (L7 m c) (Proc.devRef .tc b) := by
  unfold V L7 L6 L5 L4 L3 L2 L1
  simp only [opss, List.flatten_cons, List.flatten_nil, List.append_nil, after_append]

/-- The router's choices, as one row. -/
def choices : IVec S32768 32 := shapeCast S32768 (m ((c.tc : Thread nD τ).loc main_arg0)) shapeCasts_S16384x2_S32768

theorem hits_at (e : Fin 8) : lastRow (L2 m c (Proc.devRef .tc main_v8)) (ValueIdx.ix1 e) = BitVec.ofNat 32 (Plan.hits (choices m c) e.val) := by
  unfold L2
  rw [s1]
  unfold L1
  rw [s0]
  exact Plan.last_row_ap (choices m c) (hitOf (choices m c)) (fun p e => Plan.hit_ap (choices m c) _ _ _ _ p e) natLt_1_32 cum0 rfl _ _ _ _ e

theorem up_at (e : Fin 8) : L3 m c (Proc.devRef .tc main_v17) (ValueIdx.ix1 e) = BitVec.ofNat 32 (Plan.hits (choices m c) e.val + 511) := by
  unfold L3
  rw [s2]
  show IntOp.subi (IntOp.addi (lastRow (L2 m c (Proc.devRef .tc main_v8)) (ValueIdx.ix1 e)) 512#32) 1#32 = _
  rw [hits_at]
  have := Plan.hits_le (choices m c) e.val
  apply BitVec.eq_of_toNat_eq
  show ((BitVec.ofNat 32 _ + 512#32) - 1#32).toNat = _
  rw [BitVec.toNat_sub, BitVec.toNat_add]
  simp only [BitVec.toNat_ofNat]
  omega

theorem tiles_at (e : Fin 8) : L4 m c (Proc.devRef .tc main_v18) (ValueIdx.ix1 e) = BitVec.ofNat 32 (Plan.tiles (choices m c) e.val) := by
  unfold L4
  rw [s3, show L3 m c (Proc.devRef .tc main_c_2) = constantI S_ 32 512#32 from s2c _]
  exact Plan.tiles_ap (choices m c) _ _ (up_at m c) e

theorem ends_at (e : Fin 8) : L5 m c (Proc.devRef .tc main_v19) (ValueIdx.ix1 e) = BitVec.ofNat 32 (Plan.ends (Plan.tiles (choices m c)) e.val) := by
  unfold L5
  rw [s4]
  exact Plan.ends_ap _ _ (tiles_at m c) cum0 rfl _ _ e

theorem ends_lt (e : ℕ) (he : e < 8) : Plan.ends (Plan.tiles (choices m c)) e < 2 ^ 31 := by
  have := Plan.ends_tiles_le (choices m c) he
  omega

theorem before_at (t : Fin 71) : before (L5 m c (Proc.devRef .tc main_v19)) (ValueIdx.ix1 t) = BitVec.ofNat 32 (min 7 (Plan.own (Plan.tiles (choices m c)) t.val)) :=
  Plan.before_ap (by norm_num) _ (ends_lt m c) _ (ends_at m c) _ _ _ _ _ _ _ _ t

theorem last_at (i : S_.Idx) : last (L5 m c (Proc.devRef .tc main_v19)) i = BitVec.ofNat 32 (Plan.ends (Plan.tiles (choices m c)) 7) :=
  (Plan.last_ap _ _ _ i).trans (ends_at m c 7)

theorem sel_at (u : IVec S71 1) (x : IVec S71 32) (y : IVec S_ 32) (t : Fin 71) :
    select u x (broadcastInDim S71 ![] bcast_S_S71 y) (ValueIdx.ix1 t) = if u (ValueIdx.ix1 t) = 1#1 then x (ValueIdx.ix1 t) else y ValueIdx.ix0 := by
  show (if _ then _ else _) = _
  rw [Routing.bc0]
  rfl

/-- Which tiles are used. -/
def used : IVec S71 1 := L6 m c (Proc.devRef .tc main_v41)

theorem used_at (t : Fin 71) : used m c (ValueIdx.ix1 t) = 1#1 ↔ t.val < Plan.ends (Plan.tiles (choices m c)) 7 := by
  unfold used L6
  rw [s5u]
  show IntOp.cmpi .slt (BitVec.ofNat 32 t.val) (last (L5 m c (Proc.devRef .tc main_v19)) _) = 1#1 ↔ _
  rw [last_at]
  exact Plan.slt_word (by have := t.isLt; omega) (ends_lt m c 7 (by omega))

theorem table (t : Fin 71) : ∃ k : Fin 71, V m c main_v49 (ix1 t)
    = if used m c (ValueIdx.ix1 t) = 1#1 then BitVec.ofNat 32 (min 7 (Plan.own (Plan.tiles (choices m c)) t.val))
      else BitVec.ofNat 32 (min 7 (Plan.own (Plan.tiles (choices m c)) k.val)) := by
  obtain ⟨k, hk⟩ := s5l (L5 m c)
  refine ⟨k, ?_⟩
  rw [V_eq, s7t]
  unfold L7
  rw [s6, Plan.ix1_eq]
  refine (sel_at (used m c) _ _ t).trans ?_
  refine if_congr Iff.rfl ?_ ((hk _).trans (before_at m c k))
  exact (congrFun (s5b (L5 m c)) _).trans (before_at m c t)

/-- The first table: a used tile's expert; and every tile names one of the eight. -/
theorem te_at (t : Fin 71) :
    (t.val < Plan.ends (Plan.tiles (choices m c)) 7 → V m c main_v49 (ix1 t) = BitVec.ofNat 32 (Plan.own (Plan.tiles (choices m c)) t.val))
      ∧ (V m c main_v49 (ix1 t) : BitVec 32).toNat < 8 := by
  obtain ⟨k, e⟩ := table m c t
  have hw : ∀ a : ℕ, (BitVec.ofNat 32 (min 7 a)).toNat < 8 := fun a => by rw [BitVec.toNat_ofNat]; omega
  constructor
  · intro h
    have := (Plan.lt_last_iff _ _).mp h
    rw [e, if_pos ((used_at m c t).mpr h), Nat.min_eq_right (by omega)]
  · rw [e]
    split_ifs
    · exact hw _
    · exact hw _

/-- The second table: the number of used tiles. -/
theorem nu_at : V m c main_v50 (ix1 0) = BitVec.ofNat 32 (Plan.ends (Plan.tiles (choices m c)) 7) := by
  rw [V_eq, s7n]
  show L7 m c (Proc.devRef .tc main_v37) _ = _
  unfold L7
  rw [s6n]
  unfold L6
  rw [s5n]
  exact last_at m c _

/-! ## What the host code leaves as it was -/

abbrev argRefs : List (Ref sig .tc) := [main_arg0, main_arg1, main_arg2, main_arg3, main_arg4]

set_option maxHeartbeats 1000000 in
theorem kept_of (b : Ref sig .tc) (hb : b ∈ argRefs) : ∀ op ∈ (opss (F := F)).flatten, Proc.devRef (τ := τ) .tc b ∉ op.writes :=
  List.forall_iff_forall_mem.mp (by
    simp only [opss, hostOps0, hostOps0_1, hostOps0_2, hostOps0_3, hostOps0_4, hostOps0_5, hostOps0_6, hostOps0_7,
      TRef.nullary, TRef.binary, TRef.unary, TRef.ternary, List.flatten_cons, List.flatten_nil, List.append_nil, List.cons_append, List.nil_append, List.Forall,
      nullary_writes, unary_writes, binary_writes, ternary_writes, reshape_writes, unaryIndexed_writes, Finset.mem_singleton]
    repeat' apply And.intro
    all_goals exact devRef_ne_of_ne fun e => absurd (e ▸ hb : _ ∈ argRefs) (by decide))

theorem V_arg (b : Ref sig .tc) (hb : b ∈ argRefs) : V m c b = m ((c.tc : Thread nD τ).loc b) := by
  unfold V
  exact after_of_forall_not_mem _ _ (kept_of b hb)

theorem kept_in (b : Ref sig .tc) (hb : b ∈ argRefs) (W : Valuation τ sig (Elt F)) {ops : List (HloOp τ sig (Elt F))} (h : ops ∈ opss) :
    after ops W (Proc.devRef .tc b) = W (Proc.devRef .tc b) :=
  after_of_forall_not_mem _ _ fun op ho => kept_of b hb op (List.mem_flatten.mpr ⟨ops, h, ho⟩)

theorem L7_arg (b : Ref sig .tc) (hb : b ∈ argRefs) : L7 m c (Proc.devRef .tc b) = m ((c.tc : Thread nD τ).loc b) := by
  unfold L7 L6 L5 L4 L3 L2 L1
  rw [kept_in b hb _ (List.mem_of_getElem? (i := 6) rfl), kept_in b hb _ (List.mem_of_getElem? (i := 5) rfl),
    kept_in b hb _ (List.mem_of_getElem? (i := 4) rfl), kept_in b hb _ (List.mem_of_getElem? (i := 3) rfl),
    kept_in b hb _ (List.mem_of_getElem? (i := 2) rfl), kept_in b hb _ (List.mem_of_getElem? (i := 1) rfl),
    kept_in b hb _ (List.mem_of_getElem? (i := 0) rfl)]

/-- The weights, an expert at a time. -/
theorem w1_eq : V m c main_v51 = shapeCast S8x1024x3584 (m ((c.tc : Thread nD τ).loc main_arg2)) shapeCasts_S8192x3584_S8x1024x3584 := by
  rw [V_eq, s7a, L7_arg m c main_arg2 (by decide)]
theorem w3_eq : V m c main_v52 = shapeCast S8x1024x3584 (m ((c.tc : Thread nD τ).loc main_arg3)) shapeCasts_S8192x3584_S8x1024x3584 := by
  rw [V_eq, s7b, L7_arg m c main_arg3 (by decide)]
theorem w2_eq : V m c main_v53 = shapeCast S8x3584x1024 (m ((c.tc : Thread nD τ).loc main_arg4)) shapeCasts_S28672x1024_S8x3584x1024 := by
  rw [V_eq, s7c, L7_arg m c main_arg4 (by decide)]

end order

end Cert.Experts

end
-- ==== Proof.ExpertsPre.lean ====
/-
The precondition on the router's choices, read: every choice names one of the eight experts. So of the two tables the
host code makes of them every tile names one of the eight, and at least one tile is used.
-/
module

public import proofs.«01_k».proof.Proof.Gen.Pre_chosen
public import proofs.«01_k».proof.Proof.ExpertsIndex
public import proofs.«01_k».proof.Proof.ExpertsHost
public import Idealize.ShloMosaic.Lib.ReduceAll
public import Idealize.ShloMosaic.Lib.WordCmp
public import Idealize.ShloMosaic.Lib.Pointwise

@[expose] public section

set_option maxRecDepth 16384

noncomputable section

namespace Cert.Experts

open Cert.KernelIdeal Cert.KernelIdeal.Gen
open Idealize.ShloMosaic Idealize.ShloMosaic.TcCoe Idealize.ShloMosaic.WordCmp Idealize.ShloMosaic.Pointwise

variable {F : FTy → Type} [FloatOps F]

/-- The tables read by an index. -/
theorem teOf_eq (pf : pre0.Contents (Elt F)) (a : Fin 71) : teOf pf a.val = pf 0 (ix1 a) := by
  have hd : ∀ x : Fin (pre0.ref 0).ty.shape.rank, (![a.val] : Fin 1 → Nat) x + 1 ≤ (pre0.ref 0).ty.shape.size x := by
    intro x; fin_cases x; exact a.isLt
  refine Eq.trans (dif_pos hd) (congrArg (pf 0) (funext fun x => Fin.ext ?_))
  fin_cases x
  rfl

theorem nuOf_eq (pf : pre0.Contents (Elt F)) : nuOf pf = pf 1 (ix1 0) := by
  have hd : ∀ a : Fin (pre0.ref 1).ty.shape.rank, (![0] : Fin 1 → Nat) a + 1 ≤ (pre0.ref 1).ty.shape.size a := by
    intro a; fin_cases a; decide
  rw [show nuOf pf = pf 1 (fun a => ⟨(![0] : Fin 1 → Nat) a, hd a⟩) from by unfold nuOf; exact dif_pos hd]
  refine congrArg (pf 1) (funext fun x => Fin.ext ?_)
  fin_cases x
  rfl

/-- A word that is at least 0 and below 8 as a signed number is below 8. -/
theorem word_lt (x : BitVec 32) (h0 : IntOp.cmpi .sge x 0#32 = 1#1) (h8 : IntOp.cmpi .slt x 8#32 = 1#1) : x.toNat < 8 := by
  rw [cmpi_sge_zero, ofBool_decide_eq_one_iff] at h0
  rw [cmpi_slt_eq, ofBool_decide_eq_one_iff, toInt_eq_toNat_of_lt_half h0, show (8#32).toInt = 8 from by decide] at h8
  omega

theorem andi_one (a b : BitVec 1) : IntOp.andi a b = 1#1 ↔ a = 1#1 ∧ b = 1#1 := by revert a b; decide

/-- The precondition, of each choice. -/
theorem chosen_lt (a0 : IVec Cert.Pre_chosen.S16384x2 32) (a1 : IVec Cert.Pre_chosen.S36352x512 32)
    (a2 a3 : FVec F Cert.Pre_chosen.S8192x3584 .bf16) (a4 : FVec F Cert.Pre_chosen.S28672x1024 .bf16)
    (h : Cert.Pre_chosen.fn (F := F) a0 a1 a2 a3 a4 = fun _ => 1#1) (i : Cert.Pre_chosen.S16384x2.Idx) : (a0 i).toNat < 8 := by
  have pre := congrFun h (fun a => a.elim0)
  haveI : Subsingleton Cert.Pre_chosen.S_.Idx := ⟨fun x y => funext fun a => a.elim0⟩
  have e := Host.reduce_andi_all _ _ _ _ _ pre i
  have e' := (andi_one _ _).1 e
  exact word_lt _ e'.1 e'.2

variable (m : (ℓ : Loc nD τ sig) → Buf (Elt F) ℓ)

/-- The number of tiles of each expert. -/
abbrev T : ℕ → ℕ := Plan.tiles (choices m 0)

/-- The second table's number, and the used tiles. -/
theorem nu_word : nuOf (tbl m) = BitVec.ofNat 32 (Plan.ends (T m) 7) := (nuOf_eq (tbl m)).trans (nu_at m 0)

theorem nu_int : (nuOf (tbl m)).toInt = Plan.ends (T m) 7 := by
  rw [nu_word, toInt_ofNat_of_lt (w := 32) (ends_lt m 0 7 (by omega))]

theorem used_iff (a : ℕ) : Used (nuOf (tbl m)) a ↔ Plan.own (T m) a < 8 := by
  unfold Used
  rw [nu_int, ← Plan.lt_last_iff]
  omega

/-- A used tile's expert. -/
theorem te_own (a : ℕ) (ha : a < 71) (h : Plan.own (T m) a < 8) : (teOf (tbl m) a).toNat = Plan.own (T m) a := by
  rw [show teOf (tbl m) a = V m 0 main_v49 (ix1 ⟨a, ha⟩) from teOf_eq (tbl m) ⟨a, ha⟩, (te_at m 0 ⟨a, ha⟩).1 ((Plan.lt_last_iff _ _).mpr h),
    BitVec.toNat_ofNat, Nat.mod_eq_of_lt (by show Plan.own (T m) a < _; omega)]

/-- What the run needs of the tables. -/
theorem pre_tables (h : ∀ c : Dev nD, (Cert.Pre_chosen.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) = fun _ => 1#1) :
    (∀ a < 71, (teOf (tbl m) a).toNat < 8) ∧ 1 ≤ (nuOf (tbl m)).toInt := by
  refine ⟨fun a ha => ?_, ?_⟩
  · rw [show teOf (tbl m) a = V m 0 main_v49 (ix1 ⟨a, ha⟩) from teOf_eq (tbl m) ⟨a, ha⟩]
    exact (te_at m 0 ⟨a, ha⟩).2
  · rw [nu_int]
    have := Plan.last_pos (choices m 0) 0 (chosen_lt _ _ _ _ _ (h 0) _)
    exact_mod_cast this

end Cert.Experts

end
-- ==== Proof.ExpertsPay.lean ====
/-
The experts' call: what the body computes, read at an index over the extended reals, and the mathematics of one expert.
-/
module

public import proofs.«01_k».proof.Proof.Gen.KernelIdeal.Skeleton
public import Idealize.ShloMosaic.Lib.Pointwise

@[expose] public section

set_option maxRecDepth 16384

noncomputable section

namespace Cert.Experts

open Cert.KernelIdeal Cert.KernelIdeal.Gen
open Idealize.ShloMosaic Idealize.ShloMosaic.Pointwise

/-! ## One expert -/

/-- A gated unit of one row: the row `x` against the unit's two weight columns. -/
def unit (x a b : Fin 1024 → EReal) : EReal :=
  (∑ k, x k * a k) * Ideal.div 1 (1 + Ideal.exp (0 - ∑ k, x k * a k)) * ∑ k, x k * b k

theorem unit_congr {x x' a a' b b' : Fin 1024 → EReal} (hx : x = x') (ha : a = a') (hb : b = b') : unit x a b = unit x' a' b' := by
  rw [hx, ha, hb]

/-- A packed word's column `k`: the low halves are columns 0 … 511, the high halves columns 512 … 1023. -/
def unpack (x : Fin 512 → BitVec 32) (k : Fin 1024) : EReal :=
  if h : k.val < 512 then Ideal.ofBits .f32 (x ⟨k.val, h⟩ <<< 16) else Ideal.ofBits .f32 (x ⟨k.val - 512, by omega⟩ &&& 4294901760#32)

/-- One row through one expert: `(silu(x W1) * (x W3)) W2` at a column. -/
def mlp (x : Fin 1024 → EReal) (w1 w3 : Fin 1024 → Fin 3584 → EReal) (w2 : Fin 3584 → EReal) : EReal :=
  ∑ q, unit x (fun k => w1 k q) (fun k => w3 k q) * w2 q

/-- The sum over the experts' width is the sum over its two halves. -/
theorem sum_halves (f : Fin 3584 → EReal) :
    ∑ q, f q = (∑ q : Fin 1792, f ⟨0 * 1792 + q.val, by omega⟩) + ∑ q : Fin 1792, f ⟨1 * 1792 + q.val, by omega⟩ := by
  have h := Fin.sum_univ_add (a := 1792) (b := 1792) (f : Fin (1792 + 1792) → EReal)
  refine Eq.trans h ?_
  refine congrArg₂ _ (Finset.sum_congr rfl fun q _ => congrArg f (Fin.ext ?_)) (Finset.sum_congr rfl fun q _ => congrArg f (Fin.ext ?_))
  · show q.val = 0 * 1792 + q.val; omega
  · show 1792 + q.val = 1 * 1792 + q.val; omega

/-! ## The body's values at an index -/

theorem pay1_apply (acc : Vec Ideal S512x1024 .f32) (x : Vec Ideal S512x1024 .bf16) (w1 w3 : Vec Ideal S1x1024x1792 .bf16)
    (w2 : Vec Ideal S1x1792x1024 .bf16) (r : Fin 512) (j : Fin 1024) :
    k0_pay1 (F := Ideal) acc x w1 w3 w2 (ix2 r j)
      = acc (ix2 r j) + ∑ q : Fin 1792, unit (fun k => x (ix2 r k)) (fun k => w1 (ix3 0 k q)) (fun k => w3 (ix3 0 k q)) * w2 (ix3 0 q j) := by
  pointwise [k0_pay1]
  rfl

theorem pay3_apply (x : Vec Ideal S512x512 .i32) (r : Fin 512) (k : Fin 1024) :
    k0_pay3 (F := Ideal) x (ix2 r k) = unpack (fun l => x (ix2 r l)) k := by
  pointwise [k0_pay3]
  rfl

theorem pay4_apply (x : Vec Ideal S512x512 .i32) (r : Fin 512) (k : Fin 1024) :
    k0_pay4 (F := Ideal) x (ix2 r k) = unpack (fun l => x (ix2 r l)) k := by
  rw [← pay3_apply]
  pointwise [k0_pay4]

theorem pay5_apply (x : Vec Ideal S512x512 .i32) (w1 w3 : Vec Ideal S1x1024x1792 .bf16)
    (w2 : Vec Ideal S1x1792x1024 .bf16) (r : Fin 512) (j : Fin 1024) :
    k0_pay5 (F := Ideal) x w1 w3 w2 (ix2 r j)
      = ∑ q : Fin 1792, unit (unpack fun l => x (ix2 r l)) (fun k => w1 (ix3 0 k q)) (fun k => w3 (ix3 0 k q)) * w2 (ix3 0 q j) := by
  pointwise [k0_pay5]
  simp only [pay3_apply]
  rfl

theorem pay2_apply (r : Fin 512) (j : Fin 1024) : k0_pay2 (F := Ideal) (ix2 r j) = 0 := by
  pointwise [k0_pay2]

end Cert.Experts

end
-- ==== Proof.Trunk.lean ====
/-
The mathematics the trunk's calls share: one row scaled by its root mean square.
-/
module

public import proofs.«01_k».proof.Proof.ExpertsPay

@[expose] public section

noncomputable section

namespace Cert.Trunk

open Idealize.ShloMosaic

/-- One row divided by the root of its mean square (plus a small constant), times the gain `g`. -/
def norm (x g : Fin 1024 → EReal) (k : Fin 1024) : EReal :=
  x k * Ideal.rsqrt (Ideal.div (∑ l, x l * x l) (Ideal.ofBits FTy.f32 0x44800000#32) + Ideal.ofBits FTy.f32 0x358637BD#32) * g k

/-- One row through the dense feed-forward part: `x + (silu(u W1) * (u W3)) W2` at a column, `u` the row scaled. -/
def ffn (x g : Fin 1024 → EReal) (w1 w3 : Fin 1024 → Fin 2816 → EReal) (w2 : Fin 2816 → EReal) (j : Fin 1024) : EReal :=
  x j + ∑ q, Cert.Experts.unit (norm x g) (fun k => w1 k q) (fun k => w3 k q) * w2 q

/-- One row of the per-layer embedding: `x + sigmoid(u Wg) * (p Wp)` at a column, `u` the row scaled. -/
def embed (x g : Fin 1024 → EReal) (p : Fin 256 → EReal) (wg : Fin 1024 → EReal) (wp : Fin 256 → EReal) (j : Fin 1024) : EReal :=
  x j + Ideal.div 1 (1 + Ideal.exp (0 - ∑ k, norm x g k * wg k)) * ∑ l, p l * wp l

/-- One row of the merge of the two branches, at a column: `x + (sigmoid(ga) * (att Wa) + sigmoid(gb) * (hgo Wb)) Wo`. -/
def merge (att hgo : Fin 512 → EReal) (ga gb : Fin 1024 → EReal) (x : EReal) (wa wb : Fin 512 → Fin 1024 → EReal) (wo : Fin 1024 → EReal) : EReal :=
  x + ∑ k, (Ideal.div 1 (1 + Ideal.exp (0 - ga k)) * (∑ q, att q * wa q k) + Ideal.div 1 (1 + Ideal.exp (0 - gb k)) * (∑ q, hgo q * wb q k)) * wo k

/-- One row of the last embedding, at a column: the stream plus its two experts' rows, embedded, and scaled by its root mean square. -/
def last (x y0 y1 g : Fin 1024 → EReal) (p : Fin 256 → EReal) (wg : Fin 1024 → Fin 1024 → EReal) (wp : Fin 256 → Fin 1024 → EReal)
    (f : Fin 1024 → EReal) (j : Fin 1024) : EReal :=
  norm (fun q => embed (fun k => x k + y0 k + y1 k) g p (fun k => wg k q) (fun l => wp l q) q) f j

/-- One row of the input projection, at a column. -/
def proj (x g : Fin 1024 → EReal) (w : Fin 1024 → Fin 4864 → EReal) (j : Fin 4864) : EReal := ∑ k, norm x g k * w k j

/-- A row of 128 lanes with its two halves exchanged, at a lane. -/
def swapped (f : Fin 128 → EReal) (j : Fin 128) : EReal :=
  if h : j.val < 64 then f ⟨64 + j.val, by omega⟩ else f ⟨j.val - 64, by omega⟩

/-- The keys, the keys with swapped heads, the values, the values with swapped heads, of a projected row. -/
def kvOf (f : Fin 4864 → EReal) (j : Fin 512) : EReal :=
  if h : j.val < 128 then f ⟨512 + j.val, by omega⟩
  else if h : j.val - 128 < 128 then swapped (fun i => f ⟨512 + i.val, by omega⟩) ⟨j.val - 128, by omega⟩
  else if h : j.val - 128 - 128 < 128 then f ⟨640 + (j.val - 128 - 128), by omega⟩
  else swapped (fun i => f ⟨640 + i.val, by omega⟩) ⟨j.val - 128 - 128 - 128, by omega⟩

/-- The queries, inputs and gate inputs of the recurrence, of a projected row: the forget logits lie between them. -/
def hgOf (f : Fin 4864 → EReal) (j : Fin 1536) : EReal :=
  if h : j.val < 512 then f ⟨768 + j.val, by omega⟩ else f ⟨1280 + j.val, by omega⟩

/-- A sum over the width is the sum over its two groups. -/
theorem sum_groups (f : Fin 2816 → EReal) :
    ∑ q, f q = (∑ q : Fin 1536, f ⟨q.val, by omega⟩) + ∑ q : Fin 1280, f ⟨1536 + q.val, by omega⟩ := by
  refine Eq.trans (Fin.sum_univ_add (a := 1536) (b := 1280) (f : Fin (1536 + 1280) → EReal)) ?_
  exact congrArg₂ _ (Finset.sum_congr rfl fun q _ => congrArg f (Fin.ext rfl)) (Finset.sum_congr rfl fun q _ => congrArg f (Fin.ext rfl))

end Cert.Trunk

end
-- ==== Proof.MergeRef.lean ====
/-
The merge of the two branches: the reference's result read at an index over the extended reals.
-/
module

public import proofs.«01_k».proof.Proof.Gen.Reference6Ideal.Run
public import proofs.«01_k».proof.Proof.Trunk
public import Idealize.ShloMosaic.Lib.Pointwise

@[expose] public section

set_option maxRecDepth 16384

noncomputable section

namespace Cert.MergeRef

open Cert.Reference6Ideal Cert.Reference6Ideal.Gen Cert.Reference6Ideal.Value Cert.Trunk
open Idealize.ShloMosaic Idealize.ShloMosaic.TcCoe Idealize.ShloMosaic.Pointwise Idealize.ShloMosaic.StableHlo Idealize.SL.Sem

/-- The result array as a function of the argument arrays. -/
def outOf (z0 : S16384x512.Idx → EReal) (z1 : S16384x512.Idx → EReal) (z2 : S16384x1024.Idx → EReal) (z3 : S16384x1024.Idx → EReal) (z4 : S16384x1024.Idx → EReal) (z5 : S512x1024.Idx → EReal) (z6 : S512x1024.Idx → EReal) (z7 : S1024x1024.Idx → EReal) (i : S16384x1024.Idx) : EReal :=
  merge (fun q => z0 (ix2 (i 0) q)) (fun q => z1 (ix2 (i 0) q)) (fun k => z2 (ix2 (i 0) k)) (fun k => z3 (ix2 (i 0) k)) (z4 (ix2 (i 0) (i 1)))
    (fun q k => z5 (ix2 q k)) (fun q k => z6 (ix2 q k)) (fun k => z7 (ix2 k (i 1)))

variable (m : (ℓ : Loc nD τ sig) → Buf (Elt Ideal) ℓ)

/-- The reference's run, its result read. -/
theorem run (ρ : Dev nD → PrngReg) :
    θ_run defs (onTc (τ := τ) (main (F := Ideal))) ⟨m, fun _ => 0, ρ⟩ fun r => ∀ c : Dev nD,
    @Eq (S16384x1024.Idx → EReal) (r.2.mem ((c.tc : Thread nD τ).loc main_v22)) (outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  refine (θ_run defs _ _).mono (fun r h c => ⟨(h c).1.trans (funext fun (y : S16384x1024.Idx) => ?_), (h c).2⟩) (Value.run (F := Ideal) m ρ)
  obtain ⟨r, j, rfl⟩ : ∃ (r : Fin 16384) (j : Fin 1024), y = ix2 r j := ⟨y 0, y 1, eq_ix2 y⟩
  generalize m ((c.tc : Thread nD τ).loc main_arg0) = z0
  generalize m ((c.tc : Thread nD τ).loc main_arg1) = z1
  generalize m ((c.tc : Thread nD τ).loc main_arg2) = z2
  generalize m ((c.tc : Thread nD τ).loc main_arg3) = z3
  generalize m ((c.tc : Thread nD τ).loc main_arg4) = z4
  generalize m ((c.tc : Thread nD τ).loc main_arg5) = z5
  generalize m ((c.tc : Thread nD τ).loc main_arg6) = z6
  generalize m ((c.tc : Thread nD τ).loc main_arg7) = z7
  pointwise []
  simp only [← zero_sub]
  rfl

end Cert.MergeRef

end
-- ==== Proof.MergeValue.lean ====
/-
The merge of the two branches: the call's result array as a function of its arguments, over the extended reals.
-/
module

public import proofs.«01_k».proof.Proof.Gen.Kernel6Ideal.Value
public import proofs.«01_k».proof.Proof.MergeRef
public import Idealize.ShloMosaic.Lib.Pipeline.Value
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Merge

open Cert.Kernel6Ideal Cert.Kernel6Ideal.Gen Cert.Trunk Cert.Experts
open Idealize.ShloMosaic Idealize.ShloMosaic.TcCoe Idealize.ShloMosaic.Pointwise Idealize.SL.Sem
open Idealize.ShloMosaic.Pipeline (Dat Cfg Window)

theorem pay_apply (att hgo : Vec Ideal S512x512 .bf16) (ga gb : Vec Ideal S512x1024 .bf16) (h : Vec Ideal S512x1024 .f32)
    (wa wb : Vec Ideal S512x1024 .bf16) (wo : Vec Ideal S1024x1024 .bf16) (r : Fin 512) (j : Fin 1024) :
    @Eq EReal (k0_pay1 (F := Ideal) h (k0_pay2 (F := Ideal) att wa hgo wb ga gb wo) (ix2 r j))
      (merge (fun q => att (ix2 r q)) (fun q => hgo (ix2 r q)) (fun k => ga (ix2 r k)) (fun k => gb (ix2 r k)) (h (ix2 r j))
        (fun q k => wa (ix2 q k)) (fun q k => wb (ix2 q k)) (fun k => wo (ix2 k j))) := by
  pointwise [k0_pay1, k0_pay2]
  rfl

theorem out_apply (x0 x1 : Vec Ideal S512x512 .bf16) (x2 x3 : Vec Ideal S512x1024 .bf16) (x4 : Vec Ideal S512x1024 .f32)
    (x5 x6 : Vec Ideal S512x1024 .bf16) (x7 : Vec Ideal S1024x1024 .bf16) (r : Fin 512) (j : Fin 1024) :
    @Eq EReal (out0_8 (F := Ideal) x0 x1 x2 x3 x4 x5 x6 x7 (ix2 r j))
      (merge (fun q => x0 (ix2 r q)) (fun q => x1 (ix2 r q)) (fun k => x2 (ix2 r k)) (fun k => x3 (ix2 r k)) (x4 (ix2 r j))
        (fun q k => x5 (ix2 q k)) (fun q k => x6 (ix2 q k)) (fun k => x7 (ix2 k j))) := by
  unfold out0_8
  frame_out
  exact pay_apply _ _ _ _ _ _ _ _ r j

variable (m : (ℓ : Loc nD τ sig) → Buf (Elt Ideal) ℓ)

theorem pts : ∀ t : Fin cfg0.N, cc0_transform_0 (grid0.coords t) 0 = t.val ∧ cc0_transform_1 (grid0.coords t) 0 = t.val ∧ cc0_transform_2 (grid0.coords t) 0 = t.val ∧ cc0_transform_3 (grid0.coords t) 0 = t.val ∧ cc0_transform_4 (grid0.coords t) 0 = t.val ∧ cc0_transform_8 (grid0.coords t) 0 = t.val :=
  (by decide +kernel : ∀ t : Fin grid0.N, cc0_transform_0 (grid0.coords t) 0 = t.val ∧ cc0_transform_1 (grid0.coords t) 0 = t.val ∧ cc0_transform_2 (grid0.coords t) 0 = t.val ∧ cc0_transform_3 (grid0.coords t) 0 = t.val ∧ cc0_transform_4 (grid0.coords t) 0 = t.val ∧ cc0_transform_8 (grid0.coords t) 0 = t.val)

theorem V_v0 (c : Dev nD) (k : Fin 512) (q : Fin 1024) : V m c main_v0 (ix2 k q) = m ((c.tc : Thread nD τ).loc main_arg5) (ix2 k q) := by
  have h : V m c main_v0 = (truncf (F := Ideal) .bf16 (m ((c.tc : Thread nD τ).loc main_arg5) : FVec Ideal S512x1024 .f32) Facts₀.bitsLt_bf16_f32 : FVec Ideal S512x1024 .bf16) := by
    unfold V
    simp only [hostOps0]
    after_results_simp
  rw [h]
  rfl

theorem V_v1 (c : Dev nD) (k : Fin 512) (q : Fin 1024) : V m c main_v1 (ix2 k q) = m ((c.tc : Thread nD τ).loc main_arg6) (ix2 k q) := by
  have h : V m c main_v1 = (truncf (F := Ideal) .bf16 (m ((c.tc : Thread nD τ).loc main_arg6) : FVec Ideal S512x1024 .f32) Facts₀.bitsLt_bf16_f32 : FVec Ideal S512x1024 .bf16) := by
    unfold V
    simp only [hostOps0]
    after_results_simp
  rw [h]
  rfl

theorem V_v2 (c : Dev nD) (k : Fin 1024) (q : Fin 1024) : V m c main_v2 (ix2 k q) = m ((c.tc : Thread nD τ).loc main_arg7) (ix2 k q) := by
  have h : V m c main_v2 = (truncf (F := Ideal) .bf16 (m ((c.tc : Thread nD τ).loc main_arg7) : FVec Ideal S1024x1024 .f32) Facts₀.bitsLt_bf16_f32 : FVec Ideal S1024x1024 .bf16) := by
    unfold V
    simp only [hostOps0]
    after_results_simp
  rw [h]
  rfl

theorem iblk0_apply (c : Dev nD) (t : Fin cfg0.N) (r : Fin 512) (k : Fin 512) (R : Fin 16384) (hR : R.val = t.val * 512 + r.val) :
    iblk m c 0 t (ix2 r k) = m ((c.tc : Thread nD τ).loc main_arg0) (ix2 R k) := by
  refine Eq.trans ?_ (congrFun (V_main_arg0 m c) _)
  show V m c main_arg0 (((cfg0.win 0).blk t).view.emb (ix2 r k)) = _
  refine congrArg _ (funext fun a => Fin.ext ?_)
  fin_cases a
  · show cc0_transform_0 (grid0.coords t) 0 * 512 + 1 * r.val = R.val
    rw [(pts t).1]; omega
  · show 0 * 512 + 1 * k.val = k.val
    omega

theorem iblk1_apply (c : Dev nD) (t : Fin cfg0.N) (r : Fin 512) (k : Fin 512) (R : Fin 16384) (hR : R.val = t.val * 512 + r.val) :
    iblk m c 1 t (ix2 r k) = m ((c.tc : Thread nD τ).loc main_arg1) (ix2 R k) := by
  refine Eq.trans ?_ (congrFun (V_main_arg1 m c) _)
  show V m c main_arg1 (((cfg0.win 1).blk t).view.emb (ix2 r k)) = _
  refine congrArg _ (funext fun a => Fin.ext ?_)
  fin_cases a
  · show cc0_transform_1 (grid0.coords t) 0 * 512 + 1 * r.val = R.val
    rw [(pts t).2.1]; omega
  · show 0 * 512 + 1 * k.val = k.val
    omega

theorem iblk2_apply (c : Dev nD) (t : Fin cfg0.N) (r : Fin 512) (k : Fin 1024) (R : Fin 16384) (hR : R.val = t.val * 512 + r.val) :
    iblk m c 2 t (ix2 r k) = m ((c.tc : Thread nD τ).loc main_arg2) (ix2 R k) := by
  refine Eq.trans ?_ (congrFun (V_main_arg2 m c) _)
  show V m c main_arg2 (((cfg0.win 2).blk t).view.emb (ix2 r k)) = _
  refine congrArg _ (funext fun a => Fin.ext ?_)
  fin_cases a
  · show cc0_transform_2 (grid0.coords t) 0 * 512 + 1 * r.val = R.val
    rw [(pts t).2.2.1]; omega
  · show 0 * 1024 + 1 * k.val = k.val
    omega

theorem iblk3_apply (c : Dev nD) (t : Fin cfg0.N) (r : Fin 512) (k : Fin 1024) (R : Fin 16384) (hR : R.val = t.val * 512 + r.val) :
    iblk m c 3 t (ix2 r k) = m ((c.tc : Thread nD τ).loc main_arg3) (ix2 R k) := by
  refine Eq.trans ?_ (congrFun (V_main_arg3 m c) _)
  show V m c main_arg3 (((cfg0.win 3).blk t).view.emb (ix2 r k)) = _
  refine congrArg _ (funext fun a => Fin.ext ?_)
  fin_cases a
  · show cc0_transform_3 (grid0.coords t) 0 * 512 + 1 * r.val = R.val
    rw [(pts t).2.2.2.1]; omega
  · show 0 * 1024 + 1 * k.val = k.val
    omega

theorem iblk4_apply (c : Dev nD) (t : Fin cfg0.N) (r : Fin 512) (k : Fin 1024) (R : Fin 16384) (hR : R.val = t.val * 512 + r.val) :
    iblk m c 4 t (ix2 r k) = m ((c.tc : Thread nD τ).loc main_arg4) (ix2 R k) := by
  refine Eq.trans ?_ (congrFun (V_main_arg4 m c) _)
  show V m c main_arg4 (((cfg0.win 4).blk t).view.emb (ix2 r k)) = _
  refine congrArg _ (funext fun a => Fin.ext ?_)
  fin_cases a
  · show cc0_transform_4 (grid0.coords t) 0 * 512 + 1 * r.val = R.val
    rw [(pts t).2.2.2.2.1]; omega
  · show 0 * 1024 + 1 * k.val = k.val
    omega

theorem iblk5_apply (c : Dev nD) (t : Fin cfg0.N) (k : Fin 512) (q : Fin 1024) : iblk m c 5 t (ix2 k q) = m ((c.tc : Thread nD τ).loc main_arg5) (ix2 k q) := by
  refine Eq.trans ?_ (V_v0 m c k q)
  show V m c main_v0 (((cfg0.win 5).blk t).view.emb (ix2 k q)) = _
  refine congrArg _ (funext fun a => Fin.ext ?_)
  fin_cases a
  · show 0 * 512 + 1 * k.val = k.val
    omega
  · show 0 * 1024 + 1 * q.val = q.val
    omega

theorem iblk6_apply (c : Dev nD) (t : Fin cfg0.N) (k : Fin 512) (q : Fin 1024) : iblk m c 6 t (ix2 k q) = m ((c.tc : Thread nD τ).loc main_arg6) (ix2 k q) := by
  refine Eq.trans ?_ (V_v1 m c k q)
  show V m c main_v1 (((cfg0.win 6).blk t).view.emb (ix2 k q)) = _
  refine congrArg _ (funext fun a => Fin.ext ?_)
  fin_cases a
  · show 0 * 512 + 1 * k.val = k.val
    omega
  · show 0 * 1024 + 1 * q.val = q.val
    omega

theorem iblk7_apply (c : Dev nD) (t : Fin cfg0.N) (k : Fin 1024) (q : Fin 1024) : iblk m c 7 t (ix2 k q) = m ((c.tc : Thread nD τ).loc main_arg7) (ix2 k q) := by
  refine Eq.trans ?_ (V_v2 m c k q)
  show V m c main_v2 (((cfg0.win 7).blk t).view.emb (ix2 k q)) = _
  refine congrArg _ (funext fun a => Fin.ext ?_)
  fin_cases a
  · show 0 * 1024 + 1 * k.val = k.val
    omega
  · show 0 * 1024 + 1 * q.val = q.val
    omega

theorem emb_out (t : Fin cfg0.N) (r : Fin 512) (j : Fin 1024) (R : Fin 16384) (hR : R.val = t.val * 512 + r.val) :
    ((cfg0.win 8).blk t).view.emb (ix2 r j) = ix2 R j := by
  refine funext fun a => Fin.ext ?_
  fin_cases a
  · show cc0_transform_8 (grid0.coords t) 0 * 512 + 1 * r.val = R.val
    rw [(pts t).2.2.2.2.2]; omega
  · show 0 * 1024 + 1 * j.val = j.val
    omega

/-- The call's result array. -/
theorem final (c : Dev nD) :
    (dats m 0 c).arrAt 8 cfg0.N = Cert.MergeRef.outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_cover 8 _ (fun t hf => ?_) fun (i : S16384x1024.Idx) => ?_
  · have hN : t.val < 32 := lt_of_lt_of_eq t.isLt (show cfg0.N = 32 from N_0)
    refine funext fun (y : S512x1024.Idx) => ?_
    obtain ⟨r, j, rfl⟩ : ∃ (r : Fin 512) (j : Fin 1024), y = ix2 r j := ⟨y 0, y 1, eq_ix2 y⟩
    have hr := r.isLt
    have hR : t.val * 512 + r.val < 16384 := by omega
    show (dats m 0 c).after 8 t (ix2 r j) = Cert.MergeRef.outOf _ _ _ _ _ _ _ _ (((cfg0.win 8).blk t).view.emb (ix2 r j))
    rw [after0_8, emb_out t r j ⟨_, hR⟩ rfl]
    refine (out_apply _ _ _ _ _ _ _ _ r j).trans ?_
    simp only [iblk0_apply m c t _ _ ⟨_, hR⟩ rfl, iblk1_apply m c t _ _ ⟨_, hR⟩ rfl, iblk2_apply m c t _ _ ⟨_, hR⟩ rfl, iblk3_apply m c t _ _ ⟨_, hR⟩ rfl, iblk4_apply m c t _ _ ⟨_, hR⟩ rfl, iblk5_apply, iblk6_apply, iblk7_apply]
    rfl
  · obtain ⟨R, j, rfl⟩ : ∃ (R : Fin 16384) (j : Fin 1024), i = ix2 R j := ⟨i 0, i 1, eq_ix2 i⟩
    have hR := R.isLt
    have hlt : R.val / 512 < cfg0.N := by rw [show cfg0.N = 32 from N_0]; omega
    refine ⟨⟨R.val / 512, hlt⟩, flush0_8 _, ?_⟩
    rw [← emb_out ⟨R.val / 512, hlt⟩ ⟨R.val % 512, by omega⟩ j R (by show R.val = R.val / 512 * 512 + R.val % 512; omega)]
    exact ((cfg0.win 8).blk _).view.emb_mem_set _

/-- The call's run: its result array, and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v3) = Cert.MergeRef.outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun _ h c => ⟨(h c).1.trans (final m c), (h c).2⟩) (Value.run_blocks m ρ)

end Cert.Merge

end
-- ==== Proof.MergeClaim.lean ====
/-
The merge of the two branches: the claims. The runs of the kernel as printed, of the kernel over the reals and of the reference,
and the equality of the two results.
-/
module

public import proofs.«01_k».proof.Defs
public import proofs.«01_k».proof.Proof.Gen.Kernel6
public import proofs.«01_k».proof.Proof.Gen.Kernel6.Frame
public import proofs.«01_k».proof.Proof.MergeRef
public import proofs.«01_k».proof.Proof.MergeValue

@[expose] public section

noncomputable section

namespace Cert.MergeClaim

open Idealize.ShloMosaic Idealize.SL.Sem

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem algebraic : Cert.algebraic_Kernel6Ideal_Reference6Ideal := by
  intro m g m' g' _ ha
  refine ⟨_, Cert.Merge.run m g, (θ_run Cert.Reference6Ideal.defs _ _).mono (fun r hr c => ⟨(hr c).1.trans ?_, (hr c).2⟩) (Cert.MergeRef.run m' g')⟩
  obtain ⟨h0, h1, h2, h3, h4, h5, h6, h7⟩ := ha c
  exact ((congrArg (fun x => Cert.MergeRef.outOf x _ _ _ _ _ _ _) h0).trans
    ((congrArg (fun x => Cert.MergeRef.outOf _ x _ _ _ _ _ _) h1).trans
    ((congrArg (fun x => Cert.MergeRef.outOf _ _ x _ _ _ _ _) h2).trans
    ((congrArg (fun x => Cert.MergeRef.outOf _ _ _ x _ _ _ _) h3).trans
    ((congrArg (fun x => Cert.MergeRef.outOf _ _ _ _ x _ _ _) h4).trans
    ((congrArg (fun x => Cert.MergeRef.outOf _ _ _ _ _ x _ _) h5).trans
    ((congrArg (fun x => Cert.MergeRef.outOf _ _ _ _ _ _ x _) h6).trans
    (congrArg (fun x => Cert.MergeRef.outOf _ _ _ _ _ _ _ x) h7))))))))

end Cert.MergeClaim

end
-- ==== Proof.FinalRef.lean ====
/-
The last embedding, with the two experts' rows before it and the final norm after it: the reference's result read at an index over the extended reals.
-/
module

public import proofs.«01_k».proof.Proof.Gen.Reference5Ideal.Run
public import proofs.«01_k».proof.Proof.Trunk
public import Idealize.ShloMosaic.Lib.Pointwise

@[expose] public section

set_option maxRecDepth 16384

noncomputable section

namespace Cert.FinalRef

open Cert.Reference5Ideal Cert.Reference5Ideal.Gen Cert.Reference5Ideal.Value Cert.Trunk
open Idealize.ShloMosaic Idealize.ShloMosaic.TcCoe Idealize.ShloMosaic.Pointwise Idealize.ShloMosaic.StableHlo Idealize.SL.Sem

/-- The result array as a function of the argument arrays. -/
def outOf (z0 : S16384x1024.Idx → EReal) (z1 : S32768x1024.Idx → EReal) (z2 : S16384x256.Idx → EReal) (z3 : S1024.Idx → EReal) (z4 : S1024x1024.Idx → EReal) (z5 : S256x1024.Idx → EReal) (z6 : S1024.Idx → EReal) (i : S16384x1024.Idx) : EReal :=
  last (fun k => z0 (ix2 (i 0) k)) (fun k => z1 (ix2 (⟨(i 0).val * 2, by have h : (i 0).val < 16384 := (i 0).isLt; omega⟩ : Fin 32768) k))
    (fun k => z1 (ix2 (⟨(i 0).val * 2 + 1, by have h : (i 0).val < 16384 := (i 0).isLt; omega⟩ : Fin 32768) k))
    (fun k => z3 (ix1 k)) (fun l => z2 (ix2 (i 0) l)) (fun k q => z4 (ix2 k q)) (fun l q => z5 (ix2 l q)) (fun k => z6 (ix1 k)) (i 1)

/-- The stream plus each token's two experts' rows. -/
def sums (z0 : S16384x1024.Idx → EReal) (z1 : S32768x1024.Idx → EReal) : S16384x1024.Idx → EReal := fun i =>
  z0 i + z1 (ix2 (⟨(i 0).val * 2, by have h : (i 0).val < 16384 := (i 0).isLt; omega⟩ : Fin 32768) (i 1))
    + z1 (ix2 (⟨(i 0).val * 2 + 1, by have h : (i 0).val < 16384 := (i 0).isLt; omega⟩ : Fin 32768) (i 1))

theorem sums_eq (z0 : FVec Ideal S16384x1024 .f32) (z1 : FVec Ideal S32768x1024 .f32) :
    addf z0 (Host.reduceAdd (shapeCast S16384x2x1024 z1 Facts₀.shapeCasts_S32768x1024_S16384x2x1024) (constant S_ .f32 0x00000000#32)
      Facts₀.reducesTo_S16384x2x1024_S16384x1024_d1 Facts₀.h_S_) = sums z0 z1 := by
  funext i
  obtain ⟨r, j, rfl⟩ : ∃ (r : Fin 16384) (j : Fin 1024), i = ix2 r j := ⟨i 0, i 1, eq_ix2 i⟩
  have hr := r.isLt
  pointwise [sums]
  rw [Fin.sum_univ_two, ← add_assoc]
  pointwise []

/-- The rows scaled by their root mean square and by `g`. -/
def scaled (s : FVec Ideal S16384x1024 .f32) (g : FVec Ideal S1024 .f32) : FVec Ideal S16384x1024 .f32 :=
  mulf (mulf s (broadcastInDim S16384x1024 ![0, 1] Facts₀.bcast_S16384x1_S16384x1024_0_1 (Host.rsqrt (addf (Host.divf
    (broadcastInDim S16384x1 ![0] Facts₀.bcast_S16384_S16384x1_0 (Host.reduceAdd (mulf s s) (constant S_ .f32 0x00000000#32) Facts₀.reducesTo_S16384x1024_S16384_d1 Facts₀.h_S_))
    (broadcastInDim S16384x1 ![] Facts₀.bcast_S_S16384x1 (constant S_ .f32 0x44800000#32)))
    (broadcastInDim S16384x1 ![] Facts₀.bcast_S_S16384x1 (constant S_ .f32 0x358637BD#32))))))
    (broadcastInDim S16384x1024 ![0, 1] Facts₀.bcast_S1x1024_S16384x1024_0_1 (broadcastInDim S1x1024 ![1] Facts₀.bcast_S1024_S1x1024_1 g))

theorem scaled_apply (s : FVec Ideal S16384x1024 .f32) (g : FVec Ideal S1024 .f32) (r : Fin 16384) (j : Fin 1024) :
    @Eq EReal (scaled s g (ix2 r j)) (norm (fun k => s (ix2 r k)) (fun k => g (ix1 k)) j) := by
  pointwise [scaled]
  rfl

/-- The stream after the embedding, of the stream before it and the rows it gates by. -/
def embedded (s u : FVec Ideal S16384x1024 .f32) (z2 : FVec Ideal S16384x256 .f32) (z4 : FVec Ideal S1024x1024 .f32) (z5 : FVec Ideal S256x1024 .f32) :
    FVec Ideal S16384x1024 .f32 :=
  addf s (mulf (Host.divf (broadcastInDim S16384x1024 ![] Facts₀.bcast_S_S16384x1024 (constant S_ .f32 0x3F800000#32))
    (addf (broadcastInDim S16384x1024 ![] Facts₀.bcast_S_S16384x1024 (constant S_ .f32 0x3F800000#32))
      (Host.exp (Host.negf (Host.dotGeneral dot_S16384x1024_S1024x1024_S16384x1024_1_0_0_1_n_n none u z4)))))
    (Host.dotGeneral dot_S16384x256_S256x1024_S16384x1024_1_0_0_1_n_n none z2 z5))

theorem embedded_apply (s u : FVec Ideal S16384x1024 .f32) (z2 : FVec Ideal S16384x256 .f32) (z4 : FVec Ideal S1024x1024 .f32) (z5 : FVec Ideal S256x1024 .f32)
    (r : Fin 16384) (j : Fin 1024) :
    @Eq EReal (embedded s u z2 z4 z5 (ix2 r j))
      (s (ix2 r j) + Ideal.div 1 (1 + Ideal.exp (0 - ∑ k, u (ix2 r k) * z4 (ix2 k j))) * ∑ l, z2 (ix2 r l) * z5 (ix2 l j)) := by
  pointwise [embedded]
  simp only [← zero_sub]

/-- The result's term, in these words. -/
theorem res_eq (m : (ℓ : Loc nD τ sig) → Buf (Elt Ideal) ℓ) (c : Dev nD) : res_main_v38 m c =
    scaled (embedded (sums (m ((c.tc : Thread nD τ).loc main_arg0)) (m ((c.tc : Thread nD τ).loc main_arg1)))
      (scaled (sums (m ((c.tc : Thread nD τ).loc main_arg0)) (m ((c.tc : Thread nD τ).loc main_arg1))) (m ((c.tc : Thread nD τ).loc main_arg3)))
      (m ((c.tc : Thread nD τ).loc main_arg2)) (m ((c.tc : Thread nD τ).loc main_arg4)) (m ((c.tc : Thread nD τ).loc main_arg5))) (m ((c.tc : Thread nD τ).loc main_arg6)) := by
  rw [← sums_eq]
  unfold res_main_v38 scaled embedded
  rfl

variable (m : (ℓ : Loc nD τ sig) → Buf (Elt Ideal) ℓ)

/-- The reference's run, its result read. -/
theorem run (ρ : Dev nD → PrngReg) :
    θ_run defs (onTc (τ := τ) (main (F := Ideal))) ⟨m, fun _ => 0, ρ⟩ fun r => ∀ c : Dev nD,
    @Eq (S16384x1024.Idx → EReal) (r.2.mem ((c.tc : Thread nD τ).loc main_v38)) (outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine (θ_run defs _ _).mono (fun r h c => ⟨(h c).1.trans (funext fun (y : S16384x1024.Idx) => ?_), (h c).2⟩) (Value.run (F := Ideal) m ρ)
  obtain ⟨r, j, rfl⟩ : ∃ (r : Fin 16384) (j : Fin 1024), y = ix2 r j := ⟨y 0, y 1, eq_ix2 y⟩
  refine (congrFun (res_eq m c) _).trans ((scaled_apply _ _ r j).trans ?_)
  simp only [embedded_apply, scaled_apply]
  rfl

end Cert.FinalRef

end
-- ==== Proof.FinalValue.lean ====
/-
The last embedding, with the two experts' rows before it and the final norm after it: the call's result array as a function of its arguments, over the extended reals.
-/
module

public import proofs.«01_k».proof.Proof.Gen.Kernel5Ideal.Value
public import proofs.«01_k».proof.Proof.FinalRef
public import Idealize.ShloMosaic.Lib.Pipeline.Value
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Final

open Cert.Kernel5Ideal Cert.Kernel5Ideal.Gen Cert.Trunk Cert.Experts
open Idealize.ShloMosaic Idealize.ShloMosaic.TcCoe Idealize.ShloMosaic.Pointwise Idealize.SL.Sem
open Idealize.ShloMosaic.Pipeline (Dat Cfg Window)

theorem sum_apply (x : Vec Ideal S512x1024 .f32) (y0 y1 : Vec Ideal S512x1024 .f32) (r : Fin 512) (k : Fin 1024) :
    @Eq EReal (k0_pay2 (F := Ideal) x y0 y1 (ix2 r k)) (x (ix2 r k) + y0 (ix2 r k) + y1 (ix2 r k)) := by
  pointwise [k0_pay2]

theorem gate_apply (x y0 y1 : Vec Ideal S512x1024 .f32) (g : Vec Ideal S1x1024 .f32) (wg : Vec Ideal S1024x1024 .bf16) (r : Fin 512) (j : Fin 1024) :
    @Eq EReal (k0_pay3 (F := Ideal) x y0 y1 g wg (ix2 r j))
      (Ideal.div 1 (1 + Ideal.exp (0 - ∑ k, norm (fun k => x (ix2 r k) + y0 (ix2 r k) + y1 (ix2 r k)) (fun k => g (ix2 0 k)) k * wg (ix2 k j)))) := by
  pointwise [k0_pay3, k0_pay2]
  rfl

theorem proj_apply (p : Vec Ideal S512x256 .f32) (wp : Vec Ideal S256x1024 .bf16) (r : Fin 512) (j : Fin 1024) :
    @Eq EReal (k0_pay4 (F := Ideal) p wp (ix2 r j)) (∑ l, p (ix2 r l) * wp (ix2 l j)) := by
  pointwise [k0_pay4]

theorem norm_apply (x e q : FVec Ideal S512x1024 .f32) (f : Vec Ideal S1x1024 .f32) (r : Fin 512) (j : Fin 1024) :
    @Eq EReal (k0_pay1 (F := Ideal) x e q f (ix2 r j))
      (norm (fun k => x (ix2 r k) + e (ix2 r k) * q (ix2 r k)) (fun k => f (ix2 0 k)) j) := by
  pointwise [k0_pay1]
  rfl

theorem ld_lo (x : Vec Ideal S512x2048 .f32) (r : Fin 512) (k : Fin 1024) :
    View.ld x r0_1 (ix2 r k) = x (ix2 r (⟨k.val, by omega⟩ : Fin 2048)) := by
  show x (r0_1.emb (ix2 r k)) = _
  refine congrArg x (funext fun a => Fin.ext ?_)
  fin_cases a
  · show 0 + 1 * r.val = r.val
    omega
  · show 0 + 1 * k.val = k.val
    omega

theorem ld_hi (x : Vec Ideal S512x2048 .f32) (r : Fin 512) (k : Fin 1024) :
    View.ld x r0_2 (ix2 r k) = x (ix2 r (⟨1024 + k.val, by omega⟩ : Fin 2048)) := by
  show x (r0_2.emb (ix2 r k)) = _
  refine congrArg x (funext fun a => Fin.ext ?_)
  fin_cases a
  · show 0 + 1 * r.val = r.val
    omega
  · show 1024 + 1 * k.val = 1024 + k.val
    omega

theorem out_apply (x0 : Vec Ideal S512x1024 .f32) (x1 : Vec Ideal S512x2048 .f32) (x2 : Vec Ideal S512x256 .f32) (x3 : Vec Ideal S1x1024 .f32)
    (x4 : Vec Ideal S1024x1024 .bf16) (x5 : Vec Ideal S256x1024 .bf16) (x6 : Vec Ideal S1x1024 .f32) (r : Fin 512) (j : Fin 1024) :
    @Eq EReal (out0_7 (F := Ideal) x0 x1 x2 x3 x4 x5 x6 (ix2 r j))
      (last (fun k => x0 (ix2 r k)) (fun k => x1 (ix2 r (⟨k.val, by omega⟩ : Fin 2048))) (fun k => x1 (ix2 r (⟨1024 + k.val, by omega⟩ : Fin 2048)))
        (fun k => x3 (ix2 0 k)) (fun l => x2 (ix2 r l)) (fun k q => x4 (ix2 k q)) (fun l q => x5 (ix2 l q)) (fun k => x6 (ix2 0 k)) j) := by
  unfold out0_7
  frame_out
  refine (norm_apply _ _ _ _ r j).trans ?_
  simp only [sum_apply, gate_apply, proj_apply]
  exact congrArg₂ (fun a b : Fin 1024 → EReal => last (fun k => x0 (ix2 r k)) a b (fun k => x3 (ix2 0 k)) (fun l => x2 (ix2 r l)) (fun k q => x4 (ix2 k q))
    (fun l q => x5 (ix2 l q)) (fun k => x6 (ix2 0 k)) j) (funext fun k => ld_lo x1 r k) (funext fun k => ld_hi x1 r k)

variable (m : (ℓ : Loc nD τ sig) → Buf (Elt Ideal) ℓ)

theorem pts : ∀ t : Fin cfg0.N, cc0_transform_0 (grid0.coords t) 0 = t.val ∧ cc0_transform_1 (grid0.coords t) 0 = t.val ∧ cc0_transform_2 (grid0.coords t) 0 = t.val ∧ cc0_transform_7 (grid0.coords t) 0 = t.val :=
  (by decide +kernel : ∀ t : Fin grid0.N, cc0_transform_0 (grid0.coords t) 0 = t.val ∧ cc0_transform_1 (grid0.coords t) 0 = t.val ∧ cc0_transform_2 (grid0.coords t) 0 = t.val ∧ cc0_transform_7 (grid0.coords t) 0 = t.val)

theorem V_v0_eq (c : Dev nD) : V m c main_v0 = shapeCast S16384x2048 (m ((c.tc : Thread nD τ).loc main_arg1)) Facts₀.shapeCasts_S32768x1024_S16384x2048 := by
  unfold V
  simp only [hostOps0]
  after_results_simp
  rfl

/-- A row of the pairs' array: column `k` lies in the first expert's row or in the second's. -/
def pairAt (y : S32768x1024.Idx → EReal) (R : Fin 16384) (k : Fin 2048) : EReal :=
  y (ix2 (⟨R.val * 2 + k.val / 1024, by omega⟩ : Fin 32768) (⟨k.val % 1024, by omega⟩ : Fin 1024))

theorem pair_read (y : S32768x1024.Idx → EReal) (R : Fin 16384) (k : Fin 2048) :
    shapeCast S16384x2048 y Facts₀.shapeCasts_S32768x1024_S16384x2048 (ix2 R k) = pairAt y R k := by
  refine (Pointwise.shapeCast_apply y _ _).trans ?_
  unfold pairAt
  refine congrArg y (Shape.reshapeEquiv_eq_of_vals _ _ _ _ _ (rowMajor_val2 _ 1024 rfl) (rowMajor_val2 _ 2048 rfl) ?_)
  show (R.val * 2 + k.val / 1024) * 1024 + k.val % 1024 = R.val * 2048 + k.val
  omega

theorem pairAt_lo (y : S32768x1024.Idx → EReal) (R : Fin 16384) (k : Fin 1024) :
    pairAt y R (⟨k.val, by omega⟩ : Fin 2048) = y (ix2 (⟨R.val * 2, by omega⟩ : Fin 32768) k) := by
  unfold pairAt
  have hk := k.isLt
  refine congrArg y (funext fun a => Fin.ext ?_)
  fin_cases a
  · show R.val * 2 + k.val / 1024 = R.val * 2
    omega
  · show k.val % 1024 = k.val
    omega

theorem pairAt_hi (y : S32768x1024.Idx → EReal) (R : Fin 16384) (k : Fin 1024) :
    pairAt y R (⟨1024 + k.val, by omega⟩ : Fin 2048) = y (ix2 (⟨R.val * 2 + 1, by omega⟩ : Fin 32768) k) := by
  unfold pairAt
  have hk := k.isLt
  refine congrArg y (funext fun a => Fin.ext ?_)
  fin_cases a
  · show R.val * 2 + (1024 + k.val) / 1024 = R.val * 2 + 1
    omega
  · show (1024 + k.val) % 1024 = k.val
    omega

theorem V_v0 (c : Dev nD) (R : Fin 16384) (k : Fin 2048) :
    V m c main_v0 (ix2 R k) = pairAt (m ((c.tc : Thread nD τ).loc main_arg1)) R k := by
  refine (congrFun (V_v0_eq m c) _).trans (pair_read _ R k)

theorem V_v1 (c : Dev nD) (k : Fin 1024) : V m c main_v1 (ix2 0 k) = m ((c.tc : Thread nD τ).loc main_arg3) (ix1 k) := by
  have h : V m c main_v1 = shapeCast S1x1024 (m ((c.tc : Thread nD τ).loc main_arg3)) Facts₀.shapeCasts_S1024_S1x1024 := by
    unfold V
    simp only [hostOps0]
    after_results_simp
    rfl
  rw [h]
  pointwise []

theorem V_v2 (c : Dev nD) (k : Fin 1024) (q : Fin 1024) : V m c main_v2 (ix2 k q) = m ((c.tc : Thread nD τ).loc main_arg4) (ix2 k q) := by
  have h : V m c main_v2 = (truncf (F := Ideal) .bf16 (m ((c.tc : Thread nD τ).loc main_arg4) : FVec Ideal S1024x1024 .f32) Facts₀.bitsLt_bf16_f32 : FVec Ideal S1024x1024 .bf16) := by
    unfold V
    simp only [hostOps0]
    after_results_simp
  rw [h]
  rfl

theorem V_v3 (c : Dev nD) (k : Fin 256) (q : Fin 1024) : V m c main_v3 (ix2 k q) = m ((c.tc : Thread nD τ).loc main_arg5) (ix2 k q) := by
  have h : V m c main_v3 = (truncf (F := Ideal) .bf16 (m ((c.tc : Thread nD τ).loc main_arg5) : FVec Ideal S256x1024 .f32) Facts₀.bitsLt_bf16_f32 : FVec Ideal S256x1024 .bf16) := by
    unfold V
    simp only [hostOps0]
    after_results_simp
  rw [h]
  rfl

theorem V_v4 (c : Dev nD) (k : Fin 1024) : V m c main_v4 (ix2 0 k) = m ((c.tc : Thread nD τ).loc main_arg6) (ix1 k) := by
  have h : V m c main_v4 = shapeCast S1x1024 (m ((c.tc : Thread nD τ).loc main_arg6)) Facts₀.shapeCasts_S1024_S1x1024 := by
    unfold V
    simp only [hostOps0]
    after_results_simp
    rfl
  rw [h]
  pointwise []

theorem iblk0_apply (c : Dev nD) (t : Fin cfg0.N) (r : Fin 512) (k : Fin 1024) (R : Fin 16384) (hR : R.val = t.val * 512 + r.val) :
    iblk m c 0 t (ix2 r k) = m ((c.tc : Thread nD τ).loc main_arg0) (ix2 R k) := by
  refine Eq.trans ?_ (congrFun (V_main_arg0 m c) _)
  show V m c main_arg0 (((cfg0.win 0).blk t).view.emb (ix2 r k)) = _
  refine congrArg _ (funext fun a => Fin.ext ?_)
  fin_cases a
  · show cc0_transform_0 (grid0.coords t) 0 * 512 + 1 * r.val = R.val
    rw [(pts t).1]; omega
  · show 0 * 1024 + 1 * k.val = k.val
    omega

theorem iblk1_apply (c : Dev nD) (t : Fin cfg0.N) (r : Fin 512) (k : Fin 2048) (R : Fin 16384) (hR : R.val = t.val * 512 + r.val) :
    iblk m c 1 t (ix2 r k) = pairAt (m ((c.tc : Thread nD τ).loc main_arg1)) R k := by
  refine Eq.trans ?_ (V_v0 m c R k)
  show V m c main_v0 (((cfg0.win 1).blk t).view.emb (ix2 r k)) = _
  refine congrArg _ (funext fun a => Fin.ext ?_)
  fin_cases a
  · show cc0_transform_1 (grid0.coords t) 0 * 512 + 1 * r.val = R.val
    rw [(pts t).2.1]; omega
  · show 0 * 2048 + 1 * k.val = k.val
    omega

theorem iblk2_apply (c : Dev nD) (t : Fin cfg0.N) (r : Fin 512) (k : Fin 256) (R : Fin 16384) (hR : R.val = t.val * 512 + r.val) :
    iblk m c 2 t (ix2 r k) = m ((c.tc : Thread nD τ).loc main_arg2) (ix2 R k) := by
  refine Eq.trans ?_ (congrFun (V_main_arg2 m c) _)
  show V m c main_arg2 (((cfg0.win 2).blk t).view.emb (ix2 r k)) = _
  refine congrArg _ (funext fun a => Fin.ext ?_)
  fin_cases a
  · show cc0_transform_2 (grid0.coords t) 0 * 512 + 1 * r.val = R.val
    rw [(pts t).2.2.1]; omega
  · show 0 * 256 + 1 * k.val = k.val
    omega

theorem iblk3_apply (c : Dev nD) (t : Fin cfg0.N) (k : Fin 1024) : iblk m c 3 t (ix2 0 k) = m ((c.tc : Thread nD τ).loc main_arg3) (ix1 k) := by
  refine Eq.trans ?_ (V_v1 m c k)
  show V m c main_v1 (((cfg0.win 3).blk t).view.emb (ix2 0 k)) = _
  refine congrArg _ (funext fun a => Fin.ext ?_)
  fin_cases a
  · show 0 * 1 + 1 * 0 = 0
    omega
  · show 0 * 1024 + 1 * k.val = k.val
    omega

theorem iblk4_apply (c : Dev nD) (t : Fin cfg0.N) (k : Fin 1024) (q : Fin 1024) : iblk m c 4 t (ix2 k q) = m ((c.tc : Thread nD τ).loc main_arg4) (ix2 k q) := by
  refine Eq.trans ?_ (V_v2 m c k q)
  show V m c main_v2 (((cfg0.win 4).blk t).view.emb (ix2 k q)) = _
  refine congrArg _ (funext fun a => Fin.ext ?_)
  fin_cases a
  · show 0 * 1024 + 1 * k.val = k.val
    omega
  · show 0 * 1024 + 1 * q.val = q.val
    omega

theorem iblk5_apply (c : Dev nD) (t : Fin cfg0.N) (k : Fin 256) (q : Fin 1024) : iblk m c 5 t (ix2 k q) = m ((c.tc : Thread nD τ).loc main_arg5) (ix2 k q) := by
  refine Eq.trans ?_ (V_v3 m c k q)
  show V m c main_v3 (((cfg0.win 5).blk t).view.emb (ix2 k q)) = _
  refine congrArg _ (funext fun a => Fin.ext ?_)
  fin_cases a
  · show 0 * 256 + 1 * k.val = k.val
    omega
  · show 0 * 1024 + 1 * q.val = q.val
    omega

theorem iblk6_apply (c : Dev nD) (t : Fin cfg0.N) (k : Fin 1024) : iblk m c 6 t (ix2 0 k) = m ((c.tc : Thread nD τ).loc main_arg6) (ix1 k) := by
  refine Eq.trans ?_ (V_v4 m c k)
  show V m c main_v4 (((cfg0.win 6).blk t).view.emb (ix2 0 k)) = _
  refine congrArg _ (funext fun a => Fin.ext ?_)
  fin_cases a
  · show 0 * 1 + 1 * 0 = 0
    omega
  · show 0 * 1024 + 1 * k.val = k.val
    omega

theorem emb_out (t : Fin cfg0.N) (r : Fin 512) (j : Fin 1024) (R : Fin 16384) (hR : R.val = t.val * 512 + r.val) :
    ((cfg0.win 7).blk t).view.emb (ix2 r j) = ix2 R j := by
  refine funext fun a => Fin.ext ?_
  fin_cases a
  · show cc0_transform_7 (grid0.coords t) 0 * 512 + 1 * r.val = R.val
    rw [(pts t).2.2.2]; omega
  · show 0 * 1024 + 1 * j.val = j.val
    omega

/-- The call's result array. -/
theorem final (c : Dev nD) :
    (dats m 0 c).arrAt 7 cfg0.N = Cert.FinalRef.outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_cover 7 _ (fun t hf => ?_) fun (i : S16384x1024.Idx) => ?_
  · have hN : t.val < 32 := lt_of_lt_of_eq t.isLt (show cfg0.N = 32 from N_0)
    refine funext fun (y : S512x1024.Idx) => ?_
    obtain ⟨r, j, rfl⟩ : ∃ (r : Fin 512) (j : Fin 1024), y = ix2 r j := ⟨y 0, y 1, eq_ix2 y⟩
    have hr := r.isLt
    have hR : t.val * 512 + r.val < 16384 := by omega
    show (dats m 0 c).after 7 t (ix2 r j) = Cert.FinalRef.outOf _ _ _ _ _ _ _ (((cfg0.win 7).blk t).view.emb (ix2 r j))
    rw [after0_7, emb_out t r j ⟨_, hR⟩ rfl]
    refine (out_apply _ _ _ _ _ _ _ r j).trans ?_
    simp only [iblk0_apply m c t _ _ ⟨_, hR⟩ rfl, iblk1_apply m c t _ _ ⟨_, hR⟩ rfl, iblk2_apply m c t _ _ ⟨_, hR⟩ rfl, iblk3_apply, iblk4_apply, iblk5_apply, iblk6_apply, pairAt_lo, pairAt_hi]
    rfl
  · obtain ⟨R, j, rfl⟩ : ∃ (R : Fin 16384) (j : Fin 1024), i = ix2 R j := ⟨i 0, i 1, eq_ix2 i⟩
    have hR := R.isLt
    have hlt : R.val / 512 < cfg0.N := by rw [show cfg0.N = 32 from N_0]; omega
    refine ⟨⟨R.val / 512, hlt⟩, flush0_7 _, ?_⟩
    rw [← emb_out ⟨R.val / 512, hlt⟩ ⟨R.val % 512, by omega⟩ j R (by show R.val = R.val / 512 * 512 + R.val % 512; omega)]
    exact ((cfg0.win 7).blk _).view.emb_mem_set _

/-- The call's run: its result array, and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v5) = Cert.FinalRef.outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(h c).1.trans (final m c), (h c).2⟩) (Value.run_blocks m ρ)

end Cert.Final

end
-- ==== Proof.FinalClaim.lean ====
/-
The last embedding, with the two experts' rows before it and the final norm after it: the claims. The runs of the kernel as printed, of the kernel over the reals and of the reference,
and the equality of the two results.
-/
module

public import proofs.«01_k».proof.Defs
public import proofs.«01_k».proof.Proof.Gen.Kernel5
public import proofs.«01_k».proof.Proof.Gen.Kernel5.Frame
public import proofs.«01_k».proof.Proof.FinalRef
public import proofs.«01_k».proof.Proof.FinalValue

@[expose] public section

noncomputable section

namespace Cert.FinalClaim

open Idealize.ShloMosaic Idealize.SL.Sem

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem algebraic : Cert.algebraic_Kernel5Ideal_Reference5Ideal := by
  intro m g m' g' _ ha
  refine ⟨_, Cert.Final.run m g, (θ_run Cert.Reference5Ideal.defs _ _).mono (fun r hr c => ⟨(hr c).1.trans ?_, (hr c).2⟩) (Cert.FinalRef.run m' g')⟩
  obtain ⟨h0, h1, h2, h3, h4, h5, h6⟩ := ha c
  exact ((congrArg (fun x => Cert.FinalRef.outOf x _ _ _ _ _ _) h0).trans
    ((congrArg (fun x => Cert.FinalRef.outOf _ x _ _ _ _ _) h1).trans
    ((congrArg (fun x => Cert.FinalRef.outOf _ _ x _ _ _ _) h2).trans
    ((congrArg (fun x => Cert.FinalRef.outOf _ _ _ x _ _ _) h3).trans
    ((congrArg (fun x => Cert.FinalRef.outOf _ _ _ _ x _ _) h4).trans
    ((congrArg (fun x => Cert.FinalRef.outOf _ _ _ _ _ x _) h5).trans
    (congrArg (fun x => Cert.FinalRef.outOf _ _ _ _ _ _ x) h6)))))))

end Cert.FinalClaim

end
-- ==== Proof.AttnSpec.lean ====
/-
The attention call: one query against its block's keys, as a function of the extended reals.
-/
module

public import proofs.«01_k».proof.Proof.Trunk
public import Idealize.ShloMosaic.Lib.Pointwise

@[expose] public section

set_option maxRecDepth 16384

noncomputable section

namespace Cert.Attn

open Idealize.ShloMosaic Idealize.ShloMosaic.TcCoe Idealize.ShloMosaic.Pointwise Idealize.SL.Sem

/-- Query `r` of a block sees key `j` of the block before and the block itself: at most 127 positions back, and no key before the sequence. -/
def Seen (n r j : ℕ) : Prop := (j ≤ r + 128 ∧ r < j) ∧ (128 ≤ j ∨ 0 < n)

instance (n r j : ℕ) : Decidable (Seen n r j) := inferInstanceAs (Decidable ((_ ∧ _) ∧ (_ ∨ _)))

/-- A query's score at a key, −∞ where it does not see it. -/
def score (p : Prop) [Decidable p] (q k : Fin 64 → EReal) (b : EReal) : EReal :=
  if p then (∑ x, q x * k x) * Ideal.ofBits FTy.f32 0x3E000000#32 + b else ⊥

/-- The largest of the scores and the sink. -/
def top (s : Fin 256 → EReal) (z : EReal) : EReal := max (Finset.fold max (Ideal.ofBits FTy.f32 0xFF800000#32) s Finset.univ) z

/-- The values weighted by the scores' exponentials, over the exponentials' sum and the sink's. -/
def attend (s v : Fin 256 → EReal) (z : EReal) : EReal :=
  Ideal.div (∑ j, Ideal.exp (s j - top s z) * v j) (∑ j, Ideal.exp (s j - top s z) + Ideal.exp (z - top s z))

theorem exp_bot : Ideal.exp (⊥ : EReal) = 0 := rfl

/-- A value whose score is −∞ does not count. -/
theorem attend_congr {s s' v v' : Fin 256 → EReal} {z z' : EReal} (hs : s = s') (hz : z = z') (hv : ∀ j, s j = ⊥ ∨ v j = v' j) :
    attend s v z = attend s' v' z' := by
  subst hs hz
  unfold attend
  refine congrArg (fun a => Ideal.div a _) (Finset.sum_congr rfl fun j _ => ?_)
  rcases hv j with h | h
  · rw [h, EReal.bot_sub, exp_bot, zero_mul, zero_mul]
  · rw [h]

theorem score_congr {p p' : Prop} [Decidable p] [Decidable p'] {q q' k k' : Fin 64 → EReal} {b b' : EReal} (hp : p ↔ p')
    (h : p → q = q' ∧ k = k' ∧ b = b') : score p q k b = score p' q' k' b' := by
  unfold score
  by_cases hp' : p
  · obtain ⟨rfl, rfl, rfl⟩ := h hp'
    rw [if_pos hp', if_pos (hp.mp hp')]
  · rw [if_neg hp', if_neg fun h' => hp' (hp.mpr h')]

theorem score_not {p : Prop} [Decidable p] (q k : Fin 64 → EReal) (b : EReal) (h : ¬ p) : score p q k b = ⊥ := if_neg h

theorem select_score {c : BitVec 1} {p : Prop} [Decidable p] (hc : c = if p then 1#1 else 0#1) (q k : Fin 64 → EReal) (b w : EReal) (hw : w = ⊥) :
    Scalar.select c ((∑ x, q x * k x) * Ideal.ofBits FTy.f32 0x3E000000#32 + b) w = score p q k b := by
  subst hc hw
  unfold score
  by_cases h : p
  · rw [if_pos h, if_pos h]; rfl
  · rw [if_neg h, if_neg h]; rfl

theorem back : ∀ e : Fin 383, IntOp.cmpi CmpIPredicate.sge (BitVec.ofNat 32 e.val - 127#32) 0#32 = (if 127 ≤ e.val then 1#1 else 0#1)
    ∧ IntOp.cmpi CmpIPredicate.slt (BitVec.ofNat 32 e.val - 127#32) 128#32 = (if e.val < 255 then 1#1 else 0#1) := by decide +kernel

theorem andi_bits (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem ori_bits (p q : Prop) [Decidable p] [Decidable q] :
    IntOp.ori (if p then 1#1 else 0#1) (if q then 1#1 else 0#1) = if p ∨ q then 1#1 else 0#1 := by
  by_cases hp : p <;> by_cases hq : q <;> simp [hp, hq, IntOp.ori]

theorem dist_eq (r : Fin 128) (j : Fin 256) :
    IntOp.subi (IntOp.addi (BitVec.ofNat 32 r.val) 128#32) (BitVec.ofNat 32 j.val) = BitVec.ofNat 32 (r.val + 255 - j.val) - 127#32 := by
  have hr := r.isLt
  have hj := j.isLt
  show BitVec.ofNat 32 r.val + 128#32 - BitVec.ofNat 32 j.val = _
  bv_omega

/-- The window's bit: at most 127 positions back. -/
theorem window_bit (r : Fin 128) (j : Fin 256) :
    IntOp.andi (IntOp.cmpi CmpIPredicate.sge (IntOp.subi (IntOp.addi (BitVec.ofNat 32 r.val) 128#32) (BitVec.ofNat 32 j.val)) 0#32)
      (IntOp.cmpi CmpIPredicate.slt (IntOp.subi (IntOp.addi (BitVec.ofNat 32 r.val) 128#32) (BitVec.ofNat 32 j.val)) 128#32)
    = if (j.val ≤ r.val + 128 ∧ r.val < j.val) then 1#1 else 0#1 := by
  have hr := r.isLt
  have hj := j.isLt
  rw [dist_eq]
  have h := back ⟨r.val + 255 - j.val, by omega⟩
  dsimp only at h
  rw [h.1, h.2, andi_bits]
  refine if_congr ?_ rfl rfl
  omega

theorem half : ∀ j : Fin 256, IntOp.cmpi CmpIPredicate.sge (BitVec.ofNat 32 j.val) 128#32 = (if 128 ≤ j.val then 1#1 else 0#1) := by decide +kernel

theorem later : ∀ n : Fin 32, Scalar.cmpi CmpIPredicate.sgt (BitVec.ofNat 32 n.val) 0#32 = (if 0 < n.val then 1#1 else 0#1) := by decide +kernel

theorem pos : ∀ e : Fin 4224, IntOp.cmpi CmpIPredicate.sge (BitVec.ofNat 32 e.val - 128#32) 0#32 = (if 128 ≤ e.val then 1#1 else 0#1) := by decide +kernel

/-- The kernel's bit. -/
theorem seen_bit (n : Fin 32) (r : Fin 128) (j : Fin 256) :
    IntOp.andi (IntOp.andi (IntOp.cmpi CmpIPredicate.sge (IntOp.subi (IntOp.addi (BitVec.ofNat 32 r.val) 128#32) (BitVec.ofNat 32 j.val)) 0#32)
      (IntOp.cmpi CmpIPredicate.slt (IntOp.subi (IntOp.addi (BitVec.ofNat 32 r.val) 128#32) (BitVec.ofNat 32 j.val)) 128#32))
      (IntOp.ori (IntOp.cmpi CmpIPredicate.sge (BitVec.ofNat 32 j.val) 128#32) (Scalar.cmpi CmpIPredicate.sgt (BitVec.ofNat 32 n.val) 0#32))
    = if Seen n.val r.val j.val then 1#1 else 0#1 := by
  rw [window_bit, half, later, ori_bits, andi_bits]
  exact if_congr Iff.rfl rfl rfl

/-- The reference's bit. -/
theorem seen_bit' (n : Fin 32) (r : Fin 128) (j : Fin 256) :
    IntOp.andi (IntOp.andi (IntOp.cmpi CmpIPredicate.sge (IntOp.subi (IntOp.addi (BitVec.ofNat 32 r.val) 128#32) (BitVec.ofNat 32 j.val)) 0#32)
      (IntOp.cmpi CmpIPredicate.slt (IntOp.subi (IntOp.addi (BitVec.ofNat 32 r.val) 128#32) (BitVec.ofNat 32 j.val)) 128#32))
      (IntOp.cmpi CmpIPredicate.sge (IntOp.addi (IntOp.subi (IntOp.muli (BitVec.ofNat 32 n.val) 128#32) 128#32) (BitVec.ofNat 32 j.val)) 0#32)
    = if Seen n.val r.val j.val then 1#1 else 0#1 := by
  have hn := n.isLt
  have hj := j.isLt
  have e : IntOp.addi (IntOp.subi (IntOp.muli (BitVec.ofNat 32 n.val) 128#32) 128#32) (BitVec.ofNat 32 j.val) = BitVec.ofNat 32 (n.val * 128 + j.val) - 128#32 := by
    show BitVec.ofNat 32 n.val * 128#32 - 128#32 + BitVec.ofNat 32 j.val = _
    bv_omega
  have h := pos ⟨n.val * 128 + j.val, by omega⟩
  dsimp only at h
  rw [window_bit, e, h, andi_bits]
  refine if_congr ?_ rfl rfl
  unfold Seen
  refine and_congr Iff.rfl ?_
  omega

/-- The result array as a function of the argument arrays. -/
def outOf (z0 : (⟨2, ![16384, 512]⟩ : Shape).Idx → EReal) (z1 z2 : (⟨2, ![16384, 128]⟩ : Shape).Idx → EReal) (z3 : (⟨1, ![8]⟩ : Shape).Idx → EReal)
    (z4 : (⟨3, ![8, 128, 256]⟩ : Shape).Idx → EReal) (R : Fin 16384) (C : Fin 512) : EReal :=
  attend
    (fun j => score (Seen (R.val / 128 % 32) (R.val % 128) j.val)
      (fun x => z0 (ix2 R (⟨C.val / 64 * 64 + x.val, by omega⟩ : Fin 512)))
      (fun x => z1 (ix2 (⟨R.val / 128 * 128 + j.val - 128, by omega⟩ : Fin 16384) (⟨C.val / 64 / 4 * 64 + x.val, by omega⟩ : Fin 128)))
      (z4 (ix3 (⟨C.val / 64, by omega⟩ : Fin 8) (⟨R.val % 128, by omega⟩ : Fin 128) j)))
    (fun j => z2 (ix2 (⟨R.val / 128 * 128 + j.val - 128, by omega⟩ : Fin 16384) (⟨C.val / 64 / 4 * 64 + C.val % 64, by omega⟩ : Fin 128)))
    (z3 (ix1 (⟨C.val / 64, by omega⟩ : Fin 8)))

end Cert.Attn

end
-- ==== Proof.AttnRef.lean ====
/-
The attention call: the reference's result read at an index over the extended reals.
-/
module

public import proofs.«01_k».proof.Proof.Gen.Reference7Ideal.Run
public import proofs.«01_k».proof.Proof.AttnSpec
public import Idealize.ShloMosaic.Lib.Pointwise

@[expose] public section

set_option maxRecDepth 16384

noncomputable section

namespace Cert.AttnRef

open Cert.Reference7Ideal Cert.Reference7Ideal.Gen Cert.Reference7Ideal.Value Cert.Attn
open Idealize.ShloMosaic Idealize.ShloMosaic.TcCoe Idealize.ShloMosaic.Pointwise Idealize.ShloMosaic.StableHlo Idealize.SL.Sem

/-- Each block's keys (or values): the block before and the block itself, zeros before the sequence, a head for each query head. -/
def band (z : FVec Ideal S16384x128 .bf16) : FVec Ideal S4x32x256x8x64 .f32 :=
  shapeCast _ (broadcastInDim S4x32x256x2x4x64 ![0, 1, 2, 3, 5] Facts₀.bcast_S4x32x256x2x64_S4x32x256x2x4x64_0_1_2_3_5 (concatenate S4x32x256x2x64 2 [⟨S4x32x128x2x64, (extractStridedSlice S4x32x128x2x64 ![0, 0, 0, 0, 0] (shapeCast _ (pad S4x4224x2x64 ![0, 128, 0, 0] ![0, 0, 0, 0] ![0, 0, 0, 0] (shapeCast _ (extf .f32 z Facts₀.bitsLt_bf16_f32) Facts₀.shapeCasts_S16384x128_S4x4096x2x64) (sitofp .f32 (constantI S_ 32 0#32)) Facts₀.pads_S4x4096x2x64_S4x4224x2x64_000_12800_000_000 Facts₀.h_S_) Facts₀.shapeCasts_S4x4224x2x64_S4x33x128x2x64) Facts₀.slices_S4x33x128x2x64_S4x32x128x2x64_0_0_0_0_0)⟩, ⟨S4x32x128x2x64, (extractStridedSlice S4x32x128x2x64 ![0, 1, 0, 0, 0] (shapeCast _ (pad S4x4224x2x64 ![0, 128, 0, 0] ![0, 0, 0, 0] ![0, 0, 0, 0] (shapeCast _ (extf .f32 z Facts₀.bitsLt_bf16_f32) Facts₀.shapeCasts_S16384x128_S4x4096x2x64) (sitofp .f32 (constantI S_ 32 0#32)) Facts₀.pads_S4x4096x2x64_S4x4224x2x64_000_12800_000_000 Facts₀.h_S_) Facts₀.shapeCasts_S4x4224x2x64_S4x33x128x2x64) Facts₀.slices_S4x33x128x2x64_S4x32x128x2x64_0_1_0_0_0)⟩] Facts₀.concatenates_S4x32x128x2x64_S4x32x128x2x64_S4x32x256x2x64_d2)) Facts₀.shapeCasts_S4x32x256x2x4x64_S4x32x256x8x64

/-- Which keys a query sees. -/
def mask : IVec S4x32x8x128x256 1 :=
  broadcastInDim S4x32x8x128x256 ![0, 1, 2, 3, 4] Facts₀.bcast_S1x32x1x128x256_S4x32x8x128x256_0_1_2_3_4 (broadcastInDim S1x32x1x128x256 ![1, 3, 4] Facts₀.bcast_S32x128x256_S1x32x1x128x256_1_3_4 (andi (broadcastInDim S32x128x256 ![0, 1, 2] Facts₀.bcast_S1x128x256_S32x128x256_0_1_2 (broadcastInDim S1x128x256 ![1, 2] Facts₀.bcast_S128x256_S1x128x256_1_2 (andi (cmpi .sge (subi (broadcastInDim S128x256 ![0, 1] Facts₀.bcast_S128x1_S128x256_0_1 (addi (broadcastInDim S128x1 ![0] Facts₀.bcast_S128_S128x1_0 (iotaInDim S128 32 0)) (broadcastInDim S128x1 ![] Facts₀.bcast_S_S128x1 (constantI S_ 32 128#32)))) (broadcastInDim S128x256 ![0, 1] Facts₀.bcast_S1x256_S128x256_0_1 (broadcastInDim S1x256 ![1] Facts₀.bcast_S256_S1x256_1 (iotaInDim S256 32 0)))) (broadcastInDim S128x256 ![] Facts₀.bcast_S_S128x256 (constantI S_ 32 0#32))) (cmpi .slt (subi (broadcastInDim S128x256 ![0, 1] Facts₀.bcast_S128x1_S128x256_0_1 (addi (broadcastInDim S128x1 ![0] Facts₀.bcast_S128_S128x1_0 (iotaInDim S128 32 0)) (broadcastInDim S128x1 ![] Facts₀.bcast_S_S128x1 (constantI S_ 32 128#32)))) (broadcastInDim S128x256 ![0, 1] Facts₀.bcast_S1x256_S128x256_0_1 (broadcastInDim S1x256 ![1] Facts₀.bcast_S256_S1x256_1 (iotaInDim S256 32 0)))) (broadcastInDim S128x256 ![] Facts₀.bcast_S_S128x256 (constantI S_ 32 128#32)))))) (broadcastInDim S32x128x256 ![0, 1, 2] Facts₀.bcast_S32x1x256_S32x128x256_0_1_2 (cmpi .sge (addi (broadcastInDim S32x1x256 ![0, 1, 2] Facts₀.bcast_S32x1x1_S32x1x256_0_1_2 (subi (muli (broadcastInDim S32x1x1 ![0] Facts₀.bcast_S32_S32x1x1_0 (iotaInDim S32 32 0)) (broadcastInDim S32x1x1 ![] Facts₀.bcast_S_S32x1x1 (constantI S_ 32 128#32))) (broadcastInDim S32x1x1 ![] Facts₀.bcast_S_S32x1x1 (constantI S_ 32 128#32)))) (broadcastInDim S32x1x256 ![0, 1, 2] Facts₀.bcast_S1x1x256_S32x1x256_0_1_2 (broadcastInDim S1x1x256 ![1, 2] Facts₀.bcast_S1x256_S1x1x256_1_2 (broadcastInDim S1x256 ![1] Facts₀.bcast_S256_S1x256_1 (iotaInDim S256 32 0))))) (broadcastInDim S32x1x256 ![] Facts₀.bcast_S_S32x1x256 (constantI S_ 32 0#32))))))

/-- The scores, −∞ at a key that a query does not see. -/
def scores (q : FVec Ideal S16384x512 .bf16) (k : FVec Ideal S4x32x256x8x64 .f32) (b : FVec Ideal S8x128x256 .f32) : FVec Ideal S4x32x8x128x256 .f32 :=
  select mask (addf (mulf (Host.dotGeneral dot_S4x32x128x8x64_S4x32x256x8x64_S4x32x8x128x256_4_4_2_2_013_013 none (shapeCast _ (extf .f32 q Facts₀.bitsLt_bf16_f32) Facts₀.shapeCasts_S16384x512_S4x32x128x8x64) k) (broadcastInDim S4x32x8x128x256 ![] Facts₀.bcast_S_S4x32x8x128x256 (constant S_ .f32 0x3E000000#32))) (broadcastInDim S4x32x8x128x256 ![0, 1, 2, 3, 4] Facts₀.bcast_S1x1x8x128x256_S4x32x8x128x256_0_1_2_3_4 (broadcastInDim S1x1x8x128x256 ![2, 3, 4] Facts₀.bcast_S8x128x256_S1x1x8x128x256_2_3_4 b))) (broadcastInDim S4x32x8x128x256 ![] Facts₀.bcast_S_S4x32x8x128x256 (id (constant S_ .f32 0xFF800000#32)))

/-- The largest of a query's scores. -/
def peak (s : FVec Ideal S4x32x8x128x256 .f32) : FVec Ideal S4x32x8x128 .f32 :=
  Host.reduce FloatOps.maximumf s (constant S_ .f32 0xFF800000#32) Facts₀.reducesTo_S4x32x8x128x256_S4x32x8x128_d4 Facts₀.h_S_

/-- The largest of a query's scores and its head's sink. -/
def tops (s : FVec Ideal S4x32x8x128x256 .f32) (z : FVec Ideal S8 .f32) : FVec Ideal S4x32x8x128x1 .f32 :=
  maximumf (broadcastInDim S4x32x8x128x1 ![0, 1, 2, 3] Facts₀.bcast_S4x32x8x128_S4x32x8x128x1_0_1_2_3 (peak s)) (broadcastInDim S4x32x8x128x1 ![0, 1, 2, 3, 4] Facts₀.bcast_S1x1x8x1x1_S4x32x8x128x1_0_1_2_3_4 (broadcastInDim S1x1x8x1x1 ![2] Facts₀.bcast_S8_S1x1x8x1x1_2 z))

/-- The unscaled weights. -/
def weights (s : FVec Ideal S4x32x8x128x256 .f32) (t : FVec Ideal S4x32x8x128x1 .f32) : FVec Ideal S4x32x8x128x256 .f32 :=
  Host.exp (subf s (broadcastInDim S4x32x8x128x256 ![0, 1, 2, 3, 4] Facts₀.bcast_S4x32x8x128x1_S4x32x8x128x256_0_1_2_3_4 t))

/-- The weighted values, over the weights' sum. -/
def mixed (s : FVec Ideal S4x32x8x128x256 .f32) (t : FVec Ideal S4x32x8x128x1 .f32) (v : FVec Ideal S4x32x256x8x64 .f32) (z : FVec Ideal S8 .f32) : FVec Ideal S16384x512 .bf16 :=
  truncf .bf16 (shapeCast _ (transpose S4x32x128x8x64 [0, 1, 3, 2, 4] (Host.divf (Host.dotGeneral dot_S4x32x8x128x256_S4x32x256x8x64_S4x32x8x128x64_4_2_3_4_012_013 none (weights s t) v) (broadcastInDim S4x32x8x128x64 ![0, 1, 2, 3, 4] Facts₀.bcast_S4x32x8x128x1_S4x32x8x128x64_0_1_2_3_4 (addf (broadcastInDim S4x32x8x128x1 ![0, 1, 2, 3] Facts₀.bcast_S4x32x8x128_S4x32x8x128x1_0_1_2_3 (Host.reduceAdd (weights s t) (constant S_ .f32 0x00000000#32) Facts₀.reducesTo_S4x32x8x128x256_S4x32x8x128_d4 Facts₀.h_S_)) (Host.exp (subf (broadcastInDim S4x32x8x128x1 ![0, 1, 2, 3, 4] Facts₀.bcast_S1x1x8x1x1_S4x32x8x128x1_0_1_2_3_4 (broadcastInDim S1x1x8x1x1 ![2] Facts₀.bcast_S8_S1x1x8x1x1_2 z)) t))))) Facts₀.transposes_S4x32x8x128x64_S4x32x128x8x64_0_1_3_2_4) Facts₀.shapeCasts_S4x32x128x8x64_S16384x512) Facts₀.bitsLt_bf16_f32

theorem res_eq (m : (ℓ : Loc nD τ sig) → Buf (Elt Ideal) ℓ) (c : Dev nD) : res_main_v77 m c =
    mixed (scores (m ((c.tc : Thread nD τ).loc main_arg0)) (band (m ((c.tc : Thread nD τ).loc main_arg1))) (m ((c.tc : Thread nD τ).loc main_arg4))) (tops (scores (m ((c.tc : Thread nD τ).loc main_arg0)) (band (m ((c.tc : Thread nD τ).loc main_arg1))) (m ((c.tc : Thread nD τ).loc main_arg4))) (m ((c.tc : Thread nD τ).loc main_arg3))) (band (m ((c.tc : Thread nD τ).loc main_arg2))) (m ((c.tc : Thread nD τ).loc main_arg3)) := by
  unfold res_main_v77 mixed weights tops peak scores mask band
  rfl

theorem max_last {n0 n1 n2 n3 n4 : ℕ} {u : Shape} (s : FVec Ideal ⟨5, ![n0, n1, n2, n3, n4]⟩ .f32) (z : FVec Ideal u .f32) (hu : 0 < u.numel)
    (H : (⟨5, ![n0, n1, n2, n3, n4]⟩ : Shape).ReducesTo [4] ⟨4, ![n0, n1, n2, n3]⟩) (b : Fin n0) (n : Fin n1) (h : Fin n2) (d : Fin n3) :
    Host.reduce (FloatOps.maximumf (F := Ideal)) s z H hu (ix4 b n h d)
      = Finset.fold max (z (Shape.Idx.first hu) : EReal) (fun x => s (ix5 b n h d x)) Finset.univ := by
  pointwise []

theorem band_apply (z : FVec Ideal S16384x128 .bf16) (b : Fin 4) (n : Fin 32) (j : Fin 256) (h : Fin 8) (d : Fin 64) (R : Fin 16384)
    (hR : R.val / 128 = b.val * 32 + n.val) (hj : 128 ≤ j.val ∨ 0 < n.val) :
    @Eq EReal (band z (ix5 b n j h d)) (z (ix2 (⟨R.val / 128 * 128 + j.val - 128, by omega⟩ : Fin 16384) (⟨h.val / 4 * 64 + d.val, by omega⟩ : Fin 128))) := by
  have hn := n.isLt
  have hh := h.isLt
  have hjj := j.isLt
  pointwise [band]
  by_cases h1 : j.val < 128
  · rw [dif_pos h1, dif_pos (show (128 ≤ n.val * 128 + j.val ∧ n.val * 128 + j.val - 128 < 4096) ∧ h.val / 4 < 2 by omega)]
    refine congrArg (fun a => z (ix2 a _)) (Fin.ext ?_)
    show b.val * 4096 + (n.val * 128 + j.val - 128) = R.val / 128 * 128 + j.val - 128
    omega
  · rw [dif_neg h1, dif_pos (show (128 ≤ (1 + n.val) * 128 + (j.val - 128) ∧ (1 + n.val) * 128 + (j.val - 128) - 128 < 4096) ∧ h.val / 4 < 2 by omega)]
    refine congrArg (fun a => z (ix2 a _)) (Fin.ext ?_)
    show b.val * 4096 + ((1 + n.val) * 128 + (j.val - 128) - 128) = R.val / 128 * 128 + j.val - 128
    omega

theorem mask_apply (b : Fin 4) (n : Fin 32) (h : Fin 8) (r : Fin 128) (j : Fin 256) : mask (ix5 b n h r j) = if Seen n.val r.val j.val then 1#1 else 0#1 := by
  refine Eq.trans ?_ (seen_bit' n r j)
  pointwise [mask]

theorem ofBits_bot : Ideal.ofBits FTy.f32 0xFF800000#32 = (⊥ : EReal) := by
  simp [Ideal.ofBits, Ideal.ieee]

theorem scores_apply (q : FVec Ideal S16384x512 .bf16) (k : FVec Ideal S4x32x256x8x64 .f32) (bb : FVec Ideal S8x128x256 .f32) (b : Fin 4) (n : Fin 32)
    (h : Fin 8) (r : Fin 128) (j : Fin 256) : @Eq EReal (scores q k bb (ix5 b n h r j))
      (score (Seen n.val r.val j.val) (fun x => q (ix2 (⟨b.val * 4096 + n.val * 128 + r.val, by omega⟩ : Fin 16384) (⟨h.val * 64 + x.val, by omega⟩ : Fin 512)))
        (fun x => k (ix5 b n j h x)) (bb (ix3 h r j))) := by
  refine Eq.trans ?_ (select_score (mask_apply b n h r j) _ _ _ _ ofBits_bot)
  pointwise [scores]
  rfl

theorem peak_first (s : FVec Ideal S4x32x8x128x256 .f32) (b : Fin 4) (n : Fin 32) (h : Fin 8) (r : Fin 128) :
    peak s (ix4 b n h r) = Finset.fold max ((constant (F := Ideal) S_ .f32 0xFF800000#32 : FVec Ideal S_ .f32) (Shape.Idx.first Facts₀.h_S_) : EReal) (fun j => s (ix5 b n h r j)) Finset.univ :=
  max_last s (constant S_ .f32 0xFF800000#32) Facts₀.h_S_ Facts₀.reducesTo_S4x32x8x128x256_S4x32x8x128_d4 b n h r

theorem up_read (w : FVec Ideal S4x32x8x128 .f32) (b : Fin 4) (n : Fin 32) (h : Fin 8) (r : Fin 128) :
    @Eq EReal (broadcastInDim S4x32x8x128x1 ![0, 1, 2, 3] Facts₀.bcast_S4x32x8x128_S4x32x8x128x1_0_1_2_3 w (ix5 b n h r 0)) (w (ix4 b n h r)) := by
  pointwise []

theorem sink_read (z : FVec Ideal S8 .f32) (b : Fin 4) (n : Fin 32) (h : Fin 8) (r : Fin 128) :
    @Eq EReal (broadcastInDim S4x32x8x128x1 ![0, 1, 2, 3, 4] Facts₀.bcast_S1x1x8x1x1_S4x32x8x128x1_0_1_2_3_4 (broadcastInDim S1x1x8x1x1 ![2] Facts₀.bcast_S8_S1x1x8x1x1_2 z) (ix5 b n h r 0)) (z (ix1 h)) := by
  pointwise []

theorem max_read (x y : FVec Ideal S4x32x8x128x1 .f32) (i : S4x32x8x128x1.Idx) : @Eq EReal (maximumf x y i) (max (x i) (y i)) := rfl

theorem tops_read (s : FVec Ideal S4x32x8x128x256 .f32) (z : FVec Ideal S8 .f32) (b : Fin 4) (n : Fin 32) (h : Fin 8) (r : Fin 128) :
    @Eq EReal (tops s z (ix5 b n h r 0)) (max (peak s (ix4 b n h r)) (z (ix1 h))) :=
  (max_read _ _ _).trans (congrArg₂ max (up_read _ b n h r) (sink_read z b n h r))

theorem tops_apply (s : FVec Ideal S4x32x8x128x256 .f32) (z : FVec Ideal S8 .f32) (b : Fin 4) (n : Fin 32) (h : Fin 8) (r : Fin 128) :
    @Eq EReal (tops s z (ix5 b n h r 0)) (top (fun j => s (ix5 b n h r j)) (z (ix1 h))) := by
  rw [tops_read, peak_first]
  rfl

theorem mixed_apply (s : FVec Ideal S4x32x8x128x256 .f32) (z : FVec Ideal S8 .f32) (v : FVec Ideal S4x32x256x8x64 .f32) (R : Fin 16384) (C : Fin 512)
    (b : Fin 4) (n : Fin 32) (h : Fin 8) (r : Fin 128) (d : Fin 64) (hb : b.val = R.val / 4096) (hn : n.val = R.val / 128 % 32) (hh : h.val = C.val / 64)
    (hr : r.val = R.val % 128) (hd : d.val = C.val % 64) :
    @Eq EReal (mixed s (tops s z) v z (ix2 R C)) (attend (fun j => s (ix5 b n h r j)) (fun j => v (ix5 b n j h d)) (z (ix1 h))) := by
  unfold attend
  rw [← tops_apply]
  generalize tops s z = t
  rw [show b = ⟨R.val / 4096, by omega⟩ from Fin.ext hb, show n = ⟨R.val / 128 % 32, by omega⟩ from Fin.ext hn, show h = ⟨C.val / 64, by omega⟩ from Fin.ext hh,
    show r = ⟨R.val % 128, by omega⟩ from Fin.ext hr, show d = ⟨C.val % 64, by omega⟩ from Fin.ext hd]
  pointwise [mixed, weights]

theorem value (z0 : FVec Ideal S16384x512 .bf16) (z1 z2 : FVec Ideal S16384x128 .bf16) (z3 : FVec Ideal S8 .f32) (z4 : FVec Ideal S8x128x256 .f32)
    (R : Fin 16384) (C : Fin 512) (b : Fin 4) (n : Fin 32) (h : Fin 8) (r : Fin 128) (d : Fin 64) (hb : b.val = R.val / 4096) (hn : n.val = R.val / 128 % 32)
    (hh : h.val = C.val / 64) (hr : r.val = R.val % 128) (hd : d.val = C.val % 64) :
    @Eq EReal (attend (fun j => scores z0 (band z1) z4 (ix5 b n h r j)) (fun j => band z2 (ix5 b n j h d)) (z3 (ix1 h))) (outOf z0 z1 z2 z3 z4 R C) := by
  have hR := R.isLt
  have hblk : R.val / 128 = b.val * 32 + n.val := by omega
  have eh : h = ⟨C.val / 64, by omega⟩ := Fin.ext hh
  have er : r = ⟨R.val % 128, by omega⟩ := Fin.ext hr
  unfold outOf
  refine attend_congr (funext fun j => ?_) (by rw [eh]) fun j => ?_
  · rw [scores_apply]
    refine score_congr (by rw [hn, hr]) fun hs => ⟨funext fun x => ?_, funext fun x => ?_, by rw [eh, er]⟩
    · have e1 : (⟨b.val * 4096 + n.val * 128 + r.val, by omega⟩ : Fin 16384) = R := Fin.ext (by dsimp only; omega)
      have e2 : (⟨h.val * 64 + x.val, by omega⟩ : Fin 512) = ⟨C.val / 64 * 64 + x.val, by omega⟩ := Fin.ext (by dsimp only; omega)
      rw [e1, e2]
    · rw [band_apply z1 b n j h x R hblk hs.2]
      refine congrArg (fun a => z1 (ix2 _ a)) (Fin.ext ?_)
      dsimp only
      omega
  · by_cases hs : Seen n.val r.val j.val
    · refine Or.inr ?_
      rw [band_apply z2 b n j h d R hblk hs.2]
      refine congrArg (fun a => z2 (ix2 _ a)) (Fin.ext ?_)
      dsimp only
      omega
    · refine Or.inl ?_
      rw [scores_apply, score_not _ _ _ hs]

variable (m : (ℓ : Loc nD τ sig) → Buf (Elt Ideal) ℓ)

/-- The reference's result, read. -/
theorem res_apply (c : Dev nD) (R : Fin 16384) (C : Fin 512) :
    @Eq EReal (res_main_v77 m c (ix2 R C)) (outOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) R C) := by
  rw [res_eq m c]
  exact (mixed_apply _ _ _ R C ⟨R.val / 4096, by omega⟩ ⟨R.val / 128 % 32, by omega⟩ ⟨C.val / 64, by omega⟩
    ⟨R.val % 128, by omega⟩ ⟨C.val % 64, by omega⟩ rfl rfl rfl rfl rfl).trans (value _ _ _ _ _ R C _ _ _ _ _ rfl rfl rfl rfl rfl)

/-- The reference's run, its result read. -/
theorem run (ρ : Dev nD → PrngReg) :
    θ_run defs (onTc (τ := τ) (main (F := Ideal))) ⟨m, fun _ => 0, ρ⟩ fun r => ∀ c : Dev nD,
    @Eq (S16384x512.Idx → EReal) (r.2.mem ((c.tc : Thread nD τ).loc main_v77)) (fun y => outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ⟨(h c).1.trans (funext fun (y : S16384x512.Idx) => ?_), (h c).2⟩) (Value.run (F := Ideal) m ρ)
  obtain ⟨r, j, rfl⟩ : ∃ (r : Fin 16384) (j : Fin 512), y = ix2 r j := ⟨y 0, y 1, eq_ix2 y⟩
  exact res_apply m c r j

end Cert.AttnRef

end
-- ==== Proof.AttnPay.lean ====
/-
The attention call: each head's block of the result, read at an index over the extended reals.
-/
module

public import proofs.«01_k».proof.Proof.Gen.Kernel7Ideal.Frame
public import proofs.«01_k».proof.Proof.AttnSpec

@[expose] public section

set_option maxRecDepth 16384

noncomputable section

namespace Cert.Attn

open Cert.Kernel7Ideal Cert.Kernel7Ideal.Gen
open Idealize.ShloMosaic Idealize.ShloMosaic.TcCoe Idealize.ShloMosaic.Pointwise Idealize.SL.Sem

theorem mask_bot : Named.named (F := Ideal) κ "mask" (φ := .f32) 0xF149F2CA#32 = (⊥ : EReal) := IdealRules.named_const.ideal_named_scalar _ _ _ _ rfl

/-- The bits of the keys seen. -/
theorem ok_apply (i : grid0.Coords) (r : Fin 128) (j : Fin 256) : k0_pay2 i (ix2 r j) = if Seen (i 1).val r.val j.val then 1#1 else 0#1 := by
  refine Eq.trans ?_ (seen_bit (i 1) r j)
  pointwise [k0_pay2]

theorem rows_apply (x y : Vec Ideal S128x128 .bf16) (j : Fin 256) (d : Fin 128) :
    @Eq EReal (k0_pay3 (F := Ideal) x y (ix2 j d))
      (if h : j.val < 128 then x (ix2 (⟨j.val, h⟩ : Fin 128) d) else y (ix2 (⟨j.val - 128, by omega⟩ : Fin 128) d)) := by
  pointwise [k0_pay3]

theorem rows_apply' (x y : Vec Ideal S128x128 .bf16) (j : Fin 256) (d : Fin 128) :
    @Eq EReal (k0_pay4 (F := Ideal) x y (ix2 j d))
      (if h : j.val < 128 then x (ix2 (⟨j.val, h⟩ : Fin 128) d) else y (ix2 (⟨j.val - 128, by omega⟩ : Fin 128) d)) := by
  pointwise [k0_pay4]

/-- A head's result, of the bits, the queries, the keys, the values, the bias and the sink. -/
def head (ok : IVec S128x256 1) (kb vb : FVec Ideal S256x128 .bf16) (q : Vec Ideal S128x64 .bf16) (b : Vec Ideal S1x128x256 .f32) (z : EReal)
    (col : Fin 64 → Fin 128) (r : Fin 128) (d : Fin 64) : EReal :=
  attend (fun j => Scalar.select (ok (ix2 r j)) ((∑ x, q (ix2 r x) * kb (ix2 j (col x))) * Ideal.ofBits FTy.f32 0x3E000000#32 + b (ix3 0 r j))
    (Named.named (F := Ideal) κ "mask" (φ := .f32) 0xF149F2CA#32)) (fun j => vb (ix2 j (col d))) z

abbrev lo (x : Fin 64) : Fin 128 := ⟨x.val, by omega⟩
abbrev hi (x : Fin 64) : Fin 128 := ⟨64 + x.val, by omega⟩

variable (i : grid0.Coords) (k1 k2 : Vec Ideal S128x128 .bf16) (ok : IVec S128x256 1) (kb vb : FVec Ideal S256x128 .bf16) (q : Vec Ideal S128x64 .bf16) (b : Vec Ideal S1x128x256 .f32) (z : EReal) (r : Fin 128) (d : Fin 64)

theorem head0 : @Eq EReal (k0_pay7 (F := Ideal) vb (k0_pay5 i k1 k2 q b) z (k0_pay6 i k1 k2 q b) (ix2 r d)) (head (k0_pay2 i) (k0_pay3 k1 k2) vb q b z lo r d) := by
  pointwise [k0_pay7, k0_pay5, k0_pay6]
  rfl

theorem head1 : @Eq EReal (k0_pay14 (F := Ideal) (k0_pay11 ok kb q b z) (k0_pay12 ok kb q b z) (k0_pay13 vb) (ix2 r d)) (head ok kb vb q b z lo r d) := by
  pointwise [k0_pay14, k0_pay13, k0_pay12, k0_pay11, k0_pay10, k0_pay9, k0_pay8]
  rfl

theorem head2 : @Eq EReal (k0_pay15 (F := Ideal) ok kb vb q b z (ix2 r d)) (head ok kb vb q b z lo r d) := by
  pointwise [k0_pay15]
  rfl

theorem head3 : @Eq EReal (k0_pay17 (F := Ideal) ok vb q (k0_pay16 kb) (constant S128x256 .f32 0x00000000#32) b z (ix2 r d)) (head ok kb vb q b z lo r d) := by
  pointwise [k0_pay17, k0_pay16]
  rfl

theorem head4 : @Eq EReal (k0_pay19 (F := Ideal) vb (k0_pay18 ok kb q b) z (ix2 r d)) (head ok kb vb q b z hi r d) := by
  pointwise [k0_pay19, k0_pay18]
  rfl

theorem head5 : @Eq EReal (k0_pay25 (F := Ideal) vb (k0_pay22 ok kb q b z) (k0_pay23 ok kb q b z) (k0_pay24 ok kb q b z) (ix2 r d)) (head ok kb vb q b z hi r d) := by
  pointwise [k0_pay25, k0_pay24, k0_pay23, k0_pay22, k0_pay21, k0_pay20]
  rfl

theorem head6 : @Eq EReal (k0_pay26 (F := Ideal) ok kb vb q b z (ix2 r d)) (head ok kb vb q b z hi r d) := by
  pointwise [k0_pay26]
  rfl

theorem head7 : @Eq EReal (k0_pay1 (F := Ideal) ok kb vb q b z (ix2 r d)) (head ok kb vb q b z hi r d) := by
  pointwise [k0_pay1]
  rfl

end Cert.Attn

end
-- ==== Proof.AttnValue.lean ====
/-
The attention call: the call's result array as a function of its arguments, over the extended reals.
-/
module

public import proofs.«01_k».proof.Proof.Gen.Kernel7Ideal.Value
public import proofs.«01_k».proof.Proof.AttnPay
public import Idealize.ShloMosaic.Lib.Pipeline.Value
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Attn

open Cert.Kernel7Ideal Cert.Kernel7Ideal.Gen
open Idealize.ShloMosaic Idealize.ShloMosaic.TcCoe Idealize.ShloMosaic.Pointwise Idealize.SL.Sem
open Idealize.ShloMosaic.Pipeline (Dat Cfg Window)

section Block

variable (i : grid0.Coords) (x0 : Vec Ideal S8 .f32) (x1 : Vec Ideal S128x512 .bf16) (x2 x3 x4 x5 : Vec Ideal S128x128 .bf16) (x6 : Vec Ideal S8x128x256 .f32)

/-- A row of the block before, or of the block itself. -/
def rowAt (x y : Vec Ideal S128x128 .bf16) (j : Fin 256) (d : Fin 128) : EReal :=
  if h : j.val < 128 then x (ix2 (⟨j.val, h⟩ : Fin 128) d) else y (ix2 (⟨j.val - 128, by omega⟩ : Fin 128) d)

/-- What a grid step leaves in the result's block. -/
def blockOut (r : Fin 128) (C : Fin 512) : EReal :=
  attend
    (fun j => score (Seen (i 1).val r.val j.val)
      (fun x => x1 (ix2 r (⟨C.val / 64 * 64 + x.val, by omega⟩ : Fin 512)))
      (fun x => rowAt x3 x2 j (⟨C.val / 64 / 4 * 64 + x.val, by omega⟩ : Fin 128))
      (x6 (ix3 (⟨C.val / 64, by omega⟩ : Fin 8) r j)))
    (fun j => rowAt x5 x4 j (⟨C.val / 64 / 4 * 64 + C.val % 64, by omega⟩ : Fin 128))
    (x0 (ix1 (⟨C.val / 64, by omega⟩ : Fin 8)))

theorem piece (h : Fin 8) (col : Fin 64 → Fin 128) (hcol : ∀ x, (col x).val = h.val / 4 * 64 + x.val) (q : Vec Ideal S128x64 .bf16) (b : Vec Ideal S1x128x256 .f32) (z : EReal)
    (hq : ∀ (r : Fin 128) (x : Fin 64), q (ix2 r x) = x1 (ix2 r (⟨h.val * 64 + x.val, by omega⟩ : Fin 512)))
    (hb : ∀ (r : Fin 128) (j : Fin 256), b (ix3 0 r j) = x6 (ix3 h r j)) (hz : z = x0 (ix1 h)) (r : Fin 128) (d : Fin 64) (C : Fin 512) (hC : C.val = h.val * 64 + d.val) :
    head (k0_pay2 i) (k0_pay3 x3 x2) (k0_pay4 x5 x4) q b z col r d = blockOut i x0 x1 x2 x3 x4 x5 x6 r C := by
  have hd := d.isLt
  have e : h = ⟨C.val / 64, by omega⟩ := Fin.ext (by dsimp only; omega)
  unfold head blockOut
  refine attend_congr (funext fun j => ?_) (by rw [hz, ← e]) fun j => Or.inr ?_
  · rw [select_score (ok_apply i r j) _ _ _ _ mask_bot]
    refine score_congr Iff.rfl fun _ => ⟨funext fun x => ?_, funext fun x => ?_, ?_⟩
    · rw [hq]
      refine congrArg (fun a => x1 (ix2 r a)) (Fin.ext ?_)
      dsimp only
      omega
    · rw [rows_apply]
      refine congrArg (rowAt x3 x2 j) (Fin.ext ?_)
      rw [hcol]
      dsimp only
      omega
    · rw [hb, ← e]
  · rw [rows_apply']
    refine congrArg (rowAt x5 x4 j) (Fin.ext ?_)
    rw [hcol]
    dsimp only
    omega

theorem ld_q (o : ℕ) (ib : ∀ a, (![0, o] : Fin 2 → Nat) a + S128x64.size a ≤ S128x512.size a) (r : Fin 128) (x : Fin 64) (C : Fin 512) (hC : C.val = o + x.val) :
    View.ld x1 (Rect.unit (s := S128x512) ![0, o] S128x64.size ib) (ix2 r x) = x1 (ix2 r C) :=
  View.ld_unit_apply_of x1 _ _ _ _ _ (fun a => by fin_cases a; exacts [(Nat.zero_add _).symm, hC])

theorem ld_b (o : Fin 8) (ib : ∀ a, (![o.val, 0, 0] : Fin 3 → Nat) a + S1x128x256.size a ≤ S8x128x256.size a) (r : Fin 128) (j : Fin 256) :
    View.ld x6 (Rect.unit (s := S8x128x256) ![o.val, 0, 0] S1x128x256.size ib) (ix3 0 r j) = x6 (ix3 o r j) :=
  View.ld_unit_apply_of x6 _ _ _ _ _ (fun a => by fin_cases a; exacts [rfl, (Nat.zero_add _).symm, (Nat.zero_add _).symm])

theorem ld_z (o : Fin 8) (ib : ∀ a, (![o.val] : Fin 1 → Nat) a + S1.size a ≤ S8.size a) (hu : 0 < S1.numel) :
    View.ld x0 (Rect.unit (s := S8) ![o.val] S1.size ib) (Shape.Idx.first hu) = x0 (ix1 o) :=
  View.ld_unit_apply_of x0 _ _ _ _ _ (fun a => by fin_cases a; exact rfl)

theorem emb_at (o : ℕ) (ib : ∀ a, (![0, o] : Fin 2 → Nat) a + S128x64.size a ≤ S128x512.size a) (r : Fin 128) (d : Fin 64) (C : Fin 512) (hC : C.val = o + d.val) :
    (Rect.unit (s := S128x512) ![0, o] S128x64.size ib).emb (ix2 r d) = ix2 r C := by
  refine funext fun a => Fin.ext ?_
  fin_cases a
  · show 0 + 1 * r.val = r.val
    omega
  · show o + 1 * d.val = C.val
    omega

end Block

variable (m : (ℓ : Loc nD τ sig) → Buf (Elt Ideal) ℓ)

/-- The block's array. -/
def blockArr (i : grid0.Coords) (x0 : Vec Ideal S8 .f32) (x1 : Vec Ideal S128x512 .bf16) (x2 x3 x4 x5 : Vec Ideal S128x128 .bf16) (x6 : Vec Ideal S8x128x256 .f32) :
    S128x512.Idx → Elt Ideal .bf16 := fun y => blockOut i x0 x1 x2 x3 x4 x5 x6 (y 0) (y 1)

set_option maxHeartbeats 2000000 in
theorem after_apply (c : Dev nD) (t : Fin cfg0.N) (y : S128x512.Idx) :
    (dats m 0 c).after 7 t y = blockArr (grid0.coords t) (iblk m c 0 t) (iblk m c 1 t) (iblk m c 2 t) (iblk m c 3 t) (iblk m c 4 t) (iblk m c 5 t) (iblk m c 6 t) y := by
  rw [after0_7]
  unfold outsAt0 out0_A_7
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  refine View.canon_apply_of_pieces (Val := Elt Ideal) (S := S128x512) (blockArr (grid0.coords t) x0 x1 x2 x3 x4 x5 x6) _ ?_ y
    (View.cover_of_tiledL (s := S128x512) _ S128x64.size (by sl_kernel_rfl) y)
  intro p hp
  simp only [List.mem_cons, List.not_mem_nil, or_false] at hp
  rcases hp with rfl | rfl | rfl | rfl | rfl | rfl | rfl | rfl
  · refine fun (x : S128x64.Idx) => ?_
    obtain ⟨r, d, rfl⟩ : ∃ (r : Fin 128) (d : Fin 64), x = ix2 r d := ⟨x 0, x 1, eq_ix2 x⟩
    refine (head7 _ _ _ _ _ _ r d).trans ((piece (grid0.coords t) x0 x1 x2 x3 x4 x5 x6 7 hi (fun x => ?_) _ _ _
      (fun r x => ld_q _ 448 _ r x _ rfl) (fun r j => ld_b _ 7 _ r j) (ld_z _ 7 _ _) r d ⟨448 + d.val, by omega⟩ rfl).trans ?_)
    · show 64 + x.val = 7 / 4 * 64 + x.val
      omega
    · exact (congrArg (blockArr (grid0.coords t) x0 x1 x2 x3 x4 x5 x6) (emb_at 448 (by decide) r d _ rfl)).symm
  · refine fun (x : S128x64.Idx) => ?_
    obtain ⟨r, d, rfl⟩ : ∃ (r : Fin 128) (d : Fin 64), x = ix2 r d := ⟨x 0, x 1, eq_ix2 x⟩
    refine (head6 _ _ _ _ _ _ r d).trans ((piece (grid0.coords t) x0 x1 x2 x3 x4 x5 x6 6 hi (fun x => ?_) _ _ _
      (fun r x => ld_q _ 384 _ r x _ rfl) (fun r j => ld_b _ 6 _ r j) (ld_z _ 6 _ _) r d ⟨384 + d.val, by omega⟩ rfl).trans ?_)
    · show 64 + x.val = 6 / 4 * 64 + x.val
      omega
    · exact (congrArg (blockArr (grid0.coords t) x0 x1 x2 x3 x4 x5 x6) (emb_at 384 (by decide) r d _ rfl)).symm
  · refine fun (x : S128x64.Idx) => ?_
    obtain ⟨r, d, rfl⟩ : ∃ (r : Fin 128) (d : Fin 64), x = ix2 r d := ⟨x 0, x 1, eq_ix2 x⟩
    refine (head5 _ _ _ _ _ _ r d).trans ((piece (grid0.coords t) x0 x1 x2 x3 x4 x5 x6 5 hi (fun x => ?_) _ _ _
      (fun r x => ld_q _ 320 _ r x _ rfl) (fun r j => ld_b _ 5 _ r j) (ld_z _ 5 _ _) r d ⟨320 + d.val, by omega⟩ rfl).trans ?_)
    · show 64 + x.val = 5 / 4 * 64 + x.val
      omega
    · exact (congrArg (blockArr (grid0.coords t) x0 x1 x2 x3 x4 x5 x6) (emb_at 320 (by decide) r d _ rfl)).symm
  · refine fun (x : S128x64.Idx) => ?_
    obtain ⟨r, d, rfl⟩ : ∃ (r : Fin 128) (d : Fin 64), x = ix2 r d := ⟨x 0, x 1, eq_ix2 x⟩
    refine (head4 _ _ _ _ _ _ r d).trans ((piece (grid0.coords t) x0 x1 x2 x3 x4 x5 x6 4 hi (fun x => ?_) _ _ _
      (fun r x => ld_q _ 256 _ r x _ rfl) (fun r j => ld_b _ 4 _ r j) (ld_z _ 4 _ _) r d ⟨256 + d.val, by omega⟩ rfl).trans ?_)
    · show 64 + x.val = 4 / 4 * 64 + x.val
      omega
    · exact (congrArg (blockArr (grid0.coords t) x0 x1 x2 x3 x4 x5 x6) (emb_at 256 (by decide) r d _ rfl)).symm
  · refine fun (x : S128x64.Idx) => ?_
    obtain ⟨r, d, rfl⟩ : ∃ (r : Fin 128) (d : Fin 64), x = ix2 r d := ⟨x 0, x 1, eq_ix2 x⟩
    refine (head3 _ _ _ _ _ _ r d).trans ((piece (grid0.coords t) x0 x1 x2 x3 x4 x5 x6 3 lo (fun x => ?_) _ _ _
      (fun r x => ld_q _ 192 _ r x _ rfl) (fun r j => ld_b _ 3 _ r j) (ld_z _ 3 _ _) r d ⟨192 + d.val, by omega⟩ rfl).trans ?_)
    · show x.val = 3 / 4 * 64 + x.val
      omega
    · exact (congrArg (blockArr (grid0.coords t) x0 x1 x2 x3 x4 x5 x6) (emb_at 192 (by decide) r d _ rfl)).symm
  · refine fun (x : S128x64.Idx) => ?_
    obtain ⟨r, d, rfl⟩ : ∃ (r : Fin 128) (d : Fin 64), x = ix2 r d := ⟨x 0, x 1, eq_ix2 x⟩
    refine (head2 _ _ _ _ _ _ r d).trans ((piece (grid0.coords t) x0 x1 x2 x3 x4 x5 x6 2 lo (fun x => ?_) _ _ _
      (fun r x => ld_q _ 128 _ r x _ rfl) (fun r j => ld_b _ 2 _ r j) (ld_z _ 2 _ _) r d ⟨128 + d.val, by omega⟩ rfl).trans ?_)
    · show x.val = 2 / 4 * 64 + x.val
      omega
    · exact (congrArg (blockArr (grid0.coords t) x0 x1 x2 x3 x4 x5 x6) (emb_at 128 (by decide) r d _ rfl)).symm
  · refine fun (x : S128x64.Idx) => ?_
    obtain ⟨r, d, rfl⟩ : ∃ (r : Fin 128) (d : Fin 64), x = ix2 r d := ⟨x 0, x 1, eq_ix2 x⟩
    refine (head1 _ _ _ _ _ _ r d).trans ((piece (grid0.coords t) x0 x1 x2 x3 x4 x5 x6 1 lo (fun x => ?_) _ _ _
      (fun r x => ld_q _ 64 _ r x _ rfl) (fun r j => ld_b _ 1 _ r j) (ld_z _ 1 _ _) r d ⟨64 + d.val, by omega⟩ rfl).trans ?_)
    · show x.val = 1 / 4 * 64 + x.val
      omega
    · exact (congrArg (blockArr (grid0.coords t) x0 x1 x2 x3 x4 x5 x6) (emb_at 64 (by decide) r d _ rfl)).symm
  · refine fun (x : S128x64.Idx) => ?_
    obtain ⟨r, d, rfl⟩ : ∃ (r : Fin 128) (d : Fin 64), x = ix2 r d := ⟨x 0, x 1, eq_ix2 x⟩
    refine (head0 _ _ _ _ _ _ _ r d).trans ((piece (grid0.coords t) x0 x1 x2 x3 x4 x5 x6 0 lo (fun x => ?_) _ _ _
      (fun r x => ld_q _ 0 _ r x _ rfl) (fun r j => ld_b _ 0 _ r j) (ld_z _ 0 _ _) r d ⟨0 + d.val, by omega⟩ rfl).trans ?_)
    · show x.val = 0 / 4 * 64 + x.val
      omega
    · exact (congrArg (blockArr (grid0.coords t) x0 x1 x2 x3 x4 x5 x6) (emb_at 0 (by decide) r d _ rfl)).symm

theorem pts : ∀ t : Fin cfg0.N, (grid0.coords t 1).val = t.val % 32 ∧ cc0_transform_1 (grid0.coords t) 0 = t.val ∧ cc0_transform_2 (grid0.coords t) 0 = t.val ∧ cc0_transform_3 (grid0.coords t) 0 = (t.val - 1) ∧ cc0_transform_4 (grid0.coords t) 0 = t.val ∧ cc0_transform_5 (grid0.coords t) 0 = (t.val - 1) ∧ cc0_transform_7 (grid0.coords t) 0 = t.val :=
  (by decide +kernel : ∀ t : Fin grid0.N, (grid0.coords t 1).val = t.val % 32 ∧ cc0_transform_1 (grid0.coords t) 0 = t.val ∧ cc0_transform_2 (grid0.coords t) 0 = t.val ∧ cc0_transform_3 (grid0.coords t) 0 = (t.val - 1) ∧ cc0_transform_4 (grid0.coords t) 0 = t.val ∧ cc0_transform_5 (grid0.coords t) 0 = (t.val - 1) ∧ cc0_transform_7 (grid0.coords t) 0 = t.val)

theorem iblk1_apply (c : Dev nD) (t : Fin cfg0.N) (r : Fin 128) (k : Fin 512) (R : Fin 16384) (hR : R.val = t.val * 128 + r.val) :
    iblk m c 1 t (ix2 r k) = m ((c.tc : Thread nD τ).loc main_arg0) (ix2 R k) := by
  refine Eq.trans ?_ (congrFun (V_main_arg0 m c) _)
  show V m c main_arg0 (((cfg0.win 1).blk t).view.emb (ix2 r k)) = _
  refine congrArg _ (funext fun a => Fin.ext ?_)
  fin_cases a
  · show cc0_transform_1 (grid0.coords t) 0 * 128 + 1 * r.val = R.val
    rw [(pts t).2.1]; omega
  · show 0 * 512 + 1 * k.val = k.val
    omega

theorem iblk2_apply (c : Dev nD) (t : Fin cfg0.N) (r : Fin 128) (k : Fin 128) (R : Fin 16384) (hR : R.val = t.val * 128 + r.val) :
    iblk m c 2 t (ix2 r k) = m ((c.tc : Thread nD τ).loc main_arg1) (ix2 R k) := by
  refine Eq.trans ?_ (congrFun (V_main_arg1 m c) _)
  show V m c main_arg1 (((cfg0.win 2).blk t).view.emb (ix2 r k)) = _
  refine congrArg _ (funext fun a => Fin.ext ?_)
  fin_cases a
  · show cc0_transform_2 (grid0.coords t) 0 * 128 + 1 * r.val = R.val
    rw [(pts t).2.2.1]; omega
  · show 0 * 128 + 1 * k.val = k.val
    omega

theorem iblk3_apply (c : Dev nD) (t : Fin cfg0.N) (r : Fin 128) (k : Fin 128) (R : Fin 16384) (hR : R.val = (t.val - 1) * 128 + r.val) :
    iblk m c 3 t (ix2 r k) = m ((c.tc : Thread nD τ).loc main_arg1) (ix2 R k) := by
  refine Eq.trans ?_ (congrFun (V_main_arg1 m c) _)
  show V m c main_arg1 (((cfg0.win 3).blk t).view.emb (ix2 r k)) = _
  refine congrArg _ (funext fun a => Fin.ext ?_)
  fin_cases a
  · show cc0_transform_3 (grid0.coords t) 0 * 128 + 1 * r.val = R.val
    rw [(pts t).2.2.2.1]; omega
  · show 0 * 128 + 1 * k.val = k.val
    omega

theorem iblk4_apply (c : Dev nD) (t : Fin cfg0.N) (r : Fin 128) (k : Fin 128) (R : Fin 16384) (hR : R.val = t.val * 128 + r.val) :
    iblk m c 4 t (ix2 r k) = m ((c.tc : Thread nD τ).loc main_arg2) (ix2 R k) := by
  refine Eq.trans ?_ (congrFun (V_main_arg2 m c) _)
  show V m c main_arg2 (((cfg0.win 4).blk t).view.emb (ix2 r k)) = _
  refine congrArg _ (funext fun a => Fin.ext ?_)
  fin_cases a
  · show cc0_transform_4 (grid0.coords t) 0 * 128 + 1 * r.val = R.val
    rw [(pts t).2.2.2.2.1]; omega
  · show 0 * 128 + 1 * k.val = k.val
    omega

theorem iblk5_apply (c : Dev nD) (t : Fin cfg0.N) (r : Fin 128) (k : Fin 128) (R : Fin 16384) (hR : R.val = (t.val - 1) * 128 + r.val) :
    iblk m c 5 t (ix2 r k) = m ((c.tc : Thread nD τ).loc main_arg2) (ix2 R k) := by
  refine Eq.trans ?_ (congrFun (V_main_arg2 m c) _)
  show V m c main_arg2 (((cfg0.win 5).blk t).view.emb (ix2 r k)) = _
  refine congrArg _ (funext fun a => Fin.ext ?_)
  fin_cases a
  · show cc0_transform_5 (grid0.coords t) 0 * 128 + 1 * r.val = R.val
    rw [(pts t).2.2.2.2.2.1]; omega
  · show 0 * 128 + 1 * k.val = k.val
    omega

theorem iblk0_apply (c : Dev nD) (t : Fin cfg0.N) (h : Fin 8) : iblk m c 0 t (ix1 h) = m ((c.tc : Thread nD τ).loc main_arg3) (ix1 h) := by
  refine Eq.trans ?_ (congrFun (V_main_arg3 m c) _)
  show V m c main_arg3 (((cfg0.win 0).blk t).view.emb (ix1 h)) = _
  refine congrArg _ (funext fun a => Fin.ext ?_)
  fin_cases a
  show 0 * 8 + 1 * h.val = h.val
  omega

theorem iblk6_apply (c : Dev nD) (t : Fin cfg0.N) (h : Fin 8) (r : Fin 128) (j : Fin 256) : iblk m c 6 t (ix3 h r j) = m ((c.tc : Thread nD τ).loc main_arg4) (ix3 h r j) := by
  refine Eq.trans ?_ (congrFun (V_main_arg4 m c) _)
  show V m c main_arg4 (((cfg0.win 6).blk t).view.emb (ix3 h r j)) = _
  refine congrArg _ (funext fun a => Fin.ext ?_)
  fin_cases a
  · show 0 * 8 + 1 * h.val = h.val
    omega
  · show 0 * 128 + 1 * r.val = r.val
    omega
  · show 0 * 256 + 1 * j.val = j.val
    omega

theorem emb_out (t : Fin cfg0.N) (r : Fin 128) (j : Fin 512) (R : Fin 16384) (hR : R.val = t.val * 128 + r.val) :
    ((cfg0.win 7).blk t).view.emb (ix2 r j) = ix2 R j := by
  refine funext fun a => Fin.ext ?_
  fin_cases a
  · show cc0_transform_7 (grid0.coords t) 0 * 128 + 1 * r.val = R.val
    rw [(pts t).2.2.2.2.2.2]; omega
  · show 0 * 512 + 1 * j.val = j.val
    omega

/-- A row of the keys' two blocks is a row of the keys. -/
theorem keys_apply (c : Dev nD) (t : Fin cfg0.N) (j : Fin 256) (d : Fin 128) (hj : 128 ≤ j.val ∨ 0 < t.val % 32) (R : Fin 16384) (hR : R.val = t.val * 128 + j.val - 128) :
    rowAt (iblk m c 3 t) (iblk m c 2 t) j d = m ((c.tc : Thread nD τ).loc main_arg1) (ix2 R d) := by
  unfold rowAt
  by_cases h : j.val < 128
  · rw [dif_pos h]
    exact iblk3_apply m c t _ d R (by dsimp only; omega)
  · rw [dif_neg h]
    exact iblk2_apply m c t _ d R (by dsimp only; omega)

/-- A row of the values' two blocks is a row of the values. -/
theorem vals_apply (c : Dev nD) (t : Fin cfg0.N) (j : Fin 256) (d : Fin 128) (hj : 128 ≤ j.val ∨ 0 < t.val % 32) (R : Fin 16384) (hR : R.val = t.val * 128 + j.val - 128) :
    rowAt (iblk m c 5 t) (iblk m c 4 t) j d = m ((c.tc : Thread nD τ).loc main_arg2) (ix2 R d) := by
  unfold rowAt
  by_cases h : j.val < 128
  · rw [dif_pos h]
    exact iblk5_apply m c t _ d R (by dsimp only; omega)
  · rw [dif_neg h]
    exact iblk4_apply m c t _ d R (by dsimp only; omega)

theorem block_eq (c : Dev nD) (t : Fin cfg0.N) (r : Fin 128) (C : Fin 512) (R : Fin 16384) (hR : R.val = t.val * 128 + r.val) :
    blockOut (grid0.coords t) (iblk m c 0 t) (iblk m c 1 t) (iblk m c 2 t) (iblk m c 3 t) (iblk m c 4 t) (iblk m c 5 t) (iblk m c 6 t) r C
      = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) R C := by
  have hr := r.isLt
  have e1 : R.val / 128 = t.val := by omega
  have e2 : R.val % 128 = r.val := by omega
  have e3 : (⟨R.val % 128, by omega⟩ : Fin 128) = r := Fin.ext e2
  unfold blockOut outOf
  rw [(pts t).1]
  refine attend_congr (funext fun j => score_congr (by rw [e1, e2]) fun hs => ⟨funext fun x => ?_, funext fun x => ?_, ?_⟩) (iblk0_apply m c t _) fun j => ?_
  · exact iblk1_apply m c t r _ R hR
  · exact keys_apply m c t j _ hs.2 _ (by dsimp only; rw [e1])
  · rw [e3]
    exact iblk6_apply m c t _ r j
  · by_cases hs : Seen (t.val % 32) r.val j.val
    · exact Or.inr (vals_apply m c t j _ hs.2 _ (by dsimp only; rw [e1]))
    · exact Or.inl (score_not _ _ _ hs)

/-- The result array. -/
def outArr (c : Dev nD) : S16384x512.Idx → EReal := fun y => outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1)

/-- The call's result array. -/
theorem final (c : Dev nD) : (dats m 0 c).arrAt 7 cfg0.N = outArr m c := by
  refine (dats m 0 c).arrAt_eq_of_cover 7 _ (fun t hf => ?_) fun (i : S16384x512.Idx) => ?_
  · have hN : t.val < 128 := lt_of_lt_of_eq t.isLt (show cfg0.N = 128 from N_0)
    refine funext fun (y : S128x512.Idx) => ?_
    obtain ⟨r, j, rfl⟩ : ∃ (r : Fin 128) (j : Fin 512), y = ix2 r j := ⟨y 0, y 1, eq_ix2 y⟩
    have hr := r.isLt
    have hR : t.val * 128 + r.val < 16384 := by omega
    show (dats m 0 c).after 7 t (ix2 r j) = outArr m c (((cfg0.win 7).blk t).view.emb (ix2 r j))
    rw [emb_out t r j ⟨_, hR⟩ rfl]
    exact (after_apply m c t (ix2 r j)).trans (block_eq m c t r j ⟨_, hR⟩ rfl)
  · obtain ⟨R, j, rfl⟩ : ∃ (R : Fin 16384) (j : Fin 512), i = ix2 R j := ⟨i 0, i 1, eq_ix2 i⟩
    have hR := R.isLt
    have hlt : R.val / 128 < cfg0.N := by rw [show cfg0.N = 128 from N_0]; omega
    refine ⟨⟨R.val / 128, hlt⟩, flush0_7 _, ?_⟩
    rw [← emb_out ⟨R.val / 128, hlt⟩ ⟨R.val % 128, by omega⟩ j R (by show R.val = R.val / 128 * 128 + R.val % 128; omega)]
    exact ((cfg0.win 7).blk _).view.emb_mem_set _

/-- The call's run: its result array, and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v0) = outArr m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans (final m c), (h c).2⟩) (Value.run_blocks m ρ)

end Cert.Attn

end
-- ==== Proof.AttnClaim.lean ====
/-
The attention call: the claims. The runs of the kernel as printed, of the kernel over the reals and of the reference,
and the equality of the two results.
-/
module

public import proofs.«01_k».proof.Defs
public import proofs.«01_k».proof.Proof.Gen.Kernel7
public import proofs.«01_k».proof.Proof.Gen.Kernel7.Frame
public import proofs.«01_k».proof.Proof.AttnRef
public import proofs.«01_k».proof.Proof.AttnValue

@[expose] public section

noncomputable section

namespace Cert.AttnClaim

open Idealize.ShloMosaic Idealize.SL.Sem

theorem frame_p : Cert.quiescent_Kernel7 := fun m ρ _ => Cert.Kernel7.Gen.frame m ρ

theorem frame_pi : Cert.quiescent_Kernel7Ideal := fun m ρ _ => Cert.Kernel7Ideal.Gen.frame m ρ

theorem frame_ri : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem preserves : Cert.preserves_Kernel7_Kernel7Ideal := IdealRules.named_const.statement _ _ _ _ _ rfl

theorem algebraic : Cert.algebraic_Kernel7Ideal_Reference7Ideal := by
  intro m g m' g' _ ha
  refine ⟨_, Cert.Attn.run m g, (θ_run Cert.Reference7Ideal.defs _ _).mono (fun r hr c => ⟨(hr c).1.trans (funext fun y => ?_), (hr c).2⟩) (Cert.AttnRef.run m' g')⟩
  obtain ⟨h0, h1, h2, h3, h4⟩ := ha c
  exact ((congrArg (fun x => Cert.Attn.outOf x _ _ _ _ _ _) h0).trans
    ((congrArg (fun x => Cert.Attn.outOf _ x _ _ _ _ _) h1).trans
    ((congrArg (fun x => Cert.Attn.outOf _ _ x _ _ _ _) h2).trans
    ((congrArg (fun x => Cert.Attn.outOf _ _ _ x _ _ _) h3).trans
    (congrArg (fun x => Cert.Attn.outOf _ _ _ _ x _ _) h4)))))

end Cert.AttnClaim

end
-- ==== Proof.DenseRef.lean ====
/-
The dense feed-forward part's reference: its result read at an index over the extended reals.
-/
module

public import proofs.«01_k».proof.Proof.Gen.Reference2Ideal.Run
public import proofs.«01_k».proof.Proof.Trunk
public import Idealize.ShloMosaic.Lib.Pointwise

@[expose] public section

set_option maxRecDepth 16384

noncomputable section

namespace Cert.DenseRef

open Cert.Reference2Ideal Cert.Reference2Ideal.Gen Cert.Reference2Ideal.Value Cert.Trunk
open Idealize.ShloMosaic Idealize.ShloMosaic.TcCoe Idealize.ShloMosaic.Pointwise Idealize.ShloMosaic.StableHlo Idealize.SL.Sem

/-- The result array as a function of the argument arrays. -/
def outOf (h : S16384x1024.Idx → EReal) (g : S1024.Idx → EReal) (w1 w3 : S1024x2816.Idx → EReal) (w2 : S2816x1024.Idx → EReal)
    (i : S16384x1024.Idx) : EReal :=
  ffn (fun k => h (ix2 (i 0) k)) (fun k => g (ix1 k)) (fun k q => w1 (ix2 k q)) (fun k q => w3 (ix2 k q)) (fun q => w2 (ix2 q (i 1))) (i 1)

variable (m : (ℓ : Loc nD τ sig) → Buf (Elt Ideal) ℓ)

/-- The reference's run, its result read. -/
theorem run (ρ : Dev nD → PrngReg) :
    θ_run defs (onTc (τ := τ) (main (F := Ideal))) ⟨m, fun _ => 0, ρ⟩ fun r => ∀ c : Dev nD,
      @Eq (S16384x1024.Idx → EReal) (r.2.mem ((c.tc : Thread nD τ).loc main_v21))
        (outOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun (y : S16384x1024.Idx) => ?_), (h c).2⟩) (Value.run (F := Ideal) m ρ)
  obtain ⟨r, j, rfl⟩ : ∃ (r : Fin 16384) (j : Fin 1024), y = ix2 r j := ⟨y 0, y 1, eq_ix2 y⟩
  generalize m ((c.tc : Thread nD τ).loc main_arg0) = h
  generalize m ((c.tc : Thread nD τ).loc main_arg1) = g
  generalize m ((c.tc : Thread nD τ).loc main_arg2) = w1
  generalize m ((c.tc : Thread nD τ).loc main_arg3) = w3
  generalize m ((c.tc : Thread nD τ).loc main_arg4) = w2
  pointwise []
  simp only [← zero_sub]
  rfl

end Cert.DenseRef

end
-- ==== Proof.DensePay.lean ====
/-
The dense feed-forward call: what the body computes, read at an index over the extended reals.
-/
module

public import proofs.«01_k».proof.Proof.Gen.Kernel2Ideal.Skeleton
public import proofs.«01_k».proof.Proof.Trunk
public import Idealize.ShloMosaic.Lib.Pointwise

@[expose] public section

set_option maxRecDepth 16384

noncomputable section

namespace Cert.Dense

open Cert.Kernel2Ideal Cert.Kernel2Ideal.Gen Cert.Trunk Cert.Experts
open Idealize.ShloMosaic Idealize.ShloMosaic.Pointwise

theorem pay2_apply (h : Vec Ideal S512x1024 .f32) (g : Vec Ideal S1x1024 .f32) (r : Fin 512) (k : Fin 1024) :
    @Eq EReal (k0_pay2 (F := Ideal) h g (ix2 r k)) (norm (fun k => h (ix2 r k)) (fun k => g (ix2 0 k)) k) := by
  pointwise [k0_pay2]
  rfl

theorem pay3_apply (h : Vec Ideal S512x1024 .f32) (g : Vec Ideal S1x1024 .f32) (w1 w3 : Vec Ideal S1024x1536 .bf16)
    (w2 : Vec Ideal S1536x1024 .bf16) (r : Fin 512) (j : Fin 1024) :
    @Eq EReal (k0_pay3 (F := Ideal) h g w1 w3 w2 (ix2 r j))
      (∑ q : Fin 1536, unit (norm (fun k => h (ix2 r k)) (fun k => g (ix2 0 k))) (fun k => w1 (ix2 k q)) (fun k => w3 (ix2 k q)) * w2 (ix2 q j)) := by
  pointwise [k0_pay3]
  simp only [pay2_apply]
  rfl

theorem pay1_apply (h : Vec Ideal S512x1024 .f32) (x : Vec Ideal S512x1024 .bf16) (a : Vec Ideal S512x1024 .f32) (w1 w3 : Vec Ideal S1024x1280 .bf16)
    (w2 : Vec Ideal S1280x1024 .bf16) (r : Fin 512) (j : Fin 1024) :
    @Eq EReal (k0_pay1 (F := Ideal) h x a w1 w3 w2 (ix2 r j))
      (h (ix2 r j) + (a (ix2 r j)
        + ∑ q : Fin 1280, unit (fun k => x (ix2 r k)) (fun k => w1 (ix2 k q)) (fun k => w3 (ix2 k q)) * w2 (ix2 q j))) := by
  pointwise [k0_pay1]
  rfl

end Cert.Dense

end
-- ==== Proof.DenseValue.lean ====
/-
The dense feed-forward call: its result array as a function of its arguments, over the extended reals.
-/
module

public import proofs.«01_k».proof.Proof.Gen.Kernel2Ideal.Value
public import proofs.«01_k».proof.Proof.DensePay
public import proofs.«01_k».proof.Proof.DenseRef
public import Idealize.ShloMosaic.Lib.Pipeline.Value
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Dense

open Cert.Kernel2Ideal Cert.Kernel2Ideal.Gen Cert.Trunk Cert.Experts
open Idealize.ShloMosaic Idealize.ShloMosaic.TcCoe Idealize.ShloMosaic.Pointwise Idealize.SL.Sem
open Idealize.ShloMosaic.Pipeline (Dat Cfg Window)

theorem out_apply (x0 : Vec Ideal S512x1024 .f32) (x1 : Vec Ideal S1x1024 .f32) (x2 x3 : Vec Ideal S1024x2816 .bf16)
    (x4 : Vec Ideal S2816x1024 .bf16) (r : Fin 512) (j : Fin 1024) :
    @Eq EReal (out0_5 (F := Ideal) x0 x1 x2 x3 x4 (ix2 r j))
      (ffn (fun k => x0 (ix2 r k)) (fun k => x1 (ix2 0 k)) (fun k q => x2 (ix2 k q)) (fun k q => x3 (ix2 k q)) (fun q => x4 (ix2 q j)) j) := by
  unfold out0_5
  frame_out
  refine (pay1_apply _ _ _ _ _ _ r j).trans ?_
  unfold ffn
  rw [sum_groups, pay3_apply]
  have hx : (fun k => k0_pay2 (F := Ideal) x0 x1 (ix2 r k)) = norm (fun k => x0 (ix2 r k)) (fun k => x1 (ix2 0 k)) :=
    funext fun k => pay2_apply x0 x1 r k
  rw [hx]
  have ea (x : Vec Ideal S1024x2816 .bf16) (k : Fin 1024) (q : Fin 1536) : View.ld x r0_2 (ix2 k q) = x (ix2 k ⟨q.val, by omega⟩) :=
    View.ld_unit_apply_of x _ _ _ _ _ (fun a => by fin_cases a <;> exact (Nat.zero_add _).symm)
  have eb (x : Vec Ideal S1024x2816 .bf16) (k : Fin 1024) (q : Fin 1280) : View.ld x r0_4 (ix2 k q) = x (ix2 k ⟨1536 + q.val, by omega⟩) :=
    View.ld_unit_apply_of x _ _ _ _ _ (fun a => by fin_cases a; exacts [(Nat.zero_add _).symm, rfl])
  have ec (x : Vec Ideal S2816x1024 .bf16) (q : Fin 1536) (j : Fin 1024) : View.ld x r0_3 (ix2 q j) = x (ix2 ⟨q.val, by omega⟩ j) :=
    View.ld_unit_apply_of x _ _ _ _ _ (fun a => by fin_cases a <;> exact (Nat.zero_add _).symm)
  have ed (x : Vec Ideal S2816x1024 .bf16) (q : Fin 1280) (j : Fin 1024) : View.ld x r0_5 (ix2 q j) = x (ix2 ⟨1536 + q.val, by omega⟩ j) :=
    View.ld_unit_apply_of x _ _ _ _ _ (fun a => by fin_cases a; exacts [rfl, (Nat.zero_add _).symm])
  exact congrArg (x0 (ix2 r j) + ·) (congrArg₂ (· + ·)
    (Finset.sum_congr rfl fun q _ => congrArg₂ (· * ·) (unit_congr rfl (funext fun k => ea x2 k q) (funext fun k => ea x3 k q)) (ec x4 q j))
    (Finset.sum_congr rfl fun q _ => congrArg₂ (· * ·) (unit_congr rfl (funext fun k => eb x2 k q) (funext fun k => eb x3 k q)) (ed x4 q j)))

variable (m : (ℓ : Loc nD τ sig) → Buf (Elt Ideal) ℓ)

theorem pts : ∀ t : Fin cfg0.N, cc0_transform_0 (grid0.coords t) 0 = t.val ∧ cc0_transform_5 (grid0.coords t) 0 = t.val :=
  (by decide +kernel : ∀ t : Fin grid0.N, cc0_transform_0 (grid0.coords t) 0 = t.val ∧ cc0_transform_5 (grid0.coords t) 0 = t.val)

theorem iblk0_apply (c : Dev nD) (t : Fin cfg0.N) (r : Fin 512) (k : Fin 1024) (R : Fin 16384) (hR : R.val = t.val * 512 + r.val) :
    iblk m c 0 t (ix2 r k) = m ((c.tc : Thread nD τ).loc main_arg0) (ix2 R k) := by
  refine Eq.trans ?_ (congrFun (V_main_arg0 m c) _)
  show V m c main_arg0 (((cfg0.win 0).blk t).view.emb (ix2 r k)) = _
  refine congrArg _ (funext fun a => Fin.ext ?_)
  fin_cases a
  · show cc0_transform_0 (grid0.coords t) 0 * 512 + 1 * r.val = R.val
    rw [(pts t).1]; omega
  · show 0 * 1024 + 1 * k.val = k.val
    omega

theorem V_gain (c : Dev nD) (k : Fin 1024) : V m c main_v0 (ix2 0 k) = m ((c.tc : Thread nD τ).loc main_arg1) (ix1 k) := by
  have h : V m c main_v0 = shapeCast S1x1024 (m ((c.tc : Thread nD τ).loc main_arg1)) Facts₀.shapeCasts_S1024_S1x1024 := by
    unfold V
    simp only [hostOps0]
    after_results_simp
    rfl
  rw [h]
  pointwise []

theorem iblk1_apply (c : Dev nD) (t : Fin cfg0.N) (k : Fin 1024) :
    iblk m c 1 t (ix2 0 k) = m ((c.tc : Thread nD τ).loc main_arg1) (ix1 k) := by
  refine Eq.trans ?_ (V_gain m c k)
  show V m c main_v0 (((cfg0.win 1).blk t).view.emb (ix2 0 k)) = _
  refine congrArg _ (funext fun a => Fin.ext ?_)
  fin_cases a
  · show 0 * 1 + 1 * 0 = 0
    omega
  · show 0 * 1024 + 1 * k.val = k.val
    omega

theorem iblk2_apply (c : Dev nD) (t : Fin cfg0.N) (k : Fin 1024) (q : Fin 2816) :
    iblk m c 2 t (ix2 k q) = m ((c.tc : Thread nD τ).loc main_arg2) (ix2 k q) := by
  refine Eq.trans ?_ (congrFun (V_main_arg2 m c) _)
  show V m c main_arg2 (((cfg0.win 2).blk t).view.emb (ix2 k q)) = _
  refine congrArg _ (funext fun a => Fin.ext ?_)
  fin_cases a
  · show 0 * 1024 + 1 * k.val = k.val
    omega
  · show 0 * 2816 + 1 * q.val = q.val
    omega

theorem iblk3_apply (c : Dev nD) (t : Fin cfg0.N) (k : Fin 1024) (q : Fin 2816) :
    iblk m c 3 t (ix2 k q) = m ((c.tc : Thread nD τ).loc main_arg3) (ix2 k q) := by
  refine Eq.trans ?_ (congrFun (V_main_arg3 m c) _)
  show V m c main_arg3 (((cfg0.win 3).blk t).view.emb (ix2 k q)) = _
  refine congrArg _ (funext fun a => Fin.ext ?_)
  fin_cases a
  · show 0 * 1024 + 1 * k.val = k.val
    omega
  · show 0 * 2816 + 1 * q.val = q.val
    omega

theorem iblk4_apply (c : Dev nD) (t : Fin cfg0.N) (q : Fin 2816) (j : Fin 1024) :
    iblk m c 4 t (ix2 q j) = m ((c.tc : Thread nD τ).loc main_arg4) (ix2 q j) := by
  refine Eq.trans ?_ (congrFun (V_main_arg4 m c) _)
  show V m c main_arg4 (((cfg0.win 4).blk t).view.emb (ix2 q j)) = _
  refine congrArg _ (funext fun a => Fin.ext ?_)
  fin_cases a
  · show 0 * 2816 + 1 * q.val = q.val
    omega
  · show 0 * 1024 + 1 * j.val = j.val
    omega

theorem emb5 (t : Fin cfg0.N) (r : Fin 512) (j : Fin 1024) (R : Fin 16384) (hR : R.val = t.val * 512 + r.val) :
    ((cfg0.win 5).blk t).view.emb (ix2 r j) = ix2 R j := by
  refine funext fun a => Fin.ext ?_
  fin_cases a
  · show cc0_transform_5 (grid0.coords t) 0 * 512 + 1 * r.val = R.val
    rw [(pts t).2]; omega
  · show 0 * 1024 + 1 * j.val = j.val
    omega

/-- The call's result array. -/
theorem final (c : Dev nD) :
    (dats m 0 c).arrAt 5 cfg0.N = Cert.DenseRef.outOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_cover 5 _ (fun t hf => ?_) fun (i : S16384x1024.Idx) => ?_
  · have hN : t.val < 32 := lt_of_lt_of_eq t.isLt (show cfg0.N = 32 from N_0)
    refine funext fun (y : S512x1024.Idx) => ?_
    obtain ⟨r, j, rfl⟩ : ∃ (r : Fin 512) (j : Fin 1024), y = ix2 r j := ⟨y 0, y 1, eq_ix2 y⟩
    have hr := r.isLt
    have hR : t.val * 512 + r.val < 16384 := by omega
    show (dats m 0 c).after 5 t (ix2 r j) = Cert.DenseRef.outOf _ _ _ _ _ (((cfg0.win 5).blk t).view.emb (ix2 r j))
    rw [after0_5, emb5 t r j ⟨_, hR⟩ rfl]
    refine (out_apply _ _ _ _ _ r j).trans ?_
    simp only [iblk0_apply m c t r _ ⟨_, hR⟩ rfl, iblk1_apply, iblk2_apply, iblk3_apply, iblk4_apply]
    rfl
  · obtain ⟨R, j, rfl⟩ : ∃ (R : Fin 16384) (j : Fin 1024), i = ix2 R j := ⟨i 0, i 1, eq_ix2 i⟩
    have hR := R.isLt
    have hlt : R.val / 512 < cfg0.N := by rw [show cfg0.N = 32 from N_0]; omega
    refine ⟨⟨R.val / 512, hlt⟩, flush0_5 _, ?_⟩
    rw [← emb5 ⟨R.val / 512, hlt⟩ ⟨R.val % 512, by omega⟩ j R (by show R.val = R.val / 512 * 512 + R.val % 512; omega)]
    exact ((cfg0.win 5).blk _).view.emb_mem_set _

/-- The call's run: its result array, and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v1) = Cert.DenseRef.outOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans (final m c), (h c).2⟩) (Value.run_blocks m ρ)

end Cert.Dense

end
-- ==== Proof.DenseClaim.lean ====
/-
The claims of the dense feed-forward call: the runs of the kernel as printed, of the kernel over the reals and of the reference,
and the equality of the two results.
-/
module

public import proofs.«01_k».proof.Defs
public import proofs.«01_k».proof.Proof.Gen.Kernel2
public import proofs.«01_k».proof.Proof.Gen.Kernel2.Frame
public import proofs.«01_k».proof.Proof.DenseRef
public import proofs.«01_k».proof.Proof.DenseValue

@[expose] public section

noncomputable section

namespace Cert.DenseClaim

open Idealize.ShloMosaic Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem algebraic : Cert.algebraic_Kernel2Ideal_Reference2Ideal := by
  intro m g m' g' _ ha
  refine ⟨_, Cert.Dense.run m g, (θ_run Cert.Reference2Ideal.defs _ _).mono (fun r hr c => ⟨(hr c).1.trans ?_, (hr c).2⟩) (Cert.DenseRef.run m' g')⟩
  obtain ⟨h0, h1, h2, h3, h4⟩ := ha c
  exact (congrArg (fun x => Cert.DenseRef.outOf x _ _ _ _) h0).trans ((congrArg (fun x => Cert.DenseRef.outOf _ x _ _ _) h1).trans
    ((congrArg (fun x => Cert.DenseRef.outOf _ _ x _ _) h2).trans ((congrArg (fun x => Cert.DenseRef.outOf _ _ _ x _) h3).trans
      (congrArg (fun x => Cert.DenseRef.outOf _ _ _ _ x) h4))))

end Cert.DenseClaim

end
-- ==== Proof.ProjRef.lean ====
/-
The input projection's reference: its results as functions of its arguments, over the extended reals.
-/
module

public import proofs.«01_k».proof.Proof.Gen.Reference3Ideal.Run
public import proofs.«01_k».proof.Proof.Trunk
public import Idealize.ShloMosaic.Lib.Pointwise

@[expose] public section

set_option maxRecDepth 16384

noncomputable section

namespace Cert.ProjRef

open Cert.Reference3Ideal Cert.Reference3Ideal.Gen Cert.Trunk
open Idealize.ShloMosaic Idealize.ShloMosaic.TcCoe Idealize.ShloMosaic.Pointwise Idealize.SL.Sem

variable (h : S16384x1024.Idx → EReal) (g : S1024.Idx → EReal) (w : S4x1024x4864.Idx → EReal)

/-- The projected row `R`, at a column. -/
def row (R : Fin 16384) (j : Fin 4864) : EReal :=
  proj (fun k => h (ix2 R k)) (fun k => g (ix1 k)) (fun k j => w (ix3 0 k j)) j

/-- The scaled queries. -/
def queries : S16384x512.Idx → EReal := fun y => row h g w (y 0) ⟨(y 1).val, lt_trans (y 1).isLt (by decide)⟩ * Ideal.ofBits FTy.f32 0x3E000000#32
/-- The keys and values, each also with swapped heads. -/
def keys : S16384x512.Idx → EReal := fun y => kvOf (row h g w (y 0)) (y 1)
/-- The recurrence's queries, inputs and gate inputs. -/
def inputs : S16384x1536.Idx → EReal := fun y => hgOf (row h g w (y 0)) (y 1)
/-- The forget logits. -/
def logits : S16384x512.Idx → EReal := fun y => row h g w (y 0) ⟨1280 + (y 1).val, lt_of_lt_of_le (Nat.add_lt_add_left (y 1).isLt 1280) (by decide)⟩
/-- The gates of the branches. -/
def gates : S16384x2048.Idx → EReal := fun y => row h g w (y 0) ⟨2816 + (y 1).val, lt_of_lt_of_le (Nat.add_lt_add_left (y 1).isLt 2816) (by decide)⟩

/-- Layer `l` of a stack of weights. -/
def layer {n a b : Nat} (l : Fin n) (w : (⟨3, ![n, a, b]⟩ : Shape).Idx → EReal) : (⟨2, ![a, b]⟩ : Shape).Idx → EReal := fun y => w (ix3 l (y 0) (y 1))

variable (m : (ℓ : Loc nD τ sig) → Buf (Elt Ideal) ℓ)

theorem keys_eq (c : Dev nD) :
    @Eq (S16384x512.Idx → EReal) (Value.res_main_v35 (F := Ideal) m c)
      (keys (m ((c.tc : Thread nD τ).loc main_arg0)) (m ((c.tc : Thread nD τ).loc main_arg1)) (m ((c.tc : Thread nD τ).loc main_arg2))) := by
  refine funext fun (y : S16384x512.Idx) => ?_
  obtain ⟨r, j, rfl⟩ : ∃ (r : Fin 16384) (j : Fin 512), y = ix2 r j := ⟨y 0, y 1, eq_ix2 y⟩
  unfold Value.res_main_v35
  generalize m ((c.tc : Thread nD τ).loc main_arg0) = h
  generalize m ((c.tc : Thread nD τ).loc main_arg1) = g
  generalize m ((c.tc : Thread nD τ).loc main_arg2) = w
  pointwise []
  rfl

/-- The reference's run: its thirteen results, and the arguments as they were. -/
theorem run (ρ : Dev nD → PrngReg) :
    θ_run defs (onTc (τ := τ) (main (F := Ideal))) ⟨m, fun _ => 0, ρ⟩ fun r => ∀ c : Dev nD,
      @Eq (S16384x512.Idx → EReal) (r.2.mem ((c.tc : Thread nD τ).loc main_v27)) (queries (m ((c.tc : Thread nD τ).loc main_arg0)) (m ((c.tc : Thread nD τ).loc main_arg1)) (m ((c.tc : Thread nD τ).loc main_arg2)))
      ∧ @Eq (S16384x512.Idx → EReal) (r.2.mem ((c.tc : Thread nD τ).loc main_v35)) (keys (m ((c.tc : Thread nD τ).loc main_arg0)) (m ((c.tc : Thread nD τ).loc main_arg1)) (m ((c.tc : Thread nD τ).loc main_arg2)))
      ∧ @Eq (S16384x1536.Idx → EReal) (r.2.mem ((c.tc : Thread nD τ).loc main_v37)) (inputs (m ((c.tc : Thread nD τ).loc main_arg0)) (m ((c.tc : Thread nD τ).loc main_arg1)) (m ((c.tc : Thread nD τ).loc main_arg2)))
      ∧ @Eq (S16384x512.Idx → EReal) (r.2.mem ((c.tc : Thread nD τ).loc main_v20)) (logits (m ((c.tc : Thread nD τ).loc main_arg0)) (m ((c.tc : Thread nD τ).loc main_arg1)) (m ((c.tc : Thread nD τ).loc main_arg2)))
      ∧ @Eq (S16384x2048.Idx → EReal) (r.2.mem ((c.tc : Thread nD τ).loc main_v39)) (gates (m ((c.tc : Thread nD τ).loc main_arg0)) (m ((c.tc : Thread nD τ).loc main_arg1)) (m ((c.tc : Thread nD τ).loc main_arg2)))
      ∧ @Eq (S512x1024.Idx → EReal) (r.2.mem ((c.tc : Thread nD τ).loc main_v42)) (layer (n := 4) 0 (m ((c.tc : Thread nD τ).loc main_arg3)))
      ∧ @Eq (S512x1024.Idx → EReal) (r.2.mem ((c.tc : Thread nD τ).loc main_v45)) (layer (n := 4) 0 (m ((c.tc : Thread nD τ).loc main_arg4)))
      ∧ @Eq (S1024x1024.Idx → EReal) (r.2.mem ((c.tc : Thread nD τ).loc main_v48)) (layer (n := 4) 0 (m ((c.tc : Thread nD τ).loc main_arg5)))
      ∧ @Eq (S1024x1024.Idx → EReal) (r.2.mem ((c.tc : Thread nD τ).loc main_v51)) (layer (n := 4) 0 (m ((c.tc : Thread nD τ).loc main_arg6)))
      ∧ @Eq (S1024x2816.Idx → EReal) (r.2.mem ((c.tc : Thread nD τ).loc main_v54)) (layer (n := 2) 0 (m ((c.tc : Thread nD τ).loc main_arg7)))
      ∧ @Eq (S1024x2816.Idx → EReal) (r.2.mem ((c.tc : Thread nD τ).loc main_v57)) (layer (n := 2) 0 (m ((c.tc : Thread nD τ).loc main_arg8)))
      ∧ @Eq (S2816x1024.Idx → EReal) (r.2.mem ((c.tc : Thread nD τ).loc main_v60)) (layer (n := 2) 0 (m ((c.tc : Thread nD τ).loc main_arg9)))
      ∧ @Eq (S1024x4864.Idx → EReal) (r.2.mem ((c.tc : Thread nD τ).loc main_v63)) (layer (n := 4) 1 (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r hr c => ?_) (Value.run (F := Ideal) m ρ)
  obtain ⟨h0, h1, h2, h3, h4, r0, r1, r2, r3, r4, r5, r6, r7, ha⟩ := hr c
  refine ⟨h0.trans (funext fun (y : S16384x512.Idx) => ?_), h1.trans (keys_eq m c), h2.trans (funext fun (y : S16384x1536.Idx) => ?_), h3.trans (funext fun (y : S16384x512.Idx) => ?_),
    h4.trans (funext fun (y : S16384x2048.Idx) => ?_),
    r0.trans (funext fun (y : S512x1024.Idx) => ?_),
    r1.trans (funext fun (y : S512x1024.Idx) => ?_),
    r2.trans (funext fun (y : S1024x1024.Idx) => ?_),
    r3.trans (funext fun (y : S1024x1024.Idx) => ?_),
    r4.trans (funext fun (y : S1024x2816.Idx) => ?_),
    r5.trans (funext fun (y : S1024x2816.Idx) => ?_),
    r6.trans (funext fun (y : S2816x1024.Idx) => ?_),
    r7.trans (funext fun (y : S1024x4864.Idx) => ?_), ha⟩ <;>
  clear hr ha r0 r1 r2 r3 r4 r5 r6 r7 h0 h1 h2 h3 h4
  · generalize m ((c.tc : Thread nD τ).loc main_arg0) = h
    generalize m ((c.tc : Thread nD τ).loc main_arg1) = g
    generalize m ((c.tc : Thread nD τ).loc main_arg2) = w
    obtain ⟨r, j, rfl⟩ : ∃ (r : Fin 16384) (j : Fin 512), y = ix2 r j := ⟨y 0, y 1, eq_ix2 y⟩
    pointwise []
    rfl
  · generalize m ((c.tc : Thread nD τ).loc main_arg0) = h
    generalize m ((c.tc : Thread nD τ).loc main_arg1) = g
    generalize m ((c.tc : Thread nD τ).loc main_arg2) = w
    obtain ⟨r, j, rfl⟩ : ∃ (r : Fin 16384) (j : Fin 1536), y = ix2 r j := ⟨y 0, y 1, eq_ix2 y⟩
    pointwise []
    show _ = hgOf (row h g w r) j
    unfold hgOf
    split
    · rfl
    · split
      · exact congrArg (row h g w r) (Fin.ext (by show 1792 + (j.val - 512) = 1280 + j.val; omega))
      · exact congrArg (row h g w r) (Fin.ext (by show 2304 + (j.val - 1024) = 1280 + j.val; omega))
  · generalize m ((c.tc : Thread nD τ).loc main_arg0) = h
    generalize m ((c.tc : Thread nD τ).loc main_arg1) = g
    generalize m ((c.tc : Thread nD τ).loc main_arg2) = w
    obtain ⟨r, j, rfl⟩ : ∃ (r : Fin 16384) (j : Fin 512), y = ix2 r j := ⟨y 0, y 1, eq_ix2 y⟩
    pointwise []
    rfl
  · generalize m ((c.tc : Thread nD τ).loc main_arg0) = h
    generalize m ((c.tc : Thread nD τ).loc main_arg1) = g
    generalize m ((c.tc : Thread nD τ).loc main_arg2) = w
    obtain ⟨r, j, rfl⟩ : ∃ (r : Fin 16384) (j : Fin 2048), y = ix2 r j := ⟨y 0, y 1, eq_ix2 y⟩
    pointwise []
    split
    · rfl
    · exact congrArg (row h g w r) (Fin.ext (by show 3840 + (j.val - 1024) = 2816 + j.val; omega))
  · obtain ⟨r, j, rfl⟩ : ∃ (r : Fin 512) (j : Fin 1024), y = ix2 r j := ⟨y 0, y 1, eq_ix2 y⟩
    generalize m ((c.tc : Thread nD τ).loc main_arg3) = w
    pointwise []
    rfl
  · obtain ⟨r, j, rfl⟩ : ∃ (r : Fin 512) (j : Fin 1024), y = ix2 r j := ⟨y 0, y 1, eq_ix2 y⟩
    generalize m ((c.tc : Thread nD τ).loc main_arg4) = w
    pointwise []
    rfl
  · obtain ⟨r, j, rfl⟩ : ∃ (r : Fin 1024) (j : Fin 1024), y = ix2 r j := ⟨y 0, y 1, eq_ix2 y⟩
    generalize m ((c.tc : Thread nD τ).loc main_arg5) = w
    pointwise []
    rfl
  · obtain ⟨r, j, rfl⟩ : ∃ (r : Fin 1024) (j : Fin 1024), y = ix2 r j := ⟨y 0, y 1, eq_ix2 y⟩
    generalize m ((c.tc : Thread nD τ).loc main_arg6) = w
    pointwise []
    rfl
  · obtain ⟨r, j, rfl⟩ : ∃ (r : Fin 1024) (j : Fin 2816), y = ix2 r j := ⟨y 0, y 1, eq_ix2 y⟩
    generalize m ((c.tc : Thread nD τ).loc main_arg7) = w
    pointwise []
    rfl
  · obtain ⟨r, j, rfl⟩ : ∃ (r : Fin 1024) (j : Fin 2816), y = ix2 r j := ⟨y 0, y 1, eq_ix2 y⟩
    generalize m ((c.tc : Thread nD τ).loc main_arg8) = w
    pointwise []
    rfl
  · obtain ⟨r, j, rfl⟩ : ∃ (r : Fin 2816) (j : Fin 1024), y = ix2 r j := ⟨y 0, y 1, eq_ix2 y⟩
    generalize m ((c.tc : Thread nD τ).loc main_arg9) = w
    pointwise []
    rfl
  · obtain ⟨r, j, rfl⟩ : ∃ (r : Fin 1024) (j : Fin 4864), y = ix2 r j := ⟨y 0, y 1, eq_ix2 y⟩
    generalize m ((c.tc : Thread nD τ).loc main_arg2) = w
    pointwise []
    rfl

end Cert.ProjRef

end
-- ==== Proof.ProjPay.lean ====
/-
The input projection call: what the body computes, read at an index over the extended reals.
-/
module

public import proofs.«01_k».proof.Proof.Gen.Kernel3Ideal.Skeleton
public import proofs.«01_k».proof.Proof.Trunk
public import Idealize.ShloMosaic.Lib.Pointwise

@[expose] public section

set_option maxRecDepth 16384

noncomputable section

namespace Cert.Proj

open Cert.Kernel3Ideal Cert.Kernel3Ideal.Gen Cert.Trunk
open Idealize.ShloMosaic Idealize.ShloMosaic.Pointwise

theorem pay14_apply (h : Vec Ideal S512x1024 .f32) (g : Vec Ideal S1x1024 .f32) (r : Fin 512) (k : Fin 1024) :
    @Eq EReal (k0_pay14 (F := Ideal) h g (ix2 r k)) (norm (fun k => h (ix2 r k)) (fun k => g (ix2 0 k)) k) := by
  pointwise [k0_pay14]
  rfl

theorem pay15_apply (h : Vec Ideal S512x1024 .f32) (g : Vec Ideal S1x1024 .f32) (w : Vec Ideal S1024x512 .bf16) (r : Fin 512) (j : Fin 512) :
    @Eq EReal (k0_pay15 (F := Ideal) h g w (ix2 r j))
      ((∑ k, norm (fun k => h (ix2 r k)) (fun k => g (ix2 0 k)) k * w (ix2 k j)) * Ideal.ofBits FTy.f32 0x3E000000#32) := by
  pointwise [k0_pay15]
  simp only [pay14_apply]

theorem pay16_apply (h : Vec Ideal S512x1024 .f32) (g : Vec Ideal S1x1024 .f32) (w : Vec Ideal S1024x256 .bf16) (r : Fin 512) (j : Fin 256) :
    @Eq EReal (k0_pay16 (F := Ideal) h g w (ix2 r j))
      (∑ k, norm (fun k => h (ix2 r k)) (fun k => g (ix2 0 k)) k * w (ix2 k j)) := by
  pointwise [k0_pay16]
  simp only [pay14_apply]

theorem pay18_apply (h : Vec Ideal S512x1024 .f32) (g : Vec Ideal S1x1024 .f32) (w : Vec Ideal S1024x256 .bf16) (r : Fin 512) (j : Fin 128) :
    @Eq EReal (k0_pay18 (F := Ideal) h g w (ix2 r j))
      (∑ k, norm (fun k => h (ix2 r k)) (fun k => g (ix2 0 k)) k * w (ix2 k ⟨j.val, by omega⟩)) := by
  refine Eq.trans ?_ (pay16_apply h g w r ⟨j.val, by omega⟩)
  pointwise [k0_pay18, k0_pay17]

theorem pay17_apply (h : Vec Ideal S512x1024 .f32) (g : Vec Ideal S1x1024 .f32) (w : Vec Ideal S1024x256 .bf16) (r : Fin 512) (j : Fin 128) :
    @Eq EReal (k0_pay17 (F := Ideal) h g w (ix2 r j))
      (∑ k, norm (fun k => h (ix2 r k)) (fun k => g (ix2 0 k)) k * w (ix2 k ⟨j.val, by omega⟩)) := by
  refine Eq.trans ?_ (pay16_apply h g w r ⟨j.val, by omega⟩)
  pointwise [k0_pay17]

theorem pay19_apply (x : FVec Ideal S512x128 .f32) (r : Fin 512) (j : Fin 128) :
    @Eq EReal (k0_pay19 (F := Ideal) x (ix2 r j)) (swapped (fun j => x (ix2 r j)) j) := by
  pointwise [k0_pay19]
  rfl

theorem pay21_apply (x : FVec Ideal S512x256 .f32) (r : Fin 512) (j : Fin 128) :
    @Eq EReal (k0_pay21 (F := Ideal) x (ix2 r j)) (x (ix2 r ⟨128 + j.val, by omega⟩)) := by
  pointwise [k0_pay21, k0_pay20]

theorem pay22_apply (x : FVec Ideal S512x256 .f32) (r : Fin 512) (j : Fin 128) :
    @Eq EReal (k0_pay22 (F := Ideal) x (ix2 r j)) (swapped (fun j => x (ix2 r ⟨128 + j.val, by omega⟩)) j) := by
  pointwise [k0_pay22, k0_pay20]
  rfl

theorem pay1_apply (x : FVec Ideal S512x1024 .bf16) (w : Vec Ideal S1024x512 .bf16) (r j : Fin 512) :
    @Eq EReal (k0_pay1 (F := Ideal) x (k0_pay26 w) (ix2 r j)) (∑ k, x (ix2 r k) * w (ix2 k j)) := by
  pointwise [k0_pay1, k0_pay26]

theorem pay2_apply (x : FVec Ideal S512x1024 .bf16) (w : Vec Ideal S1024x512 .bf16) (r j : Fin 512) :
    @Eq EReal (k0_pay2 (F := Ideal) x w (ix2 r j)) (∑ k, x (ix2 r k) * w (ix2 k j)) := by
  pointwise [k0_pay2]

theorem pay3_apply (x : FVec Ideal S512x1024 .bf16) (w : Vec Ideal S1024x512 .bf16) (r j : Fin 512) :
    @Eq EReal (k0_pay3 (F := Ideal) x w (ix2 r j)) (∑ k, x (ix2 r k) * w (ix2 k j)) := by
  pointwise [k0_pay3]

theorem pay4_apply (x : FVec Ideal S512x1024 .bf16) (w : Vec Ideal S1024x512 .bf16) (r j : Fin 512) :
    @Eq EReal (k0_pay4 (F := Ideal) x w (ix2 r j)) (∑ k, x (ix2 r k) * w (ix2 k j)) := by
  pointwise [k0_pay4]

theorem pay5_apply (x : FVec Ideal S512x1024 .bf16) (w : Vec Ideal S1024x512 .bf16) (r j : Fin 512) :
    @Eq EReal (k0_pay5 (F := Ideal) x w (ix2 r j)) (∑ k, x (ix2 r k) * w (ix2 k j)) := by
  pointwise [k0_pay5]

theorem pay23_apply (x : FVec Ideal S512x1024 .bf16) (w : Vec Ideal S1024x512 .bf16) (r j : Fin 512) :
    @Eq EReal (k0_pay23 (F := Ideal) x w (ix2 r j)) (∑ k, x (ix2 r k) * w (ix2 k j)) := by
  pointwise [k0_pay23]

theorem pay24_apply (x : FVec Ideal S512x1024 .bf16) (w : Vec Ideal S1024x512 .bf16) (r j : Fin 512) :
    @Eq EReal (k0_pay24 (F := Ideal) x w (ix2 r j)) (∑ k, x (ix2 r k) * w (ix2 k j)) := by
  pointwise [k0_pay24]

theorem pay25_apply (x : FVec Ideal S512x1024 .bf16) (w : Vec Ideal S1024x512 .bf16) (r j : Fin 512) :
    @Eq EReal (k0_pay25 (F := Ideal) x w (ix2 r j)) (∑ k, x (ix2 r k) * w (ix2 k j)) := by
  pointwise [k0_pay25]

theorem pay6_apply (x : Vec Ideal S16x1024 .f32) (r : Fin 16) (j : Fin 1024) : @Eq EReal (k0_pay6 (F := Ideal) x (ix2 r j)) (x (ix2 r j)) := by
  pointwise [k0_pay6]

theorem pay7_apply (x : Vec Ideal S16x1024 .f32) (r : Fin 16) (j : Fin 1024) : @Eq EReal (k0_pay7 (F := Ideal) x (ix2 r j)) (x (ix2 r j)) := by
  pointwise [k0_pay7]

theorem pay8_apply (x : Vec Ideal S32x1024 .f32) (r : Fin 32) (j : Fin 1024) : @Eq EReal (k0_pay8 (F := Ideal) x (ix2 r j)) (x (ix2 r j)) := by
  pointwise [k0_pay8]

theorem pay9_apply (x : Vec Ideal S32x1024 .f32) (r : Fin 32) (j : Fin 1024) : @Eq EReal (k0_pay9 (F := Ideal) x (ix2 r j)) (x (ix2 r j)) := by
  pointwise [k0_pay9]

theorem pay10_apply (x : Vec Ideal S32x2816 .f32) (r : Fin 32) (j : Fin 2816) : @Eq EReal (k0_pay10 (F := Ideal) x (ix2 r j)) (x (ix2 r j)) := by
  pointwise [k0_pay10]

theorem pay11_apply (x : Vec Ideal S32x2816 .f32) (r : Fin 32) (j : Fin 2816) : @Eq EReal (k0_pay11 (F := Ideal) x (ix2 r j)) (x (ix2 r j)) := by
  pointwise [k0_pay11]

theorem pay12_apply (x : Vec Ideal S176x1024 .f32) (r : Fin 176) (j : Fin 1024) : @Eq EReal (k0_pay12 (F := Ideal) x (ix2 r j)) (x (ix2 r j)) := by
  pointwise [k0_pay12]

theorem pay13_apply (x : Vec Ideal S32x4864 .f32) (r : Fin 32) (j : Fin 4864) : @Eq EReal (k0_pay13 (F := Ideal) x (ix2 r j)) (x (ix2 r j)) := by
  pointwise [k0_pay13]

end Cert.Proj

end
-- ==== Proof.ProjOut.lean ====
/-
The input projection call: what one grid step leaves in each result's block, read at an index.
-/
module

public import proofs.«01_k».proof.Proof.Gen.Kernel3Ideal.Frame
public import proofs.«01_k».proof.Proof.ProjPay
public import Idealize.ShloMosaic.Lib.Pipeline.Value
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Proj

open Cert.Kernel3Ideal Cert.Kernel3Ideal.Gen Cert.Trunk
open Idealize.ShloMosaic Idealize.ShloMosaic.TcCoe Idealize.ShloMosaic.Pointwise Idealize.SL.Sem

variable (x0 : Vec Ideal S512x1024 .f32) (x1 : Vec Ideal S1x1024 .f32) (x2 : Vec Ideal S1024x4864 .bf16)
  (x3 x4 : Vec Ideal S16x1024 .f32) (x5 x6 : Vec Ideal S32x1024 .f32) (x7 x8 : Vec Ideal S32x2816 .f32)
  (x9 : Vec Ideal S176x1024 .f32) (x10 : Vec Ideal S32x4864 .f32)

/-- The block's row `r`, projected, at a column. -/
abbrev brow (r : Fin 512) (j : Fin 4864) : EReal := proj (fun k => x0 (ix2 r k)) (fun k => x1 (ix2 0 k)) (fun k j => x2 (ix2 k j)) j

theorem ld5 (r : Fin 512) (k : Fin 1024) : View.ld x0 r0_5 (ix2 r k) = x0 (ix2 r k) :=
  View.ld_unit_apply_of x0 _ _ _ _ _ (fun a => by fin_cases a <;> exact (Nat.zero_add _).symm)
theorem ld6 (k : Fin 1024) : View.ld x1 r0_6 (ix2 0 k) = x1 (ix2 0 k) :=
  View.ld_unit_apply_of x1 _ _ _ _ _ (fun a => by fin_cases a <;> exact (Nat.zero_add _).symm)
theorem ld7 (k : Fin 1024) (j : Fin 512) : View.ld x2 r0_7 (ix2 k j) = x2 (ix2 k ⟨j.val, by omega⟩) :=
  View.ld_unit_apply_of x2 _ _ _ _ _ (fun a => by fin_cases a <;> exact (Nat.zero_add _).symm)
theorem ld9 (k : Fin 1024) (j : Fin 256) : View.ld x2 r0_9 (ix2 k j) = x2 (ix2 k ⟨512 + j.val, by omega⟩) :=
  View.ld_unit_apply_of x2 _ _ _ _ _ (fun a => by fin_cases a; exacts [(Nat.zero_add _).symm, rfl])
theorem ld14 (k : Fin 1024) (j : Fin 512) : View.ld x2 r0_14 (ix2 k j) = x2 (ix2 k ⟨768 + j.val, by omega⟩) :=
  View.ld_unit_apply_of x2 _ _ _ _ _ (fun a => by fin_cases a; exacts [(Nat.zero_add _).symm, rfl])
theorem ld16 (k : Fin 1024) (j : Fin 512) : View.ld x2 r0_16 (ix2 k j) = x2 (ix2 k ⟨1280 + j.val, by omega⟩) :=
  View.ld_unit_apply_of x2 _ _ _ _ _ (fun a => by fin_cases a; exacts [(Nat.zero_add _).symm, rfl])
theorem ld17 (k : Fin 1024) (j : Fin 512) : View.ld x2 r0_17 (ix2 k j) = x2 (ix2 k ⟨1792 + j.val, by omega⟩) :=
  View.ld_unit_apply_of x2 _ _ _ _ _ (fun a => by fin_cases a; exacts [(Nat.zero_add _).symm, rfl])
theorem ld19 (k : Fin 1024) (j : Fin 512) : View.ld x2 r0_19 (ix2 k j) = x2 (ix2 k ⟨2304 + j.val, by omega⟩) :=
  View.ld_unit_apply_of x2 _ _ _ _ _ (fun a => by fin_cases a; exacts [(Nat.zero_add _).symm, rfl])
theorem ld21 (k : Fin 1024) (j : Fin 512) : View.ld x2 r0_21 (ix2 k j) = x2 (ix2 k ⟨2816 + j.val, by omega⟩) :=
  View.ld_unit_apply_of x2 _ _ _ _ _ (fun a => by fin_cases a; exacts [(Nat.zero_add _).symm, rfl])
theorem ld23 (k : Fin 1024) (j : Fin 512) : View.ld x2 r0_23 (ix2 k j) = x2 (ix2 k ⟨3328 + j.val, by omega⟩) :=
  View.ld_unit_apply_of x2 _ _ _ _ _ (fun a => by fin_cases a; exacts [(Nat.zero_add _).symm, rfl])
theorem ld25 (k : Fin 1024) (j : Fin 512) : View.ld x2 r0_25 (ix2 k j) = x2 (ix2 k ⟨3840 + j.val, by omega⟩) :=
  View.ld_unit_apply_of x2 _ _ _ _ _ (fun a => by fin_cases a; exacts [(Nat.zero_add _).symm, rfl])
theorem ld27 (k : Fin 1024) (j : Fin 512) : View.ld x2 r0_27 (ix2 k j) = x2 (ix2 k ⟨4352 + j.val, by omega⟩) :=
  View.ld_unit_apply_of x2 _ _ _ _ _ (fun a => by fin_cases a; exacts [(Nat.zero_add _).symm, rfl])

theorem rows_eq (r : Fin 512) (k : Fin 1024) :
    norm (fun k => View.ld x0 r0_5 (ix2 r k)) (fun k => View.ld x1 r0_6 (ix2 0 k)) k = norm (fun k => x0 (ix2 r k)) (fun k => x1 (ix2 0 k)) k :=
  congrArg₂ (fun a b => norm a b k) (funext fun k => ld5 x0 r k) (funext fun k => ld6 x1 k)

theorem pay27_apply (r : Fin 512) (k : Fin 1024) :
    @Eq EReal (k0_pay27 (F := Ideal) x0 x1 x2 x3 x4 x5 x6 x7 x8 x9 x10 (ix2 r k)) (norm (fun k => x0 (ix2 r k)) (fun k => x1 (ix2 0 k)) k) :=
  (pay14_apply _ _ r k).trans (rows_eq x0 x1 r k)

theorem pay28_apply (r : Fin 512) (j : Fin 256) :
    @Eq EReal (k0_pay28 (F := Ideal) x0 x1 x2 x3 x4 x5 x6 x7 x8 x9 x10 (ix2 r j)) (brow x0 x1 x2 r ⟨512 + j.val, by omega⟩) :=
  (pay16_apply _ _ _ r j).trans (Finset.sum_congr rfl fun k _ => congrArg₂ (· * ·) (rows_eq x0 x1 r k) (ld9 x2 k j))

theorem out11_apply (r j : Fin 512) :
    @Eq EReal (out0_11 (F := Ideal) x0 x1 x2 x3 x4 x5 x6 x7 x8 x9 x10 (ix2 r j)) (brow x0 x1 x2 r ⟨j.val, by omega⟩ * Ideal.ofBits FTy.f32 0x3E000000#32) := by
  unfold out0_11
  rw [View.canon_unit_zero (funext fun a => by fin_cases a <;> rfl)]
  exact (pay15_apply _ _ _ r j).trans (congrArg (· * _) (Finset.sum_congr rfl fun k _ => congrArg₂ (· * ·) (rows_eq x0 x1 r k) (ld7 x2 k j)))

theorem out14_apply (r j : Fin 512) :
    @Eq EReal (out0_14 (F := Ideal) x0 x1 x2 x3 x4 x5 x6 x7 x8 x9 x10 (ix2 r j)) (brow x0 x1 x2 r ⟨1280 + j.val, by omega⟩) := by
  unfold out0_14
  rw [View.canon_unit_zero (funext fun a => by fin_cases a <;> rfl)]
  exact (pay24_apply _ _ r j).trans (Finset.sum_congr rfl fun k _ => congrArg₂ (· * ·) (pay27_apply x0 x1 x2 x3 x4 x5 x6 x7 x8 x9 x10 r k) (ld16 x2 k j))

theorem emb10 (r : Fin 512) (j : Fin 128) : r0_10.emb (ix2 r j) = (ix2 r (⟨j.val, by omega⟩ : Fin 512) : S512x512.Idx) := by
  refine funext fun a => Fin.ext ?_
  fin_cases a
  · show 0 + 1 * r.val = r.val
    omega
  · show 0 + 1 * j.val = j.val
    omega

theorem emb11 (r : Fin 512) (j : Fin 128) : r0_11.emb (ix2 r j) = (ix2 r (⟨128 + j.val, by omega⟩ : Fin 512) : S512x512.Idx) := by
  refine funext fun a => Fin.ext ?_
  fin_cases a
  · show 0 + 1 * r.val = r.val
    omega
  · show 128 + 1 * j.val = 128 + j.val
    omega

theorem emb12 (r : Fin 512) (j : Fin 128) : r0_12.emb (ix2 r j) = (ix2 r (⟨256 + j.val, by omega⟩ : Fin 512) : S512x512.Idx) := by
  refine funext fun a => Fin.ext ?_
  fin_cases a
  · show 0 + 1 * r.val = r.val
    omega
  · show 256 + 1 * j.val = 256 + j.val
    omega

theorem emb13 (r : Fin 512) (j : Fin 128) : r0_13.emb (ix2 r j) = (ix2 r (⟨384 + j.val, by omega⟩ : Fin 512) : S512x512.Idx) := by
  refine funext fun a => Fin.ext ?_
  fin_cases a
  · show 0 + 1 * r.val = r.val
    omega
  · show 384 + 1 * j.val = 384 + j.val
    omega

theorem emb15 (r : Fin 512) (j : Fin 512) : r0_15.emb (ix2 r j) = (ix2 r (⟨j.val, by omega⟩ : Fin 1536) : S512x1536.Idx) := by
  refine funext fun a => Fin.ext ?_
  fin_cases a
  · show 0 + 1 * r.val = r.val
    omega
  · show 0 + 1 * j.val = j.val
    omega

theorem emb18 (r : Fin 512) (j : Fin 512) : r0_18.emb (ix2 r j) = (ix2 r (⟨512 + j.val, by omega⟩ : Fin 1536) : S512x1536.Idx) := by
  refine funext fun a => Fin.ext ?_
  fin_cases a
  · show 0 + 1 * r.val = r.val
    omega
  · show 512 + 1 * j.val = 512 + j.val
    omega

theorem emb20 (r : Fin 512) (j : Fin 512) : r0_20.emb (ix2 r j) = (ix2 r (⟨1024 + j.val, by omega⟩ : Fin 1536) : S512x1536.Idx) := by
  refine funext fun a => Fin.ext ?_
  fin_cases a
  · show 0 + 1 * r.val = r.val
    omega
  · show 1024 + 1 * j.val = 1024 + j.val
    omega

theorem emb22 (r : Fin 512) (j : Fin 512) : r0_22.emb (ix2 r j) = (ix2 r (⟨j.val, by omega⟩ : Fin 2048) : S512x2048.Idx) := by
  refine funext fun a => Fin.ext ?_
  fin_cases a
  · show 0 + 1 * r.val = r.val
    omega
  · show 0 + 1 * j.val = j.val
    omega

theorem emb24 (r : Fin 512) (j : Fin 512) : r0_24.emb (ix2 r j) = (ix2 r (⟨512 + j.val, by omega⟩ : Fin 2048) : S512x2048.Idx) := by
  refine funext fun a => Fin.ext ?_
  fin_cases a
  · show 0 + 1 * r.val = r.val
    omega
  · show 512 + 1 * j.val = 512 + j.val
    omega

theorem emb26 (r : Fin 512) (j : Fin 512) : r0_26.emb (ix2 r j) = (ix2 r (⟨1024 + j.val, by omega⟩ : Fin 2048) : S512x2048.Idx) := by
  refine funext fun a => Fin.ext ?_
  fin_cases a
  · show 0 + 1 * r.val = r.val
    omega
  · show 1024 + 1 * j.val = 1024 + j.val
    omega

theorem emb28 (r : Fin 512) (j : Fin 512) : r0_28.emb (ix2 r j) = (ix2 r (⟨1536 + j.val, by omega⟩ : Fin 2048) : S512x2048.Idx) := by
  refine funext fun a => Fin.ext ?_
  fin_cases a
  · show 0 + 1 * r.val = r.val
    omega
  · show 1536 + 1 * j.val = 1536 + j.val
    omega

theorem piece10 (r : Fin 512) (j : Fin 128) : @Eq EReal (k0_pay18 (F := Ideal) (View.ld x0 r0_5) (View.ld x1 r0_6) (View.ld x2 r0_9) (ix2 r j))
    (kvOf (brow x0 x1 x2 r) ⟨j.val, by omega⟩) := by
  refine (pay18_apply _ _ _ r j).trans ?_
  unfold kvOf
  rw [dif_pos (show j.val < 128 from j.isLt)]
  exact Finset.sum_congr rfl fun k _ => congrArg₂ (· * ·) (rows_eq x0 x1 r k) (ld9 x2 k _)

theorem swapped_congr {f f' : Fin 128 → EReal} {j j' : Fin 128} (hf : f = f') (hj : j.val = j'.val) : swapped f j = swapped f' j' := by
  obtain rfl := hf
  obtain rfl : j = j' := Fin.ext hj
  rfl

theorem piece11 (r : Fin 512) (j : Fin 128) :
    @Eq EReal (k0_pay19 (F := Ideal) (k0_pay17 (View.ld x0 r0_5) (View.ld x1 r0_6) (View.ld x2 r0_9)) (ix2 r j))
      (kvOf (brow x0 x1 x2 r) ⟨128 + j.val, by omega⟩) := by
  refine (pay19_apply _ r j).trans ?_
  unfold kvOf
  rw [dif_neg (show ¬ (128 + j.val < 128) by omega), dif_pos (show 128 + j.val - 128 < 128 by omega)]
  exact swapped_congr (funext fun i => (pay17_apply _ _ _ r i).trans
    (Finset.sum_congr rfl fun k _ => congrArg₂ (· * ·) (rows_eq x0 x1 r k) (ld9 x2 k _))) (by show j.val = 128 + j.val - 128; omega)

theorem piece12 (r : Fin 512) (j : Fin 128) :
    @Eq EReal (k0_pay21 (F := Ideal) (k0_pay28 x0 x1 x2 x3 x4 x5 x6 x7 x8 x9 x10) (ix2 r j)) (kvOf (brow x0 x1 x2 r) ⟨256 + j.val, by omega⟩) := by
  refine (pay21_apply _ r j).trans ((pay28_apply x0 x1 x2 x3 x4 x5 x6 x7 x8 x9 x10 r _).trans ?_)
  unfold kvOf
  rw [dif_neg (show ¬ (256 + j.val < 128) by omega), dif_neg (show ¬ (256 + j.val - 128 < 128) by omega),
    dif_pos (show 256 + j.val - 128 - 128 < 128 by omega)]
  exact congrArg (brow x0 x1 x2 r) (Fin.ext (by show 512 + (128 + j.val) = 640 + (256 + j.val - 128 - 128); omega))

theorem piece13 (r : Fin 512) (j : Fin 128) :
    @Eq EReal (k0_pay22 (F := Ideal) (k0_pay28 x0 x1 x2 x3 x4 x5 x6 x7 x8 x9 x10) (ix2 r j)) (kvOf (brow x0 x1 x2 r) ⟨384 + j.val, by omega⟩) := by
  refine (pay22_apply _ r j).trans ?_
  unfold kvOf
  rw [dif_neg (show ¬ (384 + j.val < 128) by omega), dif_neg (show ¬ (384 + j.val - 128 < 128) by omega),
    dif_neg (show ¬ (384 + j.val - 128 - 128 < 128) by omega)]
  exact swapped_congr (funext fun i => (pay28_apply x0 x1 x2 x3 x4 x5 x6 x7 x8 x9 x10 r _).trans
    (congrArg (brow x0 x1 x2 r) (Fin.ext (by show 512 + (128 + i.val) = 640 + i.val; omega)))) (by show j.val = 384 + j.val - 128 - 128 - 128; omega)

theorem out12_apply (r : Fin 512) (j : Fin 512) :
    @Eq EReal (out0_12 (F := Ideal) x0 x1 x2 x3 x4 x5 x6 x7 x8 x9 x10 (ix2 r j)) ((fun (r : Fin 512) (j : Fin 512) => kvOf (brow x0 x1 x2 r) j) r j) := by
  unfold out0_12
  refine View.canon_apply_of_pieces (Val := Elt Ideal) (S := S512x512) (fun y => (fun (r : Fin 512) (j : Fin 512) => kvOf (brow x0 x1 x2 r) j) (y 0) (y 1)) _ ?_ (ix2 r j)
    (cover0_12 _ _ _ _ _)
  intro p hp
  simp only [List.mem_cons, List.not_mem_nil, or_false] at hp
  rcases hp with rfl | rfl | rfl | rfl
  · refine fun (x : S512x128.Idx) => ?_
    obtain ⟨r, j, rfl⟩ : ∃ (r : Fin 512) (j : Fin 128), x = ix2 r j := ⟨x 0, x 1, eq_ix2 x⟩
    exact (piece13 x0 x1 x2 x3 x4 x5 x6 x7 x8 x9 x10 r j).trans (congrArg (fun y : S512x512.Idx => (fun (r : Fin 512) (j : Fin 512) => kvOf (brow x0 x1 x2 r) j) (y 0) (y 1)) (emb13 r j)).symm
  · refine fun (x : S512x128.Idx) => ?_
    obtain ⟨r, j, rfl⟩ : ∃ (r : Fin 512) (j : Fin 128), x = ix2 r j := ⟨x 0, x 1, eq_ix2 x⟩
    exact (piece12 x0 x1 x2 x3 x4 x5 x6 x7 x8 x9 x10 r j).trans (congrArg (fun y : S512x512.Idx => (fun (r : Fin 512) (j : Fin 512) => kvOf (brow x0 x1 x2 r) j) (y 0) (y 1)) (emb12 r j)).symm
  · refine fun (x : S512x128.Idx) => ?_
    obtain ⟨r, j, rfl⟩ : ∃ (r : Fin 512) (j : Fin 128), x = ix2 r j := ⟨x 0, x 1, eq_ix2 x⟩
    exact (piece11 x0 x1 x2 r j).trans (congrArg (fun y : S512x512.Idx => (fun (r : Fin 512) (j : Fin 512) => kvOf (brow x0 x1 x2 r) j) (y 0) (y 1)) (emb11 r j)).symm
  · refine fun (x : S512x128.Idx) => ?_
    obtain ⟨r, j, rfl⟩ : ∃ (r : Fin 512) (j : Fin 128), x = ix2 r j := ⟨x 0, x 1, eq_ix2 x⟩
    exact (piece10 x0 x1 x2 r j).trans (congrArg (fun y : S512x512.Idx => (fun (r : Fin 512) (j : Fin 512) => kvOf (brow x0 x1 x2 r) j) (y 0) (y 1)) (emb10 r j)).symm

theorem piece20 (r : Fin 512) (j : Fin 512) : @Eq EReal (k0_pay1 (F := Ideal) (k0_pay27 x0 x1 x2 x3 x4 x5 x6 x7 x8 x9 x10) (k0_pay26 (View.ld x2 r0_19)) (ix2 r j))
    (hgOf (brow x0 x1 x2 r) ⟨1024 + j.val, by omega⟩) := by
  refine ((pay1_apply _ _ r j).trans (Finset.sum_congr rfl fun k _ => congrArg₂ (· * ·) (pay27_apply x0 x1 x2 x3 x4 x5 x6 x7 x8 x9 x10 r k) (ld19 x2 k j))).trans ?_
  unfold hgOf
  rw [dif_neg (show ¬ (1024 + j.val < 512) by omega)]
  exact congrArg (brow x0 x1 x2 r) (Fin.ext (by show 2304 + j.val = 1280 + (1024 + j.val); omega))

theorem piece18 (r : Fin 512) (j : Fin 512) : @Eq EReal (k0_pay25 (F := Ideal) (k0_pay27 x0 x1 x2 x3 x4 x5 x6 x7 x8 x9 x10) (View.ld x2 r0_17) (ix2 r j))
    (hgOf (brow x0 x1 x2 r) ⟨512 + j.val, by omega⟩) := by
  refine ((pay25_apply _ _ r j).trans (Finset.sum_congr rfl fun k _ => congrArg₂ (· * ·) (pay27_apply x0 x1 x2 x3 x4 x5 x6 x7 x8 x9 x10 r k) (ld17 x2 k j))).trans ?_
  unfold hgOf
  rw [dif_neg (show ¬ (512 + j.val < 512) by omega)]
  exact congrArg (brow x0 x1 x2 r) (Fin.ext (by show 1792 + j.val = 1280 + (512 + j.val); omega))

theorem piece15 (r : Fin 512) (j : Fin 512) : @Eq EReal (k0_pay23 (F := Ideal) (k0_pay27 x0 x1 x2 x3 x4 x5 x6 x7 x8 x9 x10) (View.ld x2 r0_14) (ix2 r j))
    (hgOf (brow x0 x1 x2 r) ⟨j.val, by omega⟩) := by
  refine ((pay23_apply _ _ r j).trans (Finset.sum_congr rfl fun k _ => congrArg₂ (· * ·) (pay27_apply x0 x1 x2 x3 x4 x5 x6 x7 x8 x9 x10 r k) (ld14 x2 k j))).trans ?_
  unfold hgOf
  rw [dif_pos (show (j.val < 512) from j.isLt)]
  exact congrArg (brow x0 x1 x2 r) (Fin.ext (by show 768 + j.val = 768 + j.val; omega))

theorem piece28 (r : Fin 512) (j : Fin 512) : @Eq EReal (k0_pay5 (F := Ideal) (k0_pay27 x0 x1 x2 x3 x4 x5 x6 x7 x8 x9 x10) (View.ld x2 r0_27) (ix2 r j))
    (brow x0 x1 x2 r ⟨2816 + (⟨1536 + j.val, by omega⟩ : Fin 2048).val, lt_of_lt_of_le (Nat.add_lt_add_left (⟨1536 + j.val, by omega⟩ : Fin 2048).isLt 2816) (by decide)⟩) := by
  refine ((pay5_apply _ _ r j).trans (Finset.sum_congr rfl fun k _ => congrArg₂ (· * ·) (pay27_apply x0 x1 x2 x3 x4 x5 x6 x7 x8 x9 x10 r k) (ld27 x2 k j))).trans ?_
  exact congrArg (brow x0 x1 x2 r) (Fin.ext (by show 4352 + j.val = 2816 + (1536 + j.val); omega))

theorem piece26 (r : Fin 512) (j : Fin 512) : @Eq EReal (k0_pay4 (F := Ideal) (k0_pay27 x0 x1 x2 x3 x4 x5 x6 x7 x8 x9 x10) (View.ld x2 r0_25) (ix2 r j))
    (brow x0 x1 x2 r ⟨2816 + (⟨1024 + j.val, by omega⟩ : Fin 2048).val, lt_of_lt_of_le (Nat.add_lt_add_left (⟨1024 + j.val, by omega⟩ : Fin 2048).isLt 2816) (by decide)⟩) := by
  refine ((pay4_apply _ _ r j).trans (Finset.sum_congr rfl fun k _ => congrArg₂ (· * ·) (pay27_apply x0 x1 x2 x3 x4 x5 x6 x7 x8 x9 x10 r k) (ld25 x2 k j))).trans ?_
  exact congrArg (brow x0 x1 x2 r) (Fin.ext (by show 3840 + j.val = 2816 + (1024 + j.val); omega))

theorem piece24 (r : Fin 512) (j : Fin 512) : @Eq EReal (k0_pay3 (F := Ideal) (k0_pay27 x0 x1 x2 x3 x4 x5 x6 x7 x8 x9 x10) (View.ld x2 r0_23) (ix2 r j))
    (brow x0 x1 x2 r ⟨2816 + (⟨512 + j.val, by omega⟩ : Fin 2048).val, lt_of_lt_of_le (Nat.add_lt_add_left (⟨512 + j.val, by omega⟩ : Fin 2048).isLt 2816) (by decide)⟩) := by
  refine ((pay3_apply _ _ r j).trans (Finset.sum_congr rfl fun k _ => congrArg₂ (· * ·) (pay27_apply x0 x1 x2 x3 x4 x5 x6 x7 x8 x9 x10 r k) (ld23 x2 k j))).trans ?_
  exact congrArg (brow x0 x1 x2 r) (Fin.ext (by show 3328 + j.val = 2816 + (512 + j.val); omega))

theorem piece22 (r : Fin 512) (j : Fin 512) : @Eq EReal (k0_pay2 (F := Ideal) (k0_pay27 x0 x1 x2 x3 x4 x5 x6 x7 x8 x9 x10) (View.ld x2 r0_21) (ix2 r j))
    (brow x0 x1 x2 r ⟨2816 + (⟨j.val, by omega⟩ : Fin 2048).val, lt_of_lt_of_le (Nat.add_lt_add_left (⟨j.val, by omega⟩ : Fin 2048).isLt 2816) (by decide)⟩) := by
  refine ((pay2_apply _ _ r j).trans (Finset.sum_congr rfl fun k _ => congrArg₂ (· * ·) (pay27_apply x0 x1 x2 x3 x4 x5 x6 x7 x8 x9 x10 r k) (ld21 x2 k j))).trans ?_
  exact congrArg (brow x0 x1 x2 r) (Fin.ext (by show 2816 + j.val = 2816 + j.val; omega))

theorem out13_apply (r : Fin 512) (j : Fin 1536) :
    @Eq EReal (out0_13 (F := Ideal) x0 x1 x2 x3 x4 x5 x6 x7 x8 x9 x10 (ix2 r j)) ((fun (r : Fin 512) (j : Fin 1536) => hgOf (brow x0 x1 x2 r) j) r j) := by
  unfold out0_13
  refine View.canon_apply_of_pieces (Val := Elt Ideal) (S := S512x1536) (fun y => (fun (r : Fin 512) (j : Fin 1536) => hgOf (brow x0 x1 x2 r) j) (y 0) (y 1)) _ ?_ (ix2 r j)
    (cover0_13 _ _ _ _)
  intro p hp
  simp only [List.mem_cons, List.not_mem_nil, or_false] at hp
  rcases hp with rfl | rfl | rfl
  · refine fun (x : S512x512.Idx) => ?_
    obtain ⟨r, j, rfl⟩ : ∃ (r : Fin 512) (j : Fin 512), x = ix2 r j := ⟨x 0, x 1, eq_ix2 x⟩
    exact (piece20 x0 x1 x2 x3 x4 x5 x6 x7 x8 x9 x10 r j).trans (congrArg (fun y : S512x1536.Idx => (fun (r : Fin 512) (j : Fin 1536) => hgOf (brow x0 x1 x2 r) j) (y 0) (y 1)) (emb20 r j)).symm
  · refine fun (x : S512x512.Idx) => ?_
    obtain ⟨r, j, rfl⟩ : ∃ (r : Fin 512) (j : Fin 512), x = ix2 r j := ⟨x 0, x 1, eq_ix2 x⟩
    exact (piece18 x0 x1 x2 x3 x4 x5 x6 x7 x8 x9 x10 r j).trans (congrArg (fun y : S512x1536.Idx => (fun (r : Fin 512) (j : Fin 1536) => hgOf (brow x0 x1 x2 r) j) (y 0) (y 1)) (emb18 r j)).symm
  · refine fun (x : S512x512.Idx) => ?_
    obtain ⟨r, j, rfl⟩ : ∃ (r : Fin 512) (j : Fin 512), x = ix2 r j := ⟨x 0, x 1, eq_ix2 x⟩
    exact (piece15 x0 x1 x2 x3 x4 x5 x6 x7 x8 x9 x10 r j).trans (congrArg (fun y : S512x1536.Idx => (fun (r : Fin 512) (j : Fin 1536) => hgOf (brow x0 x1 x2 r) j) (y 0) (y 1)) (emb15 r j)).symm

theorem out15_apply (r : Fin 512) (j : Fin 2048) :
    @Eq EReal (out0_15 (F := Ideal) x0 x1 x2 x3 x4 x5 x6 x7 x8 x9 x10 (ix2 r j)) ((fun (r : Fin 512) (j : Fin 2048) => brow x0 x1 x2 r ⟨2816 + j.val, lt_of_lt_of_le (Nat.add_lt_add_left j.isLt 2816) (by decide)⟩) r j) := by
  unfold out0_15
  refine View.canon_apply_of_pieces (Val := Elt Ideal) (S := S512x2048) (fun y => (fun (r : Fin 512) (j : Fin 2048) => brow x0 x1 x2 r ⟨2816 + j.val, lt_of_lt_of_le (Nat.add_lt_add_left j.isLt 2816) (by decide)⟩) (y 0) (y 1)) _ ?_ (ix2 r j)
    (cover0_15 _ _ _ _ _)
  intro p hp
  simp only [List.mem_cons, List.not_mem_nil, or_false] at hp
  rcases hp with rfl | rfl | rfl | rfl
  · refine fun (x : S512x512.Idx) => ?_
    obtain ⟨r, j, rfl⟩ : ∃ (r : Fin 512) (j : Fin 512), x = ix2 r j := ⟨x 0, x 1, eq_ix2 x⟩
    exact (piece28 x0 x1 x2 x3 x4 x5 x6 x7 x8 x9 x10 r j).trans (congrArg (fun y : S512x2048.Idx => (fun (r : Fin 512) (j : Fin 2048) => brow x0 x1 x2 r ⟨2816 + j.val, lt_of_lt_of_le (Nat.add_lt_add_left j.isLt 2816) (by decide)⟩) (y 0) (y 1)) (emb28 r j)).symm
  · refine fun (x : S512x512.Idx) => ?_
    obtain ⟨r, j, rfl⟩ : ∃ (r : Fin 512) (j : Fin 512), x = ix2 r j := ⟨x 0, x 1, eq_ix2 x⟩
    exact (piece26 x0 x1 x2 x3 x4 x5 x6 x7 x8 x9 x10 r j).trans (congrArg (fun y : S512x2048.Idx => (fun (r : Fin 512) (j : Fin 2048) => brow x0 x1 x2 r ⟨2816 + j.val, lt_of_lt_of_le (Nat.add_lt_add_left j.isLt 2816) (by decide)⟩) (y 0) (y 1)) (emb26 r j)).symm
  · refine fun (x : S512x512.Idx) => ?_
    obtain ⟨r, j, rfl⟩ : ∃ (r : Fin 512) (j : Fin 512), x = ix2 r j := ⟨x 0, x 1, eq_ix2 x⟩
    exact (piece24 x0 x1 x2 x3 x4 x5 x6 x7 x8 x9 x10 r j).trans (congrArg (fun y : S512x2048.Idx => (fun (r : Fin 512) (j : Fin 2048) => brow x0 x1 x2 r ⟨2816 + j.val, lt_of_lt_of_le (Nat.add_lt_add_left j.isLt 2816) (by decide)⟩) (y 0) (y 1)) (emb24 r j)).symm
  · refine fun (x : S512x512.Idx) => ?_
    obtain ⟨r, j, rfl⟩ : ∃ (r : Fin 512) (j : Fin 512), x = ix2 r j := ⟨x 0, x 1, eq_ix2 x⟩
    exact (piece22 x0 x1 x2 x3 x4 x5 x6 x7 x8 x9 x10 r j).trans (congrArg (fun y : S512x2048.Idx => (fun (r : Fin 512) (j : Fin 2048) => brow x0 x1 x2 r ⟨2816 + j.val, lt_of_lt_of_le (Nat.add_lt_add_left j.isLt 2816) (by decide)⟩) (y 0) (y 1)) (emb22 r j)).symm

theorem out16_apply (r : Fin 16) (j : Fin 1024) : @Eq EReal (out0_16 (F := Ideal) x0 x1 x2 x3 x4 x5 x6 x7 x8 x9 x10 (ix2 r j)) (x3 (ix2 r j)) := by
  unfold out0_16
  rw [View.canon_unit_zero (funext fun a => by fin_cases a <;> rfl)]
  exact (pay6_apply _ r j).trans (View.ld_unit_apply_of x3 _ _ _ _ _ (fun a => by fin_cases a <;> exact (Nat.zero_add _).symm))

theorem out17_apply (r : Fin 16) (j : Fin 1024) : @Eq EReal (out0_17 (F := Ideal) x0 x1 x2 x3 x4 x5 x6 x7 x8 x9 x10 (ix2 r j)) (x4 (ix2 r j)) := by
  unfold out0_17
  rw [View.canon_unit_zero (funext fun a => by fin_cases a <;> rfl)]
  exact (pay7_apply _ r j).trans (View.ld_unit_apply_of x4 _ _ _ _ _ (fun a => by fin_cases a <;> exact (Nat.zero_add _).symm))

theorem out18_apply (r : Fin 32) (j : Fin 1024) : @Eq EReal (out0_18 (F := Ideal) x0 x1 x2 x3 x4 x5 x6 x7 x8 x9 x10 (ix2 r j)) (x5 (ix2 r j)) := by
  unfold out0_18
  rw [View.canon_unit_zero (funext fun a => by fin_cases a <;> rfl)]
  exact (pay8_apply _ r j).trans (View.ld_unit_apply_of x5 _ _ _ _ _ (fun a => by fin_cases a <;> exact (Nat.zero_add _).symm))

theorem out19_apply (r : Fin 32) (j : Fin 1024) : @Eq EReal (out0_19 (F := Ideal) x0 x1 x2 x3 x4 x5 x6 x7 x8 x9 x10 (ix2 r j)) (x6 (ix2 r j)) := by
  unfold out0_19
  rw [View.canon_unit_zero (funext fun a => by fin_cases a <;> rfl)]
  exact (pay9_apply _ r j).trans (View.ld_unit_apply_of x6 _ _ _ _ _ (fun a => by fin_cases a <;> exact (Nat.zero_add _).symm))

theorem out20_apply (r : Fin 32) (j : Fin 2816) : @Eq EReal (out0_20 (F := Ideal) x0 x1 x2 x3 x4 x5 x6 x7 x8 x9 x10 (ix2 r j)) (x7 (ix2 r j)) := by
  unfold out0_20
  rw [View.canon_unit_zero (funext fun a => by fin_cases a <;> rfl)]
  exact (pay10_apply _ r j).trans (View.ld_unit_apply_of x7 _ _ _ _ _ (fun a => by fin_cases a <;> exact (Nat.zero_add _).symm))

theorem out21_apply (r : Fin 32) (j : Fin 2816) : @Eq EReal (out0_21 (F := Ideal) x0 x1 x2 x3 x4 x5 x6 x7 x8 x9 x10 (ix2 r j)) (x8 (ix2 r j)) := by
  unfold out0_21
  rw [View.canon_unit_zero (funext fun a => by fin_cases a <;> rfl)]
  exact (pay11_apply _ r j).trans (View.ld_unit_apply_of x8 _ _ _ _ _ (fun a => by fin_cases a <;> exact (Nat.zero_add _).symm))

theorem out22_apply (r : Fin 176) (j : Fin 1024) : @Eq EReal (out0_22 (F := Ideal) x0 x1 x2 x3 x4 x5 x6 x7 x8 x9 x10 (ix2 r j)) (x9 (ix2 r j)) := by
  unfold out0_22
  rw [View.canon_unit_zero (funext fun a => by fin_cases a <;> rfl)]
  exact (pay12_apply _ r j).trans (View.ld_unit_apply_of x9 _ _ _ _ _ (fun a => by fin_cases a <;> exact (Nat.zero_add _).symm))

theorem out23_apply (r : Fin 32) (j : Fin 4864) : @Eq EReal (out0_23 (F := Ideal) x0 x1 x2 x3 x4 x5 x6 x7 x8 x9 x10 (ix2 r j)) (x10 (ix2 r j)) := by
  unfold out0_23
  rw [View.canon_unit_zero (funext fun a => by fin_cases a <;> rfl)]
  exact (pay13_apply _ r j).trans (View.ld_unit_apply_of x10 _ _ _ _ _ (fun a => by fin_cases a <;> exact (Nat.zero_add _).symm))

end Cert.Proj

end
-- ==== Proof.ProjValue.lean ====
/-
The input projection call: its result arrays as functions of its arguments, over the extended reals.
-/
module

public import proofs.«01_k».proof.Proof.Gen.Kernel3Ideal.Value
public import proofs.«01_k».proof.Proof.ProjOut
public import proofs.«01_k».proof.Proof.ProjRef

@[expose] public section

set_option maxRecDepth 16384

noncomputable section

namespace Cert.Proj

open Cert.Kernel3Ideal Cert.Kernel3Ideal.Gen Cert.Trunk
open Idealize.ShloMosaic Idealize.ShloMosaic.TcCoe Idealize.ShloMosaic.Pointwise Idealize.SL.Sem
open Idealize.ShloMosaic.Pipeline (Dat Cfg Window)

variable (m : (ℓ : Loc nD τ sig) → Buf (Elt Ideal) ℓ)

/-! ## The arrays the host code prepares -/

theorem V_gain (c : Dev nD) (k : Fin 1024) : V m c main_v8 (ix2 0 k) = m ((c.tc : Thread nD τ).loc main_arg1) (ix1 k) := by
  have h : V m c main_v8 = shapeCast S1x1024 (m ((c.tc : Thread nD τ).loc main_arg1)) Facts₀.shapeCasts_S1024_S1x1024 := by
    unfold V
    simp only [hostOps0]
    after_results_simp
    rfl
  rw [h]
  pointwise []

theorem V_w (c : Dev nD) (k : Fin 1024) (j : Fin 4864) : V m c main_v11 (ix2 k j) = m ((c.tc : Thread nD τ).loc main_arg2) (ix3 0 k j) := by
  have h : V m c main_v11 = (truncf (F := Ideal) .bf16 (shapeCast S1024x4864 (extractStridedSlice S1x1024x4864 ![0, 0, 0] (m ((c.tc : Thread nD τ).loc main_arg2))
      Facts₀.slices_S4x1024x4864_S1x1024x4864_0_0_0) Facts₀.shapeCasts_S1x1024x4864_S1024x4864 : FVec Ideal S1024x4864 .f32) Facts₀.bitsLt_bf16_f32 : FVec Ideal S1024x4864 .bf16) := by
    unfold V
    simp only [hostOps0]
    after_results_simp
    rfl
  rw [h]
  generalize m ((c.tc : Thread nD τ).loc main_arg2) = w
  pointwise []

theorem V_s0 (c : Dev nD) : V m c main_v0 = shapeCast S2048x1024 (m ((c.tc : Thread nD τ).loc main_arg3)) Facts₀.shapeCasts_S4x512x1024_S2048x1024 := by
  unfold V
  simp only [hostOps0]
  after_results_simp
  rfl

theorem stack0 (w : S4x512x1024.Idx → EReal) (r : Fin 2048) (j : Fin 1024) :
    (shapeCast S2048x1024 w Facts₀.shapeCasts_S4x512x1024_S2048x1024 : S2048x1024.Idx → EReal) (ix2 r j) = w (ix3 ⟨r.val / 512, by omega⟩ ⟨r.val % 512, by omega⟩ j) := by
  pointwise []

theorem V_v0 (c : Dev nD) (r : Fin 2048) (j : Fin 1024) (R : Fin 512) (hR : r.val = 0 + R.val) :
    V m c main_v0 (ix2 r j) = (m ((c.tc : Thread nD τ).loc main_arg3)) (ix3 0 R j) := by
  have hlt := R.isLt
  refine (congrFun (V_s0 m c) (ix2 r j)).trans ((stack0 _ r j).trans ?_)
  exact congrArg _ (congrArg₂ (fun a b => ix3 a b j) (Fin.ext (by show r.val / 512 = 0; omega)) (Fin.ext (by show r.val % 512 = R.val; omega)))

theorem V_s1 (c : Dev nD) : V m c main_v1 = shapeCast S2048x1024 (m ((c.tc : Thread nD τ).loc main_arg4)) Facts₀.shapeCasts_S4x512x1024_S2048x1024 := by
  unfold V
  simp only [hostOps0]
  after_results_simp
  rfl

theorem stack1 (w : S4x512x1024.Idx → EReal) (r : Fin 2048) (j : Fin 1024) :
    (shapeCast S2048x1024 w Facts₀.shapeCasts_S4x512x1024_S2048x1024 : S2048x1024.Idx → EReal) (ix2 r j) = w (ix3 ⟨r.val / 512, by omega⟩ ⟨r.val % 512, by omega⟩ j) := by
  pointwise []

theorem V_v1 (c : Dev nD) (r : Fin 2048) (j : Fin 1024) (R : Fin 512) (hR : r.val = 0 + R.val) :
    V m c main_v1 (ix2 r j) = (m ((c.tc : Thread nD τ).loc main_arg4)) (ix3 0 R j) := by
  have hlt := R.isLt
  refine (congrFun (V_s1 m c) (ix2 r j)).trans ((stack1 _ r j).trans ?_)
  exact congrArg _ (congrArg₂ (fun a b => ix3 a b j) (Fin.ext (by show r.val / 512 = 0; omega)) (Fin.ext (by show r.val % 512 = R.val; omega)))

theorem V_s2 (c : Dev nD) : V m c main_v2 = shapeCast S4096x1024 (m ((c.tc : Thread nD τ).loc main_arg5)) Facts₀.shapeCasts_S4x1024x1024_S4096x1024 := by
  unfold V
  simp only [hostOps0]
  after_results_simp
  rfl

theorem stack2 (w : S4x1024x1024.Idx → EReal) (r : Fin 4096) (j : Fin 1024) :
    (shapeCast S4096x1024 w Facts₀.shapeCasts_S4x1024x1024_S4096x1024 : S4096x1024.Idx → EReal) (ix2 r j) = w (ix3 ⟨r.val / 1024, by omega⟩ ⟨r.val % 1024, by omega⟩ j) := by
  pointwise []

theorem V_v2 (c : Dev nD) (r : Fin 4096) (j : Fin 1024) (R : Fin 1024) (hR : r.val = 0 + R.val) :
    V m c main_v2 (ix2 r j) = (m ((c.tc : Thread nD τ).loc main_arg5)) (ix3 0 R j) := by
  have hlt := R.isLt
  refine (congrFun (V_s2 m c) (ix2 r j)).trans ((stack2 _ r j).trans ?_)
  exact congrArg _ (congrArg₂ (fun a b => ix3 a b j) (Fin.ext (by show r.val / 1024 = 0; omega)) (Fin.ext (by show r.val % 1024 = R.val; omega)))

theorem V_s3 (c : Dev nD) : V m c main_v3 = shapeCast S4096x1024 (m ((c.tc : Thread nD τ).loc main_arg6)) Facts₀.shapeCasts_S4x1024x1024_S4096x1024 := by
  unfold V
  simp only [hostOps0]
  after_results_simp
  rfl

theorem stack3 (w : S4x1024x1024.Idx → EReal) (r : Fin 4096) (j : Fin 1024) :
    (shapeCast S4096x1024 w Facts₀.shapeCasts_S4x1024x1024_S4096x1024 : S4096x1024.Idx → EReal) (ix2 r j) = w (ix3 ⟨r.val / 1024, by omega⟩ ⟨r.val % 1024, by omega⟩ j) := by
  pointwise []

theorem V_v3 (c : Dev nD) (r : Fin 4096) (j : Fin 1024) (R : Fin 1024) (hR : r.val = 0 + R.val) :
    V m c main_v3 (ix2 r j) = (m ((c.tc : Thread nD τ).loc main_arg6)) (ix3 0 R j) := by
  have hlt := R.isLt
  refine (congrFun (V_s3 m c) (ix2 r j)).trans ((stack3 _ r j).trans ?_)
  exact congrArg _ (congrArg₂ (fun a b => ix3 a b j) (Fin.ext (by show r.val / 1024 = 0; omega)) (Fin.ext (by show r.val % 1024 = R.val; omega)))

theorem V_s4 (c : Dev nD) : V m c main_v4 = shapeCast S2048x2816 (m ((c.tc : Thread nD τ).loc main_arg7)) Facts₀.shapeCasts_S2x1024x2816_S2048x2816 := by
  unfold V
  simp only [hostOps0]
  after_results_simp
  rfl

theorem stack4 (w : S2x1024x2816.Idx → EReal) (r : Fin 2048) (j : Fin 2816) :
    (shapeCast S2048x2816 w Facts₀.shapeCasts_S2x1024x2816_S2048x2816 : S2048x2816.Idx → EReal) (ix2 r j) = w (ix3 ⟨r.val / 1024, by omega⟩ ⟨r.val % 1024, by omega⟩ j) := by
  pointwise []

theorem V_v4 (c : Dev nD) (r : Fin 2048) (j : Fin 2816) (R : Fin 1024) (hR : r.val = 0 + R.val) :
    V m c main_v4 (ix2 r j) = (m ((c.tc : Thread nD τ).loc main_arg7)) (ix3 0 R j) := by
  have hlt := R.isLt
  refine (congrFun (V_s4 m c) (ix2 r j)).trans ((stack4 _ r j).trans ?_)
  exact congrArg _ (congrArg₂ (fun a b => ix3 a b j) (Fin.ext (by show r.val / 1024 = 0; omega)) (Fin.ext (by show r.val % 1024 = R.val; omega)))

theorem V_s5 (c : Dev nD) : V m c main_v5 = shapeCast S2048x2816 (m ((c.tc : Thread nD τ).loc main_arg8)) Facts₀.shapeCasts_S2x1024x2816_S2048x2816 := by
  unfold V
  simp only [hostOps0]
  after_results_simp
  rfl

theorem stack5 (w : S2x1024x2816.Idx → EReal) (r : Fin 2048) (j : Fin 2816) :
    (shapeCast S2048x2816 w Facts₀.shapeCasts_S2x1024x2816_S2048x2816 : S2048x2816.Idx → EReal) (ix2 r j) = w (ix3 ⟨r.val / 1024, by omega⟩ ⟨r.val % 1024, by omega⟩ j) := by
  pointwise []

theorem V_v5 (c : Dev nD) (r : Fin 2048) (j : Fin 2816) (R : Fin 1024) (hR : r.val = 0 + R.val) :
    V m c main_v5 (ix2 r j) = (m ((c.tc : Thread nD τ).loc main_arg8)) (ix3 0 R j) := by
  have hlt := R.isLt
  refine (congrFun (V_s5 m c) (ix2 r j)).trans ((stack5 _ r j).trans ?_)
  exact congrArg _ (congrArg₂ (fun a b => ix3 a b j) (Fin.ext (by show r.val / 1024 = 0; omega)) (Fin.ext (by show r.val % 1024 = R.val; omega)))

theorem V_s6 (c : Dev nD) : V m c main_v6 = shapeCast S5632x1024 (m ((c.tc : Thread nD τ).loc main_arg9)) Facts₀.shapeCasts_S2x2816x1024_S5632x1024 := by
  unfold V
  simp only [hostOps0]
  after_results_simp
  rfl

theorem stack6 (w : S2x2816x1024.Idx → EReal) (r : Fin 5632) (j : Fin 1024) :
    (shapeCast S5632x1024 w Facts₀.shapeCasts_S2x2816x1024_S5632x1024 : S5632x1024.Idx → EReal) (ix2 r j) = w (ix3 ⟨r.val / 2816, by omega⟩ ⟨r.val % 2816, by omega⟩ j) := by
  pointwise []

theorem V_v6 (c : Dev nD) (r : Fin 5632) (j : Fin 1024) (R : Fin 2816) (hR : r.val = 0 + R.val) :
    V m c main_v6 (ix2 r j) = (m ((c.tc : Thread nD τ).loc main_arg9)) (ix3 0 R j) := by
  have hlt := R.isLt
  refine (congrFun (V_s6 m c) (ix2 r j)).trans ((stack6 _ r j).trans ?_)
  exact congrArg _ (congrArg₂ (fun a b => ix3 a b j) (Fin.ext (by show r.val / 2816 = 0; omega)) (Fin.ext (by show r.val % 2816 = R.val; omega)))

theorem V_s7 (c : Dev nD) : V m c main_v7 = shapeCast S4096x4864 (m ((c.tc : Thread nD τ).loc main_arg2)) Facts₀.shapeCasts_S4x1024x4864_S4096x4864 := by
  unfold V
  simp only [hostOps0]
  after_results_simp
  rfl

theorem stack7 (w : S4x1024x4864.Idx → EReal) (r : Fin 4096) (j : Fin 4864) :
    (shapeCast S4096x4864 w Facts₀.shapeCasts_S4x1024x4864_S4096x4864 : S4096x4864.Idx → EReal) (ix2 r j) = w (ix3 ⟨r.val / 1024, by omega⟩ ⟨r.val % 1024, by omega⟩ j) := by
  pointwise []

theorem V_v7 (c : Dev nD) (r : Fin 4096) (j : Fin 4864) (R : Fin 1024) (hR : r.val = 1024 + R.val) :
    V m c main_v7 (ix2 r j) = (m ((c.tc : Thread nD τ).loc main_arg2)) (ix3 1 R j) := by
  have hlt := R.isLt
  refine (congrFun (V_s7 m c) (ix2 r j)).trans ((stack7 _ r j).trans ?_)
  exact congrArg _ (congrArg₂ (fun a b => ix3 a b j) (Fin.ext (by show r.val / 1024 = 1; omega)) (Fin.ext (by show r.val % 1024 = R.val; omega)))

/-! ## The blocks the steps read and write -/

theorem pts : ∀ t : Fin cfg0.N, cc0_transform_0 (grid0.coords t) 0 = t.val ∧ cc0_transform_11 (grid0.coords t) 0 = t.val ∧ cc0_transform_12 (grid0.coords t) 0 = t.val ∧ cc0_transform_13 (grid0.coords t) 0 = t.val ∧ cc0_transform_14 (grid0.coords t) 0 = t.val ∧ cc0_transform_15 (grid0.coords t) 0 = t.val :=
  (by decide +kernel : ∀ t : Fin grid0.N, cc0_transform_0 (grid0.coords t) 0 = t.val ∧ cc0_transform_11 (grid0.coords t) 0 = t.val ∧ cc0_transform_12 (grid0.coords t) 0 = t.val ∧ cc0_transform_13 (grid0.coords t) 0 = t.val ∧ cc0_transform_14 (grid0.coords t) 0 = t.val ∧ cc0_transform_15 (grid0.coords t) 0 = t.val)

theorem pts3 : ∀ t : Fin cfg0.N, cc0_transform_3 (grid0.coords t) 0 = t.val ∧ cc0_transform_16 (grid0.coords t) 0 = t.val :=
  (by decide +kernel : ∀ t : Fin grid0.N, cc0_transform_3 (grid0.coords t) 0 = t.val ∧ cc0_transform_16 (grid0.coords t) 0 = t.val)

theorem pts4 : ∀ t : Fin cfg0.N, cc0_transform_4 (grid0.coords t) 0 = t.val ∧ cc0_transform_17 (grid0.coords t) 0 = t.val :=
  (by decide +kernel : ∀ t : Fin grid0.N, cc0_transform_4 (grid0.coords t) 0 = t.val ∧ cc0_transform_17 (grid0.coords t) 0 = t.val)

theorem pts5 : ∀ t : Fin cfg0.N, cc0_transform_5 (grid0.coords t) 0 = t.val ∧ cc0_transform_18 (grid0.coords t) 0 = t.val :=
  (by decide +kernel : ∀ t : Fin grid0.N, cc0_transform_5 (grid0.coords t) 0 = t.val ∧ cc0_transform_18 (grid0.coords t) 0 = t.val)

theorem pts6 : ∀ t : Fin cfg0.N, cc0_transform_6 (grid0.coords t) 0 = t.val ∧ cc0_transform_19 (grid0.coords t) 0 = t.val :=
  (by decide +kernel : ∀ t : Fin grid0.N, cc0_transform_6 (grid0.coords t) 0 = t.val ∧ cc0_transform_19 (grid0.coords t) 0 = t.val)

theorem pts7 : ∀ t : Fin cfg0.N, cc0_transform_7 (grid0.coords t) 0 = t.val ∧ cc0_transform_20 (grid0.coords t) 0 = t.val :=
  (by decide +kernel : ∀ t : Fin grid0.N, cc0_transform_7 (grid0.coords t) 0 = t.val ∧ cc0_transform_20 (grid0.coords t) 0 = t.val)

theorem pts8 : ∀ t : Fin cfg0.N, cc0_transform_8 (grid0.coords t) 0 = t.val ∧ cc0_transform_21 (grid0.coords t) 0 = t.val :=
  (by decide +kernel : ∀ t : Fin grid0.N, cc0_transform_8 (grid0.coords t) 0 = t.val ∧ cc0_transform_21 (grid0.coords t) 0 = t.val)

theorem pts9 : ∀ t : Fin cfg0.N, cc0_transform_9 (grid0.coords t) 0 = min t.val 15 ∧ cc0_transform_22 (grid0.coords t) 0 = min t.val 15 :=
  (by decide +kernel : ∀ t : Fin grid0.N, cc0_transform_9 (grid0.coords t) 0 = min t.val 15 ∧ cc0_transform_22 (grid0.coords t) 0 = min t.val 15)

theorem pts10 : ∀ t : Fin cfg0.N, cc0_transform_10 (grid0.coords t) 0 = 32 + t.val ∧ cc0_transform_23 (grid0.coords t) 0 = t.val :=
  (by decide +kernel : ∀ t : Fin grid0.N, cc0_transform_10 (grid0.coords t) 0 = 32 + t.val ∧ cc0_transform_23 (grid0.coords t) 0 = t.val)

theorem iblk0_apply (c : Dev nD) (t : Fin cfg0.N) (r : Fin 512) (k : Fin 1024) (R : Fin 16384) (hR : R.val = t.val * 512 + r.val) :
    iblk m c 0 t (ix2 r k) = m ((c.tc : Thread nD τ).loc main_arg0) (ix2 R k) := by
  refine Eq.trans ?_ (congrFun (V_main_arg0 m c) _)
  show V m c main_arg0 (((cfg0.win 0).blk t).view.emb (ix2 r k)) = _
  refine congrArg _ (funext fun a => Fin.ext ?_)
  fin_cases a
  · show cc0_transform_0 (grid0.coords t) 0 * 512 + 1 * r.val = R.val
    rw [(pts t).1]; omega
  · show 0 * 1024 + 1 * k.val = k.val
    omega

theorem iblk1_apply (c : Dev nD) (t : Fin cfg0.N) (k : Fin 1024) :
    iblk m c 1 t (ix2 0 k) = m ((c.tc : Thread nD τ).loc main_arg1) (ix1 k) := by
  refine Eq.trans ?_ (V_gain m c k)
  show V m c main_v8 (((cfg0.win 1).blk t).view.emb (ix2 0 k)) = _
  refine congrArg _ (funext fun a => Fin.ext ?_)
  fin_cases a
  · show 0 * 1 + 1 * 0 = 0
    omega
  · show 0 * 1024 + 1 * k.val = k.val
    omega

theorem iblk2_apply (c : Dev nD) (t : Fin cfg0.N) (k : Fin 1024) (q : Fin 4864) :
    iblk m c 2 t (ix2 k q) = m ((c.tc : Thread nD τ).loc main_arg2) (ix3 0 k q) := by
  refine Eq.trans ?_ (V_w m c k q)
  show V m c main_v11 (((cfg0.win 2).blk t).view.emb (ix2 k q)) = _
  refine congrArg _ (funext fun a => Fin.ext ?_)
  fin_cases a
  · show 0 * 1024 + 1 * k.val = k.val
    omega
  · show 0 * 4864 + 1 * q.val = q.val
    omega

theorem brow_eq (c : Dev nD) (t : Fin cfg0.N) (r : Fin 512) (R : Fin 16384) (hR : R.val = t.val * 512 + r.val) :
    brow (iblk m c 0 t) (iblk m c 1 t) (iblk m c 2 t) r = Cert.ProjRef.row (m ((c.tc : Thread nD τ).loc main_arg0)) (m ((c.tc : Thread nD τ).loc main_arg1)) (m ((c.tc : Thread nD τ).loc main_arg2)) R := by
  have e0 : (fun k : Fin 1024 => iblk m c 0 t (ix2 r k)) = fun k => m ((c.tc : Thread nD τ).loc main_arg0) (ix2 R k) := funext fun k => iblk0_apply m c t r k R hR
  have e1 : (fun k : Fin 1024 => iblk m c 1 t (ix2 0 k)) = fun k => m ((c.tc : Thread nD τ).loc main_arg1) (ix1 k) := funext fun k => iblk1_apply m c t k
  have e2 : (fun (k : Fin 1024) (j : Fin 4864) => iblk m c 2 t (ix2 k j)) = fun k j => m ((c.tc : Thread nD τ).loc main_arg2) (ix3 0 k j) :=
    funext fun k => funext fun j => iblk2_apply m c t k j
  refine funext fun j => ?_
  show proj _ _ _ j = proj _ _ _ j
  exact (congrArg (fun x => proj x _ _ j) e0).trans ((congrArg (fun x => proj _ x _ j) e1).trans (congrArg (fun x => proj _ _ x j) e2))

theorem iblk3_apply (c : Dev nD) (t : Fin cfg0.N) (r : Fin 16) (j : Fin 1024) (R : Fin 512) (hR : R.val = t.val * 16 + r.val) :
    iblk m c 3 t (ix2 r j) = (m ((c.tc : Thread nD τ).loc main_arg3)) (ix3 0 R j) := by
  have hlt := R.isLt
  refine Eq.trans ?_ (V_v0 m c ⟨0 + R.val, by omega⟩ j R rfl)
  show V m c main_v0 (((cfg0.win 3).blk t).view.emb (ix2 r j)) = _
  refine congrArg _ (funext fun a => Fin.ext ?_)
  fin_cases a
  · show cc0_transform_3 (grid0.coords t) 0 * 16 + 1 * r.val = 0 + R.val
    rw [(pts3 t).1]; omega
  · show 0 * 1024 + 1 * j.val = j.val
    omega

theorem iblk4_apply (c : Dev nD) (t : Fin cfg0.N) (r : Fin 16) (j : Fin 1024) (R : Fin 512) (hR : R.val = t.val * 16 + r.val) :
    iblk m c 4 t (ix2 r j) = (m ((c.tc : Thread nD τ).loc main_arg4)) (ix3 0 R j) := by
  have hlt := R.isLt
  refine Eq.trans ?_ (V_v1 m c ⟨0 + R.val, by omega⟩ j R rfl)
  show V m c main_v1 (((cfg0.win 4).blk t).view.emb (ix2 r j)) = _
  refine congrArg _ (funext fun a => Fin.ext ?_)
  fin_cases a
  · show cc0_transform_4 (grid0.coords t) 0 * 16 + 1 * r.val = 0 + R.val
    rw [(pts4 t).1]; omega
  · show 0 * 1024 + 1 * j.val = j.val
    omega

theorem iblk5_apply (c : Dev nD) (t : Fin cfg0.N) (r : Fin 32) (j : Fin 1024) (R : Fin 1024) (hR : R.val = t.val * 32 + r.val) :
    iblk m c 5 t (ix2 r j) = (m ((c.tc : Thread nD τ).loc main_arg5)) (ix3 0 R j) := by
  have hlt := R.isLt
  refine Eq.trans ?_ (V_v2 m c ⟨0 + R.val, by omega⟩ j R rfl)
  show V m c main_v2 (((cfg0.win 5).blk t).view.emb (ix2 r j)) = _
  refine congrArg _ (funext fun a => Fin.ext ?_)
  fin_cases a
  · show cc0_transform_5 (grid0.coords t) 0 * 32 + 1 * r.val = 0 + R.val
    rw [(pts5 t).1]; omega
  · show 0 * 1024 + 1 * j.val = j.val
    omega

theorem iblk6_apply (c : Dev nD) (t : Fin cfg0.N) (r : Fin 32) (j : Fin 1024) (R : Fin 1024) (hR : R.val = t.val * 32 + r.val) :
    iblk m c 6 t (ix2 r j) = (m ((c.tc : Thread nD τ).loc main_arg6)) (ix3 0 R j) := by
  have hlt := R.isLt
  refine Eq.trans ?_ (V_v3 m c ⟨0 + R.val, by omega⟩ j R rfl)
  show V m c main_v3 (((cfg0.win 6).blk t).view.emb (ix2 r j)) = _
  refine congrArg _ (funext fun a => Fin.ext ?_)
  fin_cases a
  · show cc0_transform_6 (grid0.coords t) 0 * 32 + 1 * r.val = 0 + R.val
    rw [(pts6 t).1]; omega
  · show 0 * 1024 + 1 * j.val = j.val
    omega

theorem iblk7_apply (c : Dev nD) (t : Fin cfg0.N) (r : Fin 32) (j : Fin 2816) (R : Fin 1024) (hR : R.val = t.val * 32 + r.val) :
    iblk m c 7 t (ix2 r j) = (m ((c.tc : Thread nD τ).loc main_arg7)) (ix3 0 R j) := by
  have hlt := R.isLt
  refine Eq.trans ?_ (V_v4 m c ⟨0 + R.val, by omega⟩ j R rfl)
  show V m c main_v4 (((cfg0.win 7).blk t).view.emb (ix2 r j)) = _
  refine congrArg _ (funext fun a => Fin.ext ?_)
  fin_cases a
  · show cc0_transform_7 (grid0.coords t) 0 * 32 + 1 * r.val = 0 + R.val
    rw [(pts7 t).1]; omega
  · show 0 * 2816 + 1 * j.val = j.val
    omega

theorem iblk8_apply (c : Dev nD) (t : Fin cfg0.N) (r : Fin 32) (j : Fin 2816) (R : Fin 1024) (hR : R.val = t.val * 32 + r.val) :
    iblk m c 8 t (ix2 r j) = (m ((c.tc : Thread nD τ).loc main_arg8)) (ix3 0 R j) := by
  have hlt := R.isLt
  refine Eq.trans ?_ (V_v5 m c ⟨0 + R.val, by omega⟩ j R rfl)
  show V m c main_v5 (((cfg0.win 8).blk t).view.emb (ix2 r j)) = _
  refine congrArg _ (funext fun a => Fin.ext ?_)
  fin_cases a
  · show cc0_transform_8 (grid0.coords t) 0 * 32 + 1 * r.val = 0 + R.val
    rw [(pts8 t).1]; omega
  · show 0 * 2816 + 1 * j.val = j.val
    omega

theorem iblk9_apply (c : Dev nD) (t : Fin cfg0.N) (r : Fin 176) (j : Fin 1024) (R : Fin 2816) (hR : R.val = min t.val 15 * 176 + r.val) :
    iblk m c 9 t (ix2 r j) = (m ((c.tc : Thread nD τ).loc main_arg9)) (ix3 0 R j) := by
  have hlt := R.isLt
  refine Eq.trans ?_ (V_v6 m c ⟨0 + R.val, by omega⟩ j R rfl)
  show V m c main_v6 (((cfg0.win 9).blk t).view.emb (ix2 r j)) = _
  refine congrArg _ (funext fun a => Fin.ext ?_)
  fin_cases a
  · show cc0_transform_9 (grid0.coords t) 0 * 176 + 1 * r.val = 0 + R.val
    rw [(pts9 t).1]; omega
  · show 0 * 1024 + 1 * j.val = j.val
    omega

theorem iblk10_apply (c : Dev nD) (t : Fin cfg0.N) (r : Fin 32) (j : Fin 4864) (R : Fin 1024) (hR : R.val = t.val * 32 + r.val) :
    iblk m c 10 t (ix2 r j) = (m ((c.tc : Thread nD τ).loc main_arg2)) (ix3 1 R j) := by
  have hlt := R.isLt
  refine Eq.trans ?_ (V_v7 m c ⟨1024 + R.val, by omega⟩ j R rfl)
  show V m c main_v7 (((cfg0.win 10).blk t).view.emb (ix2 r j)) = _
  refine congrArg _ (funext fun a => Fin.ext ?_)
  fin_cases a
  · show cc0_transform_10 (grid0.coords t) 0 * 32 + 1 * r.val = 1024 + R.val
    rw [(pts10 t).1]; omega
  · show 0 * 4864 + 1 * j.val = j.val
    omega

theorem flush22 : ∀ k : Fin 16, ∃ t : Fin cfg0.N, (cfg0.win 22).flush t = true ∧ min t.val 15 = k.val :=
  (by decide +kernel : ∀ k : Fin 16, ∃ t : Fin grid0.N, win0_22.flush t = true ∧ min t.val 15 = k.val)

theorem blk11 (t : Fin cfg0.N) (r : Fin 512) (j : Fin 512) (R : Fin 16384) (hR : R.val = t.val * 512 + r.val) :
    ((cfg0.win 11).blk t).view.emb (ix2 r j) = ix2 R j := by
  refine funext fun a => Fin.ext ?_
  fin_cases a
  · show cc0_transform_11 (grid0.coords t) 0 * 512 + 1 * r.val = R.val
    rw [(pts t).2.1]; omega
  · show 0 * 512 + 1 * j.val = j.val
    omega

theorem blk12 (t : Fin cfg0.N) (r : Fin 512) (j : Fin 512) (R : Fin 16384) (hR : R.val = t.val * 512 + r.val) :
    ((cfg0.win 12).blk t).view.emb (ix2 r j) = ix2 R j := by
  refine funext fun a => Fin.ext ?_
  fin_cases a
  · show cc0_transform_12 (grid0.coords t) 0 * 512 + 1 * r.val = R.val
    rw [(pts t).2.2.1]; omega
  · show 0 * 512 + 1 * j.val = j.val
    omega

theorem blk13 (t : Fin cfg0.N) (r : Fin 512) (j : Fin 1536) (R : Fin 16384) (hR : R.val = t.val * 512 + r.val) :
    ((cfg0.win 13).blk t).view.emb (ix2 r j) = ix2 R j := by
  refine funext fun a => Fin.ext ?_
  fin_cases a
  · show cc0_transform_13 (grid0.coords t) 0 * 512 + 1 * r.val = R.val
    rw [(pts t).2.2.2.1]; omega
  · show 0 * 1536 + 1 * j.val = j.val
    omega

theorem blk14 (t : Fin cfg0.N) (r : Fin 512) (j : Fin 512) (R : Fin 16384) (hR : R.val = t.val * 512 + r.val) :
    ((cfg0.win 14).blk t).view.emb (ix2 r j) = ix2 R j := by
  refine funext fun a => Fin.ext ?_
  fin_cases a
  · show cc0_transform_14 (grid0.coords t) 0 * 512 + 1 * r.val = R.val
    rw [(pts t).2.2.2.2.1]; omega
  · show 0 * 512 + 1 * j.val = j.val
    omega

theorem blk15 (t : Fin cfg0.N) (r : Fin 512) (j : Fin 2048) (R : Fin 16384) (hR : R.val = t.val * 512 + r.val) :
    ((cfg0.win 15).blk t).view.emb (ix2 r j) = ix2 R j := by
  refine funext fun a => Fin.ext ?_
  fin_cases a
  · show cc0_transform_15 (grid0.coords t) 0 * 512 + 1 * r.val = R.val
    rw [(pts t).2.2.2.2.2]; omega
  · show 0 * 2048 + 1 * j.val = j.val
    omega

theorem blk16 (t : Fin cfg0.N) (r : Fin 16) (j : Fin 1024) (R : Fin 512) (hR : R.val = t.val * 16 + r.val) :
    ((cfg0.win 16).blk t).view.emb (ix2 r j) = ix2 R j := by
  refine funext fun a => Fin.ext ?_
  fin_cases a
  · show cc0_transform_16 (grid0.coords t) 0 * 16 + 1 * r.val = R.val
    rw [(pts3 t).2]; omega
  · show 0 * 1024 + 1 * j.val = j.val
    omega

theorem blk17 (t : Fin cfg0.N) (r : Fin 16) (j : Fin 1024) (R : Fin 512) (hR : R.val = t.val * 16 + r.val) :
    ((cfg0.win 17).blk t).view.emb (ix2 r j) = ix2 R j := by
  refine funext fun a => Fin.ext ?_
  fin_cases a
  · show cc0_transform_17 (grid0.coords t) 0 * 16 + 1 * r.val = R.val
    rw [(pts4 t).2]; omega
  · show 0 * 1024 + 1 * j.val = j.val
    omega

theorem blk18 (t : Fin cfg0.N) (r : Fin 32) (j : Fin 1024) (R : Fin 1024) (hR : R.val = t.val * 32 + r.val) :
    ((cfg0.win 18).blk t).view.emb (ix2 r j) = ix2 R j := by
  refine funext fun a => Fin.ext ?_
  fin_cases a
  · show cc0_transform_18 (grid0.coords t) 0 * 32 + 1 * r.val = R.val
    rw [(pts5 t).2]; omega
  · show 0 * 1024 + 1 * j.val = j.val
    omega

theorem blk19 (t : Fin cfg0.N) (r : Fin 32) (j : Fin 1024) (R : Fin 1024) (hR : R.val = t.val * 32 + r.val) :
    ((cfg0.win 19).blk t).view.emb (ix2 r j) = ix2 R j := by
  refine funext fun a => Fin.ext ?_
  fin_cases a
  · show cc0_transform_19 (grid0.coords t) 0 * 32 + 1 * r.val = R.val
    rw [(pts6 t).2]; omega
  · show 0 * 1024 + 1 * j.val = j.val
    omega

theorem blk20 (t : Fin cfg0.N) (r : Fin 32) (j : Fin 2816) (R : Fin 1024) (hR : R.val = t.val * 32 + r.val) :
    ((cfg0.win 20).blk t).view.emb (ix2 r j) = ix2 R j := by
  refine funext fun a => Fin.ext ?_
  fin_cases a
  · show cc0_transform_20 (grid0.coords t) 0 * 32 + 1 * r.val = R.val
    rw [(pts7 t).2]; omega
  · show 0 * 2816 + 1 * j.val = j.val
    omega

theorem blk21 (t : Fin cfg0.N) (r : Fin 32) (j : Fin 2816) (R : Fin 1024) (hR : R.val = t.val * 32 + r.val) :
    ((cfg0.win 21).blk t).view.emb (ix2 r j) = ix2 R j := by
  refine funext fun a => Fin.ext ?_
  fin_cases a
  · show cc0_transform_21 (grid0.coords t) 0 * 32 + 1 * r.val = R.val
    rw [(pts8 t).2]; omega
  · show 0 * 2816 + 1 * j.val = j.val
    omega

theorem blk22 (t : Fin cfg0.N) (r : Fin 176) (j : Fin 1024) (R : Fin 2816) (hR : R.val = min t.val 15 * 176 + r.val) :
    ((cfg0.win 22).blk t).view.emb (ix2 r j) = ix2 R j := by
  refine funext fun a => Fin.ext ?_
  fin_cases a
  · show cc0_transform_22 (grid0.coords t) 0 * 176 + 1 * r.val = R.val
    rw [(pts9 t).2]; omega
  · show 0 * 1024 + 1 * j.val = j.val
    omega

theorem blk23 (t : Fin cfg0.N) (r : Fin 32) (j : Fin 4864) (R : Fin 1024) (hR : R.val = t.val * 32 + r.val) :
    ((cfg0.win 23).blk t).view.emb (ix2 r j) = ix2 R j := by
  refine funext fun a => Fin.ext ?_
  fin_cases a
  · show cc0_transform_23 (grid0.coords t) 0 * 32 + 1 * r.val = R.val
    rw [(pts10 t).2]; omega
  · show 0 * 4864 + 1 * j.val = j.val
    omega

theorem final11 (c : Dev nD) : (dats m 0 c).arrAt 11 cfg0.N = Cert.ProjRef.queries (m ((c.tc : Thread nD τ).loc main_arg0)) (m ((c.tc : Thread nD τ).loc main_arg1)) (m ((c.tc : Thread nD τ).loc main_arg2)) := by
  refine (dats m 0 c).arrAt_eq_of_cover 11 _ (fun t hf => ?_) fun (i : S16384x512.Idx) => ?_
  · have hN : t.val < 32 := lt_of_lt_of_eq t.isLt (show cfg0.N = 32 from N_0)
    refine funext fun (y : S512x512.Idx) => ?_
    obtain ⟨r, j, rfl⟩ : ∃ (r : Fin 512) (j : Fin 512), y = ix2 r j := ⟨y 0, y 1, eq_ix2 y⟩
    have hr := r.isLt
    have hR : t.val * 512 + r.val < 16384 := by omega
    show (dats m 0 c).after 11 t (ix2 r j) = (Cert.ProjRef.queries (m ((c.tc : Thread nD τ).loc main_arg0)) (m ((c.tc : Thread nD τ).loc main_arg1)) (m ((c.tc : Thread nD τ).loc main_arg2))) (((cfg0.win 11).blk t).view.emb (ix2 r j))
    rw [after0_11, blk11 t r j ⟨_, hR⟩ rfl]
    refine (out11_apply _ _ _ _ _ _ _ _ _ _ _ r j).trans ?_
    beta_reduce
    rw [brow_eq m c t r ⟨_, hR⟩ rfl]
    rfl
  · obtain ⟨R, j, rfl⟩ : ∃ (R : Fin 16384) (j : Fin 512), i = ix2 R j := ⟨i 0, i 1, eq_ix2 i⟩
    have hR := R.isLt
    have hlt : R.val / 512 < cfg0.N := by rw [show cfg0.N = 32 from N_0]; omega
    refine ⟨⟨R.val / 512, hlt⟩, flush0_11 _, ?_⟩
    rw [← blk11 ⟨R.val / 512, hlt⟩ ⟨R.val % 512, by omega⟩ j R (by show R.val = R.val / 512 * 512 + R.val % 512; omega)]
    exact ((cfg0.win 11).blk _).view.emb_mem_set _

theorem final12 (c : Dev nD) : (dats m 0 c).arrAt 12 cfg0.N = Cert.ProjRef.keys (m ((c.tc : Thread nD τ).loc main_arg0)) (m ((c.tc : Thread nD τ).loc main_arg1)) (m ((c.tc : Thread nD τ).loc main_arg2)) := by
  refine (dats m 0 c).arrAt_eq_of_cover 12 _ (fun t hf => ?_) fun (i : S16384x512.Idx) => ?_
  · have hN : t.val < 32 := lt_of_lt_of_eq t.isLt (show cfg0.N = 32 from N_0)
    refine funext fun (y : S512x512.Idx) => ?_
    obtain ⟨r, j, rfl⟩ : ∃ (r : Fin 512) (j : Fin 512), y = ix2 r j := ⟨y 0, y 1, eq_ix2 y⟩
    have hr := r.isLt
    have hR : t.val * 512 + r.val < 16384 := by omega
    show (dats m 0 c).after 12 t (ix2 r j) = (Cert.ProjRef.keys (m ((c.tc : Thread nD τ).loc main_arg0)) (m ((c.tc : Thread nD τ).loc main_arg1)) (m ((c.tc : Thread nD τ).loc main_arg2))) (((cfg0.win 12).blk t).view.emb (ix2 r j))
    rw [after0_12, blk12 t r j ⟨_, hR⟩ rfl]
    refine (out12_apply _ _ _ _ _ _ _ _ _ _ _ r j).trans ?_
    beta_reduce
    rw [brow_eq m c t r ⟨_, hR⟩ rfl]
    rfl
  · obtain ⟨R, j, rfl⟩ : ∃ (R : Fin 16384) (j : Fin 512), i = ix2 R j := ⟨i 0, i 1, eq_ix2 i⟩
    have hR := R.isLt
    have hlt : R.val / 512 < cfg0.N := by rw [show cfg0.N = 32 from N_0]; omega
    refine ⟨⟨R.val / 512, hlt⟩, flush0_12 _, ?_⟩
    rw [← blk12 ⟨R.val / 512, hlt⟩ ⟨R.val % 512, by omega⟩ j R (by show R.val = R.val / 512 * 512 + R.val % 512; omega)]
    exact ((cfg0.win 12).blk _).view.emb_mem_set _

theorem final13 (c : Dev nD) : (dats m 0 c).arrAt 13 cfg0.N = Cert.ProjRef.inputs (m ((c.tc : Thread nD τ).loc main_arg0)) (m ((c.tc : Thread nD τ).loc main_arg1)) (m ((c.tc : Thread nD τ).loc main_arg2)) := by
  refine (dats m 0 c).arrAt_eq_of_cover 13 _ (fun t hf => ?_) fun (i : S16384x1536.Idx) => ?_
  · have hN : t.val < 32 := lt_of_lt_of_eq t.isLt (show cfg0.N = 32 from N_0)
    refine funext fun (y : S512x1536.Idx) => ?_
    obtain ⟨r, j, rfl⟩ : ∃ (r : Fin 512) (j : Fin 1536), y = ix2 r j := ⟨y 0, y 1, eq_ix2 y⟩
    have hr := r.isLt
    have hR : t.val * 512 + r.val < 16384 := by omega
    show (dats m 0 c).after 13 t (ix2 r j) = (Cert.ProjRef.inputs (m ((c.tc : Thread nD τ).loc main_arg0)) (m ((c.tc : Thread nD τ).loc main_arg1)) (m ((c.tc : Thread nD τ).loc main_arg2))) (((cfg0.win 13).blk t).view.emb (ix2 r j))
    rw [after0_13, blk13 t r j ⟨_, hR⟩ rfl]
    refine (out13_apply _ _ _ _ _ _ _ _ _ _ _ r j).trans ?_
    beta_reduce
    rw [brow_eq m c t r ⟨_, hR⟩ rfl]
    rfl
  · obtain ⟨R, j, rfl⟩ : ∃ (R : Fin 16384) (j : Fin 1536), i = ix2 R j := ⟨i 0, i 1, eq_ix2 i⟩
    have hR := R.isLt
    have hlt : R.val / 512 < cfg0.N := by rw [show cfg0.N = 32 from N_0]; omega
    refine ⟨⟨R.val / 512, hlt⟩, flush0_13 _, ?_⟩
    rw [← blk13 ⟨R.val / 512, hlt⟩ ⟨R.val % 512, by omega⟩ j R (by show R.val = R.val / 512 * 512 + R.val % 512; omega)]
    exact ((cfg0.win 13).blk _).view.emb_mem_set _

theorem final14 (c : Dev nD) : (dats m 0 c).arrAt 14 cfg0.N = Cert.ProjRef.logits (m ((c.tc : Thread nD τ).loc main_arg0)) (m ((c.tc : Thread nD τ).loc main_arg1)) (m ((c.tc : Thread nD τ).loc main_arg2)) := by
  refine (dats m 0 c).arrAt_eq_of_cover 14 _ (fun t hf => ?_) fun (i : S16384x512.Idx) => ?_
  · have hN : t.val < 32 := lt_of_lt_of_eq t.isLt (show cfg0.N = 32 from N_0)
    refine funext fun (y : S512x512.Idx) => ?_
    obtain ⟨r, j, rfl⟩ : ∃ (r : Fin 512) (j : Fin 512), y = ix2 r j := ⟨y 0, y 1, eq_ix2 y⟩
    have hr := r.isLt
    have hR : t.val * 512 + r.val < 16384 := by omega
    show (dats m 0 c).after 14 t (ix2 r j) = (Cert.ProjRef.logits (m ((c.tc : Thread nD τ).loc main_arg0)) (m ((c.tc : Thread nD τ).loc main_arg1)) (m ((c.tc : Thread nD τ).loc main_arg2))) (((cfg0.win 14).blk t).view.emb (ix2 r j))
    rw [after0_14, blk14 t r j ⟨_, hR⟩ rfl]
    refine (out14_apply _ _ _ _ _ _ _ _ _ _ _ r j).trans ?_
    beta_reduce
    rw [brow_eq m c t r ⟨_, hR⟩ rfl]
    rfl
  · obtain ⟨R, j, rfl⟩ : ∃ (R : Fin 16384) (j : Fin 512), i = ix2 R j := ⟨i 0, i 1, eq_ix2 i⟩
    have hR := R.isLt
    have hlt : R.val / 512 < cfg0.N := by rw [show cfg0.N = 32 from N_0]; omega
    refine ⟨⟨R.val / 512, hlt⟩, flush0_14 _, ?_⟩
    rw [← blk14 ⟨R.val / 512, hlt⟩ ⟨R.val % 512, by omega⟩ j R (by show R.val = R.val / 512 * 512 + R.val % 512; omega)]
    exact ((cfg0.win 14).blk _).view.emb_mem_set _

theorem final15 (c : Dev nD) : (dats m 0 c).arrAt 15 cfg0.N = Cert.ProjRef.gates (m ((c.tc : Thread nD τ).loc main_arg0)) (m ((c.tc : Thread nD τ).loc main_arg1)) (m ((c.tc : Thread nD τ).loc main_arg2)) := by
  refine (dats m 0 c).arrAt_eq_of_cover 15 _ (fun t hf => ?_) fun (i : S16384x2048.Idx) => ?_
  · have hN : t.val < 32 := lt_of_lt_of_eq t.isLt (show cfg0.N = 32 from N_0)
    refine funext fun (y : S512x2048.Idx) => ?_
    obtain ⟨r, j, rfl⟩ : ∃ (r : Fin 512) (j : Fin 2048), y = ix2 r j := ⟨y 0, y 1, eq_ix2 y⟩
    have hr := r.isLt
    have hR : t.val * 512 + r.val < 16384 := by omega
    show (dats m 0 c).after 15 t (ix2 r j) = (Cert.ProjRef.gates (m ((c.tc : Thread nD τ).loc main_arg0)) (m ((c.tc : Thread nD τ).loc main_arg1)) (m ((c.tc : Thread nD τ).loc main_arg2))) (((cfg0.win 15).blk t).view.emb (ix2 r j))
    rw [after0_15, blk15 t r j ⟨_, hR⟩ rfl]
    refine (out15_apply _ _ _ _ _ _ _ _ _ _ _ r j).trans ?_
    beta_reduce
    rw [brow_eq m c t r ⟨_, hR⟩ rfl]
    rfl
  · obtain ⟨R, j, rfl⟩ : ∃ (R : Fin 16384) (j : Fin 2048), i = ix2 R j := ⟨i 0, i 1, eq_ix2 i⟩
    have hR := R.isLt
    have hlt : R.val / 512 < cfg0.N := by rw [show cfg0.N = 32 from N_0]; omega
    refine ⟨⟨R.val / 512, hlt⟩, flush0_15 _, ?_⟩
    rw [← blk15 ⟨R.val / 512, hlt⟩ ⟨R.val % 512, by omega⟩ j R (by show R.val = R.val / 512 * 512 + R.val % 512; omega)]
    exact ((cfg0.win 15).blk _).view.emb_mem_set _

theorem final16 (c : Dev nD) : (dats m 0 c).arrAt 16 cfg0.N = Cert.ProjRef.layer (n := 4) 0 (m ((c.tc : Thread nD τ).loc main_arg3)) := by
  refine (dats m 0 c).arrAt_eq_of_cover 16 _ (fun t hf => ?_) fun (i : S512x1024.Idx) => ?_
  · have hN : t.val < 32 := lt_of_lt_of_eq t.isLt (show cfg0.N = 32 from N_0)
    refine funext fun (y : S16x1024.Idx) => ?_
    obtain ⟨r, j, rfl⟩ : ∃ (r : Fin 16) (j : Fin 1024), y = ix2 r j := ⟨y 0, y 1, eq_ix2 y⟩
    have hr := r.isLt
    have hR : t.val * 16 + r.val < 512 := by omega
    show (dats m 0 c).after 16 t (ix2 r j) = (Cert.ProjRef.layer (n := 4) 0 (m ((c.tc : Thread nD τ).loc main_arg3))) (((cfg0.win 16).blk t).view.emb (ix2 r j))
    rw [after0_16, blk16 t r j ⟨_, hR⟩ rfl]
    refine (out16_apply _ _ _ _ _ _ _ _ _ _ _ r j).trans ?_
    exact iblk3_apply m c t r j ⟨_, hR⟩ rfl
  · obtain ⟨R, j, rfl⟩ : ∃ (R : Fin 512) (j : Fin 1024), i = ix2 R j := ⟨i 0, i 1, eq_ix2 i⟩
    have hR := R.isLt
    have hlt : R.val / 16 < cfg0.N := by rw [show cfg0.N = 32 from N_0]; omega
    refine ⟨⟨R.val / 16, hlt⟩, flush0_16 _, ?_⟩
    rw [← blk16 ⟨R.val / 16, hlt⟩ ⟨R.val % 16, by omega⟩ j R (by show R.val = R.val / 16 * 16 + R.val % 16; omega)]
    exact ((cfg0.win 16).blk _).view.emb_mem_set _

theorem final17 (c : Dev nD) : (dats m 0 c).arrAt 17 cfg0.N = Cert.ProjRef.layer (n := 4) 0 (m ((c.tc : Thread nD τ).loc main_arg4)) := by
  refine (dats m 0 c).arrAt_eq_of_cover 17 _ (fun t hf => ?_) fun (i : S512x1024.Idx) => ?_
  · have hN : t.val < 32 := lt_of_lt_of_eq t.isLt (show cfg0.N = 32 from N_0)
    refine funext fun (y : S16x1024.Idx) => ?_
    obtain ⟨r, j, rfl⟩ : ∃ (r : Fin 16) (j : Fin 1024), y = ix2 r j := ⟨y 0, y 1, eq_ix2 y⟩
    have hr := r.isLt
    have hR : t.val * 16 + r.val < 512 := by omega
    show (dats m 0 c).after 17 t (ix2 r j) = (Cert.ProjRef.layer (n := 4) 0 (m ((c.tc : Thread nD τ).loc main_arg4))) (((cfg0.win 17).blk t).view.emb (ix2 r j))
    rw [after0_17, blk17 t r j ⟨_, hR⟩ rfl]
    refine (out17_apply _ _ _ _ _ _ _ _ _ _ _ r j).trans ?_
    exact iblk4_apply m c t r j ⟨_, hR⟩ rfl
  · obtain ⟨R, j, rfl⟩ : ∃ (R : Fin 512) (j : Fin 1024), i = ix2 R j := ⟨i 0, i 1, eq_ix2 i⟩
    have hR := R.isLt
    have hlt : R.val / 16 < cfg0.N := by rw [show cfg0.N = 32 from N_0]; omega
    refine ⟨⟨R.val / 16, hlt⟩, flush0_17 _, ?_⟩
    rw [← blk17 ⟨R.val / 16, hlt⟩ ⟨R.val % 16, by omega⟩ j R (by show R.val = R.val / 16 * 16 + R.val % 16; omega)]
    exact ((cfg0.win 17).blk _).view.emb_mem_set _

theorem final18 (c : Dev nD) : (dats m 0 c).arrAt 18 cfg0.N = Cert.ProjRef.layer (n := 4) 0 (m ((c.tc : Thread nD τ).loc main_arg5)) := by
  refine (dats m 0 c).arrAt_eq_of_cover 18 _ (fun t hf => ?_) fun (i : S1024x1024.Idx) => ?_
  · have hN : t.val < 32 := lt_of_lt_of_eq t.isLt (show cfg0.N = 32 from N_0)
    refine funext fun (y : S32x1024.Idx) => ?_
    obtain ⟨r, j, rfl⟩ : ∃ (r : Fin 32) (j : Fin 1024), y = ix2 r j := ⟨y 0, y 1, eq_ix2 y⟩
    have hr := r.isLt
    have hR : t.val * 32 + r.val < 1024 := by omega
    show (dats m 0 c).after 18 t (ix2 r j) = (Cert.ProjRef.layer (n := 4) 0 (m ((c.tc : Thread nD τ).loc main_arg5))) (((cfg0.win 18).blk t).view.emb (ix2 r j))
    rw [after0_18, blk18 t r j ⟨_, hR⟩ rfl]
    refine (out18_apply _ _ _ _ _ _ _ _ _ _ _ r j).trans ?_
    exact iblk5_apply m c t r j ⟨_, hR⟩ rfl
  · obtain ⟨R, j, rfl⟩ : ∃ (R : Fin 1024) (j : Fin 1024), i = ix2 R j := ⟨i 0, i 1, eq_ix2 i⟩
    have hR := R.isLt
    have hlt : R.val / 32 < cfg0.N := by rw [show cfg0.N = 32 from N_0]; omega
    refine ⟨⟨R.val / 32, hlt⟩, flush0_18 _, ?_⟩
    rw [← blk18 ⟨R.val / 32, hlt⟩ ⟨R.val % 32, by omega⟩ j R (by show R.val = R.val / 32 * 32 + R.val % 32; omega)]
    exact ((cfg0.win 18).blk _).view.emb_mem_set _

theorem final19 (c : Dev nD) : (dats m 0 c).arrAt 19 cfg0.N = Cert.ProjRef.layer (n := 4) 0 (m ((c.tc : Thread nD τ).loc main_arg6)) := by
  refine (dats m 0 c).arrAt_eq_of_cover 19 _ (fun t hf => ?_) fun (i : S1024x1024.Idx) => ?_
  · have hN : t.val < 32 := lt_of_lt_of_eq t.isLt (show cfg0.N = 32 from N_0)
    refine funext fun (y : S32x1024.Idx) => ?_
    obtain ⟨r, j, rfl⟩ : ∃ (r : Fin 32) (j : Fin 1024), y = ix2 r j := ⟨y 0, y 1, eq_ix2 y⟩
    have hr := r.isLt
    have hR : t.val * 32 + r.val < 1024 := by omega
    show (dats m 0 c).after 19 t (ix2 r j) = (Cert.ProjRef.layer (n := 4) 0 (m ((c.tc : Thread nD τ).loc main_arg6))) (((cfg0.win 19).blk t).view.emb (ix2 r j))
    rw [after0_19, blk19 t r j ⟨_, hR⟩ rfl]
    refine (out19_apply _ _ _ _ _ _ _ _ _ _ _ r j).trans ?_
    exact iblk6_apply m c t r j ⟨_, hR⟩ rfl
  · obtain ⟨R, j, rfl⟩ : ∃ (R : Fin 1024) (j : Fin 1024), i = ix2 R j := ⟨i 0, i 1, eq_ix2 i⟩
    have hR := R.isLt
    have hlt : R.val / 32 < cfg0.N := by rw [show cfg0.N = 32 from N_0]; omega
    refine ⟨⟨R.val / 32, hlt⟩, flush0_19 _, ?_⟩
    rw [← blk19 ⟨R.val / 32, hlt⟩ ⟨R.val % 32, by omega⟩ j R (by show R.val = R.val / 32 * 32 + R.val % 32; omega)]
    exact ((cfg0.win 19).blk _).view.emb_mem_set _

theorem final20 (c : Dev nD) : (dats m 0 c).arrAt 20 cfg0.N = Cert.ProjRef.layer (n := 2) 0 (m ((c.tc : Thread nD τ).loc main_arg7)) := by
  refine (dats m 0 c).arrAt_eq_of_cover 20 _ (fun t hf => ?_) fun (i : S1024x2816.Idx) => ?_
  · have hN : t.val < 32 := lt_of_lt_of_eq t.isLt (show cfg0.N = 32 from N_0)
    refine funext fun (y : S32x2816.Idx) => ?_
    obtain ⟨r, j, rfl⟩ : ∃ (r : Fin 32) (j : Fin 2816), y = ix2 r j := ⟨y 0, y 1, eq_ix2 y⟩
    have hr := r.isLt
    have hR : t.val * 32 + r.val < 1024 := by omega
    show (dats m 0 c).after 20 t (ix2 r j) = (Cert.ProjRef.layer (n := 2) 0 (m ((c.tc : Thread nD τ).loc main_arg7))) (((cfg0.win 20).blk t).view.emb (ix2 r j))
    rw [after0_20, blk20 t r j ⟨_, hR⟩ rfl]
    refine (out20_apply _ _ _ _ _ _ _ _ _ _ _ r j).trans ?_
    exact iblk7_apply m c t r j ⟨_, hR⟩ rfl
  · obtain ⟨R, j, rfl⟩ : ∃ (R : Fin 1024) (j : Fin 2816), i = ix2 R j := ⟨i 0, i 1, eq_ix2 i⟩
    have hR := R.isLt
    have hlt : R.val / 32 < cfg0.N := by rw [show cfg0.N = 32 from N_0]; omega
    refine ⟨⟨R.val / 32, hlt⟩, flush0_20 _, ?_⟩
    rw [← blk20 ⟨R.val / 32, hlt⟩ ⟨R.val % 32, by omega⟩ j R (by show R.val = R.val / 32 * 32 + R.val % 32; omega)]
    exact ((cfg0.win 20).blk _).view.emb_mem_set _

theorem final21 (c : Dev nD) : (dats m 0 c).arrAt 21 cfg0.N = Cert.ProjRef.layer (n := 2) 0 (m ((c.tc : Thread nD τ).loc main_arg8)) := by
  refine (dats m 0 c).arrAt_eq_of_cover 21 _ (fun t hf => ?_) fun (i : S1024x2816.Idx) => ?_
  · have hN : t.val < 32 := lt_of_lt_of_eq t.isLt (show cfg0.N = 32 from N_0)
    refine funext fun (y : S32x2816.Idx) => ?_
    obtain ⟨r, j, rfl⟩ : ∃ (r : Fin 32) (j : Fin 2816), y = ix2 r j := ⟨y 0, y 1, eq_ix2 y⟩
    have hr := r.isLt
    have hR : t.val * 32 + r.val < 1024 := by omega
    show (dats m 0 c).after 21 t (ix2 r j) = (Cert.ProjRef.layer (n := 2) 0 (m ((c.tc : Thread nD τ).loc main_arg8))) (((cfg0.win 21).blk t).view.emb (ix2 r j))
    rw [after0_21, blk21 t r j ⟨_, hR⟩ rfl]
    refine (out21_apply _ _ _ _ _ _ _ _ _ _ _ r j).trans ?_
    exact iblk8_apply m c t r j ⟨_, hR⟩ rfl
  · obtain ⟨R, j, rfl⟩ : ∃ (R : Fin 1024) (j : Fin 2816), i = ix2 R j := ⟨i 0, i 1, eq_ix2 i⟩
    have hR := R.isLt
    have hlt : R.val / 32 < cfg0.N := by rw [show cfg0.N = 32 from N_0]; omega
    refine ⟨⟨R.val / 32, hlt⟩, flush0_21 _, ?_⟩
    rw [← blk21 ⟨R.val / 32, hlt⟩ ⟨R.val % 32, by omega⟩ j R (by show R.val = R.val / 32 * 32 + R.val % 32; omega)]
    exact ((cfg0.win 21).blk _).view.emb_mem_set _

theorem final22 (c : Dev nD) : (dats m 0 c).arrAt 22 cfg0.N = Cert.ProjRef.layer (n := 2) 0 (m ((c.tc : Thread nD τ).loc main_arg9)) := by
  refine (dats m 0 c).arrAt_eq_of_cover 22 _ (fun t hf => ?_) fun (i : S2816x1024.Idx) => ?_
  · have hN : t.val < 32 := lt_of_lt_of_eq t.isLt (show cfg0.N = 32 from N_0)
    refine funext fun (y : S176x1024.Idx) => ?_
    obtain ⟨r, j, rfl⟩ : ∃ (r : Fin 176) (j : Fin 1024), y = ix2 r j := ⟨y 0, y 1, eq_ix2 y⟩
    have hr := r.isLt
    have hR : min t.val 15 * 176 + r.val < 2816 := by omega
    show (dats m 0 c).after 22 t (ix2 r j) = (Cert.ProjRef.layer (n := 2) 0 (m ((c.tc : Thread nD τ).loc main_arg9))) (((cfg0.win 22).blk t).view.emb (ix2 r j))
    rw [after0_22, blk22 t r j ⟨_, hR⟩ rfl]
    refine (out22_apply _ _ _ _ _ _ _ _ _ _ _ r j).trans ?_
    exact iblk9_apply m c t r j ⟨_, hR⟩ rfl
  · obtain ⟨R, j, rfl⟩ : ∃ (R : Fin 2816) (j : Fin 1024), i = ix2 R j := ⟨i 0, i 1, eq_ix2 i⟩
    have hR := R.isLt
    have hlt : R.val / 176 < 16 := by omega
    obtain ⟨t, hf, ht⟩ := flush22 ⟨R.val / 176, hlt⟩
    have ht : min t.val 15 = R.val / 176 := ht
    refine ⟨t, hf, ?_⟩
    rw [← blk22 t ⟨R.val % 176, by omega⟩ j R (by show R.val = min t.val 15 * 176 + R.val % 176; rw [ht]; omega)]
    exact ((cfg0.win 22).blk _).view.emb_mem_set _

theorem final23 (c : Dev nD) : (dats m 0 c).arrAt 23 cfg0.N = Cert.ProjRef.layer (n := 4) 1 (m ((c.tc : Thread nD τ).loc main_arg2)) := by
  refine (dats m 0 c).arrAt_eq_of_cover 23 _ (fun t hf => ?_) fun (i : S1024x4864.Idx) => ?_
  · have hN : t.val < 32 := lt_of_lt_of_eq t.isLt (show cfg0.N = 32 from N_0)
    refine funext fun (y : S32x4864.Idx) => ?_
    obtain ⟨r, j, rfl⟩ : ∃ (r : Fin 32) (j : Fin 4864), y = ix2 r j := ⟨y 0, y 1, eq_ix2 y⟩
    have hr := r.isLt
    have hR : t.val * 32 + r.val < 1024 := by omega
    show (dats m 0 c).after 23 t (ix2 r j) = (Cert.ProjRef.layer (n := 4) 1 (m ((c.tc : Thread nD τ).loc main_arg2))) (((cfg0.win 23).blk t).view.emb (ix2 r j))
    rw [after0_23, blk23 t r j ⟨_, hR⟩ rfl]
    refine (out23_apply _ _ _ _ _ _ _ _ _ _ _ r j).trans ?_
    exact iblk10_apply m c t r j ⟨_, hR⟩ rfl
  · obtain ⟨R, j, rfl⟩ : ∃ (R : Fin 1024) (j : Fin 4864), i = ix2 R j := ⟨i 0, i 1, eq_ix2 i⟩
    have hR := R.isLt
    have hlt : R.val / 32 < cfg0.N := by rw [show cfg0.N = 32 from N_0]; omega
    refine ⟨⟨R.val / 32, hlt⟩, flush0_23 _, ?_⟩
    rw [← blk23 ⟨R.val / 32, hlt⟩ ⟨R.val % 32, by omega⟩ j R (by show R.val = R.val / 32 * 32 + R.val % 32; omega)]
    exact ((cfg0.win 23).blk _).view.emb_mem_set _

/-- The call's run: its thirteen result arrays, and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v12_0) = Cert.ProjRef.queries (m ((c.tc : Thread nD τ).loc main_arg0)) (m ((c.tc : Thread nD τ).loc main_arg1)) (m ((c.tc : Thread nD τ).loc main_arg2))
    ∧ r.2.mem ((c.tc : Thread nD τ).loc main_v12_1) = Cert.ProjRef.keys (m ((c.tc : Thread nD τ).loc main_arg0)) (m ((c.tc : Thread nD τ).loc main_arg1)) (m ((c.tc : Thread nD τ).loc main_arg2))
    ∧ r.2.mem ((c.tc : Thread nD τ).loc main_v12_2) = Cert.ProjRef.inputs (m ((c.tc : Thread nD τ).loc main_arg0)) (m ((c.tc : Thread nD τ).loc main_arg1)) (m ((c.tc : Thread nD τ).loc main_arg2))
    ∧ r.2.mem ((c.tc : Thread nD τ).loc main_v12_3) = Cert.ProjRef.logits (m ((c.tc : Thread nD τ).loc main_arg0)) (m ((c.tc : Thread nD τ).loc main_arg1)) (m ((c.tc : Thread nD τ).loc main_arg2))
    ∧ r.2.mem ((c.tc : Thread nD τ).loc main_v12_4) = Cert.ProjRef.gates (m ((c.tc : Thread nD τ).loc main_arg0)) (m ((c.tc : Thread nD τ).loc main_arg1)) (m ((c.tc : Thread nD τ).loc main_arg2))
    ∧ r.2.mem ((c.tc : Thread nD τ).loc main_v12_5) = Cert.ProjRef.layer (n := 4) 0 (m ((c.tc : Thread nD τ).loc main_arg3))
    ∧ r.2.mem ((c.tc : Thread nD τ).loc main_v12_6) = Cert.ProjRef.layer (n := 4) 0 (m ((c.tc : Thread nD τ).loc main_arg4))
    ∧ r.2.mem ((c.tc : Thread nD τ).loc main_v12_7) = Cert.ProjRef.layer (n := 4) 0 (m ((c.tc : Thread nD τ).loc main_arg5))
    ∧ r.2.mem ((c.tc : Thread nD τ).loc main_v12_8) = Cert.ProjRef.layer (n := 4) 0 (m ((c.tc : Thread nD τ).loc main_arg6))
    ∧ r.2.mem ((c.tc : Thread nD τ).loc main_v12_9) = Cert.ProjRef.layer (n := 2) 0 (m ((c.tc : Thread nD τ).loc main_arg7))
    ∧ r.2.mem ((c.tc : Thread nD τ).loc main_v12_10) = Cert.ProjRef.layer (n := 2) 0 (m ((c.tc : Thread nD τ).loc main_arg8))
    ∧ r.2.mem ((c.tc : Thread nD τ).loc main_v12_11) = Cert.ProjRef.layer (n := 2) 0 (m ((c.tc : Thread nD τ).loc main_arg9))
    ∧ r.2.mem ((c.tc : Thread nD τ).loc main_v12_12) = Cert.ProjRef.layer (n := 4) 1 (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) := by
  refine (θ_run defs _ _).mono (fun _ h c => ?_) (Value.run_blocks m ρ)
  obtain ⟨h0, h1, h2, h3, h4, h5, h6, h7, h8, h9, h10, h11, h12, ha⟩ := h c
  exact ⟨h0.trans (final11 m c),
    h1.trans (final12 m c),
    h2.trans (final13 m c),
    h3.trans (final14 m c),
    h4.trans (final15 m c),
    h5.trans (final16 m c),
    h6.trans (final17 m c),
    h7.trans (final18 m c),
    h8.trans (final19 m c),
    h9.trans (final20 m c),
    h10.trans (final21 m c),
    h11.trans (final22 m c),
    h12.trans (final23 m c), ha⟩

end Cert.Proj

end
-- ==== Proof.ProjClaim.lean ====
/-
The claims of the input projection call: the runs of the kernel as printed, of the kernel over the reals and of the reference,
and the equality of their thirteen results.
-/
module

public import proofs.«01_k».proof.Defs
public import proofs.«01_k».proof.Proof.Gen.Kernel3
public import proofs.«01_k».proof.Proof.Gen.Kernel3.Frame
public import proofs.«01_k».proof.Proof.ProjRef
public import proofs.«01_k».proof.Proof.ProjValue

@[expose] public section

noncomputable section

namespace Cert.ProjClaim

open Idealize.ShloMosaic Idealize.SL.Sem

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m g _ =>
  (θ_run Cert.Reference3Ideal.defs _ _).mono (fun r h => ⟨fun c => (h c).2.2.2.2.2.2.2.2.2.2.2.2.2, sem_eq_zero_of_no_sems (by decide) r.2⟩)
    (Cert.Reference3Ideal.Value.run (F := Ideal) m g)

theorem congr3 {A B C D : Type} (f : A → B → C → D) {a a' : A} {b b' : B} {c c' : C} (ha : a = a') (hb : b = b') (hc : c = c') : f a b c = f a' b' c' := by
  subst ha hb hc
  rfl

theorem algebraic : Cert.algebraic_Kernel3Ideal_Reference3Ideal := by
  intro m g m' g' _ ha
  refine ⟨_, _, _, _, _, _, _, _, _, _, _, _, _, Cert.Proj.run m g, (θ_run Cert.Reference3Ideal.defs _ _).mono (fun r hr c => ?_) (Cert.ProjRef.run m' g')⟩
  obtain ⟨h0, h1, h2, h3, h4, h5, h6, h7, h8, h9⟩ := ha c
  obtain ⟨e0, e1, e2, e3, e4, e5, e6, e7, e8, e9, e10, e11, e12, hk⟩ := hr c
  exact ⟨e0.trans (congr3 Cert.ProjRef.queries h0 h1 h2),
    e1.trans (congr3 Cert.ProjRef.keys h0 h1 h2),
    e2.trans (congr3 Cert.ProjRef.inputs h0 h1 h2),
    e3.trans (congr3 Cert.ProjRef.logits h0 h1 h2),
    e4.trans (congr3 Cert.ProjRef.gates h0 h1 h2),
    e5.trans (congrArg (Cert.ProjRef.layer (n := 4) 0) h3),
    e6.trans (congrArg (Cert.ProjRef.layer (n := 4) 0) h4),
    e7.trans (congrArg (Cert.ProjRef.layer (n := 4) 0) h5),
    e8.trans (congrArg (Cert.ProjRef.layer (n := 4) 0) h6),
    e9.trans (congrArg (Cert.ProjRef.layer (n := 2) 0) h7),
    e10.trans (congrArg (Cert.ProjRef.layer (n := 2) 0) h8),
    e11.trans (congrArg (Cert.ProjRef.layer (n := 2) 0) h9),
    e12.trans (congrArg (Cert.ProjRef.layer (n := 4) 1) h2), hk⟩

end Cert.ProjClaim

end
-- ==== Proof.EmbedRef.lean ====
/-
The per-layer embedding's reference: its result read at an index over the extended reals.
-/
module

public import proofs.«01_k».proof.Proof.Gen.Reference4Ideal.Run
public import proofs.«01_k».proof.Proof.Trunk
public import Idealize.ShloMosaic.Lib.Pointwise

@[expose] public section

set_option maxRecDepth 16384

noncomputable section

namespace Cert.EmbedRef

open Cert.Reference4Ideal Cert.Reference4Ideal.Gen Cert.Reference4Ideal.Value Cert.Trunk
open Idealize.ShloMosaic Idealize.ShloMosaic.TcCoe Idealize.ShloMosaic.Pointwise Idealize.ShloMosaic.StableHlo Idealize.SL.Sem

/-- The result array as a function of the argument arrays. -/
def outOf (h : S16384x1024.Idx → EReal) (p : S16384x256.Idx → EReal) (g : S1024.Idx → EReal) (wg : S1024x1024.Idx → EReal) (wp : S256x1024.Idx → EReal)
    (i : S16384x1024.Idx) : EReal :=
  embed (fun k => h (ix2 (i 0) k)) (fun k => g (ix1 k)) (fun l => p (ix2 (i 0) l)) (fun k => wg (ix2 k (i 1))) (fun l => wp (ix2 l (i 1))) (i 1)

variable (m : (ℓ : Loc nD τ sig) → Buf (Elt Ideal) ℓ)

/-- The reference's run, its result read. -/
theorem run (ρ : Dev nD → PrngReg) :
    θ_run defs (onTc (τ := τ) (main (F := Ideal))) ⟨m, fun _ => 0, ρ⟩ fun r => ∀ c : Dev nD,
      @Eq (S16384x1024.Idx → EReal) (r.2.mem ((c.tc : Thread nD τ).loc main_v23))
        (outOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun (y : S16384x1024.Idx) => ?_), (h c).2⟩) (Value.run (F := Ideal) m ρ)
  obtain ⟨r, j, rfl⟩ : ∃ (r : Fin 16384) (j : Fin 1024), y = ix2 r j := ⟨y 0, y 1, eq_ix2 y⟩
  generalize m ((c.tc : Thread nD τ).loc main_arg0) = h
  generalize m ((c.tc : Thread nD τ).loc main_arg1) = p
  generalize m ((c.tc : Thread nD τ).loc main_arg2) = g
  generalize m ((c.tc : Thread nD τ).loc main_arg3) = wg
  generalize m ((c.tc : Thread nD τ).loc main_arg4) = wp
  pointwise []
  simp only [← zero_sub]
  rfl

end Cert.EmbedRef

end
-- ==== Proof.EmbedValue.lean ====
/-
The per-layer embedding call: its result array as a function of its arguments, over the extended reals.
-/
module

public import proofs.«01_k».proof.Proof.Gen.Kernel4Ideal.Value
public import proofs.«01_k».proof.Proof.EmbedRef
public import Idealize.ShloMosaic.Lib.Pipeline.Value
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Embed

open Cert.Kernel4Ideal Cert.Kernel4Ideal.Gen Cert.Trunk Cert.Experts
open Idealize.ShloMosaic Idealize.ShloMosaic.TcCoe Idealize.ShloMosaic.Pointwise Idealize.SL.Sem
open Idealize.ShloMosaic.Pipeline (Dat Cfg Window)

theorem pay1_apply (h : Vec Ideal S512x1024 .f32) (p : Vec Ideal S512x256 .f32) (g : Vec Ideal S1x1024 .f32) (wg : Vec Ideal S1024x1024 .bf16)
    (wp : Vec Ideal S256x1024 .bf16) (r : Fin 512) (j : Fin 1024) :
    @Eq EReal (k0_pay1 (F := Ideal) h p g wg wp (ix2 r j))
      (embed (fun k => h (ix2 r k)) (fun k => g (ix2 0 k)) (fun l => p (ix2 r l)) (fun k => wg (ix2 k j)) (fun l => wp (ix2 l j)) j) := by
  pointwise [k0_pay1]
  rfl

theorem out_apply (x0 : Vec Ideal S512x1024 .f32) (x1 : Vec Ideal S512x256 .f32) (x2 : Vec Ideal S1x1024 .f32) (x3 : Vec Ideal S1024x1024 .bf16)
    (x4 : Vec Ideal S256x1024 .bf16) (r : Fin 512) (j : Fin 1024) :
    @Eq EReal (out0_5 (F := Ideal) x0 x1 x2 x3 x4 (ix2 r j))
      (embed (fun k => x0 (ix2 r k)) (fun k => x2 (ix2 0 k)) (fun l => x1 (ix2 r l)) (fun k => x3 (ix2 k j)) (fun l => x4 (ix2 l j)) j) := by
  unfold out0_5
  frame_out
  exact pay1_apply _ _ _ _ _ r j

variable (m : (ℓ : Loc nD τ sig) → Buf (Elt Ideal) ℓ)

theorem pts : ∀ t : Fin cfg0.N, cc0_transform_0 (grid0.coords t) 0 = t.val ∧ cc0_transform_1 (grid0.coords t) 0 = t.val ∧ cc0_transform_5 (grid0.coords t) 0 = t.val :=
  (by decide +kernel : ∀ t : Fin grid0.N, cc0_transform_0 (grid0.coords t) 0 = t.val ∧ cc0_transform_1 (grid0.coords t) 0 = t.val ∧ cc0_transform_5 (grid0.coords t) 0 = t.val)

theorem V_gain (c : Dev nD) (k : Fin 1024) : V m c main_v0 (ix2 0 k) = m ((c.tc : Thread nD τ).loc main_arg2) (ix1 k) := by
  have h : V m c main_v0 = shapeCast S1x1024 (m ((c.tc : Thread nD τ).loc main_arg2)) Facts₀.shapeCasts_S1024_S1x1024 := by
    unfold V
    simp only [hostOps0]
    after_results_simp
    rfl
  rw [h]
  pointwise []

theorem V_proj (c : Dev nD) (l : Fin 256) (j : Fin 1024) : V m c main_v1 (ix2 l j) = m ((c.tc : Thread nD τ).loc main_arg4) (ix2 l j) := by
  have h : V m c main_v1 = (truncf (F := Ideal) .bf16 (m ((c.tc : Thread nD τ).loc main_arg4) : FVec Ideal S256x1024 .f32) Facts₀.bitsLt_bf16_f32 : FVec Ideal S256x1024 .bf16) := by
    unfold V
    simp only [hostOps0]
    after_results_simp
  rw [h]
  rfl

theorem iblk0_apply (c : Dev nD) (t : Fin cfg0.N) (r : Fin 512) (k : Fin 1024) (R : Fin 16384) (hR : R.val = t.val * 512 + r.val) :
    iblk m c 0 t (ix2 r k) = m ((c.tc : Thread nD τ).loc main_arg0) (ix2 R k) := by
  refine Eq.trans ?_ (congrFun (V_main_arg0 m c) _)
  show V m c main_arg0 (((cfg0.win 0).blk t).view.emb (ix2 r k)) = _
  refine congrArg _ (funext fun a => Fin.ext ?_)
  fin_cases a
  · show cc0_transform_0 (grid0.coords t) 0 * 512 + 1 * r.val = R.val
    rw [(pts t).1]; omega
  · show 0 * 1024 + 1 * k.val = k.val
    omega

theorem iblk1_apply (c : Dev nD) (t : Fin cfg0.N) (r : Fin 512) (k : Fin 256) (R : Fin 16384) (hR : R.val = t.val * 512 + r.val) :
    iblk m c 1 t (ix2 r k) = m ((c.tc : Thread nD τ).loc main_arg1) (ix2 R k) := by
  refine Eq.trans ?_ (congrFun (V_main_arg1 m c) _)
  show V m c main_arg1 (((cfg0.win 1).blk t).view.emb (ix2 r k)) = _
  refine congrArg _ (funext fun a => Fin.ext ?_)
  fin_cases a
  · show cc0_transform_1 (grid0.coords t) 0 * 512 + 1 * r.val = R.val
    rw [(pts t).2.1]; omega
  · show 0 * 256 + 1 * k.val = k.val
    omega

theorem iblk2_apply (c : Dev nD) (t : Fin cfg0.N) (k : Fin 1024) :
    iblk m c 2 t (ix2 0 k) = m ((c.tc : Thread nD τ).loc main_arg2) (ix1 k) := by
  refine Eq.trans ?_ (V_gain m c k)
  show V m c main_v0 (((cfg0.win 2).blk t).view.emb (ix2 0 k)) = _
  refine congrArg _ (funext fun a => Fin.ext ?_)
  fin_cases a
  · show 0 * 1 + 1 * 0 = 0
    omega
  · show 0 * 1024 + 1 * k.val = k.val
    omega

theorem iblk3_apply (c : Dev nD) (t : Fin cfg0.N) (k : Fin 1024) (q : Fin 1024) :
    iblk m c 3 t (ix2 k q) = m ((c.tc : Thread nD τ).loc main_arg3) (ix2 k q) := by
  refine Eq.trans ?_ (congrFun (V_main_arg3 m c) _)
  show V m c main_arg3 (((cfg0.win 3).blk t).view.emb (ix2 k q)) = _
  refine congrArg _ (funext fun a => Fin.ext ?_)
  fin_cases a
  · show 0 * 1024 + 1 * k.val = k.val
    omega
  · show 0 * 1024 + 1 * q.val = q.val
    omega

theorem iblk4_apply (c : Dev nD) (t : Fin cfg0.N) (k : Fin 256) (q : Fin 1024) :
    iblk m c 4 t (ix2 k q) = m ((c.tc : Thread nD τ).loc main_arg4) (ix2 k q) := by
  refine Eq.trans ?_ (V_proj m c k q)
  show V m c main_v1 (((cfg0.win 4).blk t).view.emb (ix2 k q)) = _
  refine congrArg _ (funext fun a => Fin.ext ?_)
  fin_cases a
  · show 0 * 256 + 1 * k.val = k.val
    omega
  · show 0 * 1024 + 1 * q.val = q.val
    omega

theorem emb5 (t : Fin cfg0.N) (r : Fin 512) (j : Fin 1024) (R : Fin 16384) (hR : R.val = t.val * 512 + r.val) :
    ((cfg0.win 5).blk t).view.emb (ix2 r j) = ix2 R j := by
  refine funext fun a => Fin.ext ?_
  fin_cases a
  · show cc0_transform_5 (grid0.coords t) 0 * 512 + 1 * r.val = R.val
    rw [(pts t).2.2]; omega
  · show 0 * 1024 + 1 * j.val = j.val
    omega

/-- The call's result array. -/
theorem final (c : Dev nD) :
    (dats m 0 c).arrAt 5 cfg0.N = Cert.EmbedRef.outOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_cover 5 _ (fun t hf => ?_) fun (i : S16384x1024.Idx) => ?_
  · have hN : t.val < 32 := lt_of_lt_of_eq t.isLt (show cfg0.N = 32 from N_0)
    refine funext fun (y : S512x1024.Idx) => ?_
    obtain ⟨r, j, rfl⟩ : ∃ (r : Fin 512) (j : Fin 1024), y = ix2 r j := ⟨y 0, y 1, eq_ix2 y⟩
    have hr := r.isLt
    have hR : t.val * 512 + r.val < 16384 := by omega
    show (dats m 0 c).after 5 t (ix2 r j) = Cert.EmbedRef.outOf _ _ _ _ _ (((cfg0.win 5).blk t).view.emb (ix2 r j))
    rw [after0_5, emb5 t r j ⟨_, hR⟩ rfl]
    refine (out_apply _ _ _ _ _ r j).trans ?_
    simp only [iblk0_apply m c t r _ ⟨_, hR⟩ rfl, iblk1_apply m c t r _ ⟨_, hR⟩ rfl, iblk2_apply, iblk3_apply, iblk4_apply]
    rfl
  · obtain ⟨R, j, rfl⟩ : ∃ (R : Fin 16384) (j : Fin 1024), i = ix2 R j := ⟨i 0, i 1, eq_ix2 i⟩
    have hR := R.isLt
    have hlt : R.val / 512 < cfg0.N := by rw [show cfg0.N = 32 from N_0]; omega
    refine ⟨⟨R.val / 512, hlt⟩, flush0_5 _, ?_⟩
    rw [← emb5 ⟨R.val / 512, hlt⟩ ⟨R.val % 512, by omega⟩ j R (by show R.val = R.val / 512 * 512 + R.val % 512; omega)]
    exact ((cfg0.win 5).blk _).view.emb_mem_set _

/-- The call's run: its result array, and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v2) = Cert.EmbedRef.outOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans (final m c), (h c).2⟩) (Value.run_blocks m ρ)

end Cert.Embed

end
-- ==== Proof.EmbedClaim.lean ====
/-
The claims of the per-layer embedding call: the runs of the kernel as printed, of the kernel over the reals and of the reference,
and the equality of the two results.
-/
module

public import proofs.«01_k».proof.Defs
public import proofs.«01_k».proof.Proof.Gen.Kernel4
public import proofs.«01_k».proof.Proof.Gen.Kernel4.Frame
public import proofs.«01_k».proof.Proof.EmbedRef
public import proofs.«01_k».proof.Proof.EmbedValue

@[expose] public section

noncomputable section

namespace Cert.EmbedClaim

open Idealize.ShloMosaic Idealize.SL.Sem

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem algebraic : Cert.algebraic_Kernel4Ideal_Reference4Ideal := by
  intro m g m' g' _ ha
  refine ⟨_, Cert.Embed.run m g, (θ_run Cert.Reference4Ideal.defs _ _).mono (fun r hr c => ⟨(hr c).1.trans ?_, (hr c).2⟩) (Cert.EmbedRef.run m' g')⟩
  obtain ⟨h0, h1, h2, h3, h4⟩ := ha c
  exact (congrArg (fun x => Cert.EmbedRef.outOf x _ _ _ _) h0).trans ((congrArg (fun x => Cert.EmbedRef.outOf _ x _ _ _) h1).trans
    ((congrArg (fun x => Cert.EmbedRef.outOf _ _ x _ _) h2).trans ((congrArg (fun x => Cert.EmbedRef.outOf _ _ _ x _) h3).trans
      (congrArg (fun x => Cert.EmbedRef.outOf _ _ _ _ x) h4))))

end Cert.EmbedClaim

end
-- ==== Proof.ExpertsSame.lean ====
/-
The program as printed and its idealization have one text: their procedures and main functions are equal over any
float values.
-/
module

public import proofs.«01_k».proof.Kernel
public import proofs.«01_k».proof.KernelIdeal
public import proofs.«01_k».proof.Proof.Gen.Kernel
public import proofs.«01_k».proof.Proof.Gen.KernelIdeal
public import proofs.«01_k».proof.Proof.Gen.Kernel.Launch
public import proofs.«01_k».proof.Proof.Gen.KernelIdeal.Launch

@[expose] public section

set_option maxRecDepth 16384

noncomputable section

namespace Cert.Experts

open Idealize.ShloMosaic

variable {F : FTy → Type} [FloatOps F]

set_option maxHeartbeats 1000000 in
theorem same_body : @Cert.Kernel.cc0_moe_experts F _ _ = @Cert.KernelIdeal.cc0_moe_experts F _ _ := rfl

set_option maxHeartbeats 4000000 in
theorem same_defs₀ : Cert.Kernel.defs₀ (F := F) = Cert.KernelIdeal.defs₀ (F := F) := by
  refine congrArg Defs.onTc (funext fun l => funext fun x => ?_)
  match l, x with
  | 0, (t, s) => dsimp only; rw [same_body]; rfl

set_option maxHeartbeats 4000000 in
theorem same_defs : Cert.Kernel.defs (F := F) = Cert.KernelIdeal.defs (F := F) := congrArg (Pipeline.defs Cert.KernelIdeal.pcfgs) same_defs₀

set_option maxHeartbeats 4000000 in
theorem same_main : (Cert.Kernel.main (F := F)) = Cert.KernelIdeal.main := by
  funext c
  rw [Cert.Kernel.Gen.main_chain, Cert.KernelIdeal.Gen.main_chain]
  rfl

end Cert.Experts

end
-- ==== Proof.ExpertsRef.lean ====
/-
The reference: its result read at an index over the extended reals. Expert `e`'s gate is one on the rows between where
its tiles begin and where they end, so the sum over the experts of the gate times the expert's rows is the one expert
of the row's tile, or zero.
-/
module

public import proofs.«01_k».proof.Proof.Gen.ReferenceIdeal.Run
public import proofs.«01_k».proof.Proof.ExpertsPay
public import proofs.«01_k».proof.Proof.ExpertsKit
public import proofs.«01_k».proof.Proof.ExpertsPlan
public import Idealize.ShloMosaic.Lib.WordCmp

@[expose] public section

set_option maxRecDepth 16384

noncomputable section

namespace Cert.ExpertsRef

open Cert.ReferenceIdeal Cert.ReferenceIdeal.Gen Cert.ReferenceIdeal.Value Cert.Experts
open Idealize.ShloMosaic Idealize.ShloMosaic.WordCmp Idealize.ShloMosaic.TcCoe Idealize.ShloMosaic.Pointwise Idealize.ShloMosaic.StableHlo

variable (V0 : Valuation τ sig (Elt Ideal))

/-- The router's choices and the arrays of the launch. -/
def choices : IVec S32768 32 := shapeCast S32768 (V0 (Proc.devRef .tc main_arg0)) shapeCasts_S16384x2_S32768
abbrev T : ℕ → ℕ := Plan.tiles (choices V0)
abbrev X (r : Fin 36352) (l : Fin 512) : BitVec 32 := V0 (Proc.devRef .tc main_arg1) (ix2 r l)
def W1 (e : Fin 8) (k : Fin 1024) (q : Fin 3584) : EReal := shapeCast S8x1024x3584 (V0 (Proc.devRef .tc main_arg2)) shapeCasts_S8192x3584_S8x1024x3584 (ix3 e k q)
def W3 (e : Fin 8) (k : Fin 1024) (q : Fin 3584) : EReal := shapeCast S8x1024x3584 (V0 (Proc.devRef .tc main_arg3)) shapeCasts_S8192x3584_S8x1024x3584 (ix3 e k q)
def W2 (e : Fin 8) (q : Fin 3584) (j : Fin 1024) : EReal := shapeCast S8x3584x1024 (V0 (Proc.devRef .tc main_arg4)) shapeCasts_S28672x1024_S8x3584x1024 (ix3 e q j)

/-- The widened weights are the weights. -/
theorem w1_apply (e : Fin 8) (k : Fin 1024) (q : Fin 3584) : @Eq EReal (res_main_v36 V0 (ix3 e k q)) (W1 V0 e k q) := rfl
theorem w3_apply (e : Fin 8) (k : Fin 1024) (q : Fin 3584) : @Eq EReal (res_main_v38 V0 (ix3 e k q)) (W3 V0 e k q) := rfl
theorem w2_apply (e : Fin 8) (q : Fin 3584) (j : Fin 1024) : @Eq EReal (res_main_v40 V0 (ix3 e q j)) (W2 V0 e q j) := rfl

theorem u_apply (r : Fin 36352) (k : Fin 1024) : res_main_v6 V0 (ix2 r k) = unpack (X V0 r) k := by
  pointwise [res_main_v6]
  rfl

/-! ## The gate -/

theorem hits_apply (e : Fin 8) : res_main_v17 V0 (ValueIdx.ix1 e) = BitVec.ofNat 32 (Plan.hits (choices V0) e.val + 511) := by
  have hl := Plan.hits_le (choices V0) e.val
  unfold res_main_v17
  show IntOp.addi (Host.reduce IntOp.addi _ _ _ _ (ValueIdx.ix1 e)) 511#32 = _
  refine (congrArg (IntOp.addi · 511#32) (Plan.sum_ap (choices V0) _ (fun p e => Plan.hit_ap (choices V0) _ _ _ _ p e) natLt_1_32 _ _ e)).trans ?_
  apply BitVec.eq_of_toNat_eq
  show (BitVec.ofNat 32 _ + 511#32).toNat = _
  rw [BitVec.toNat_add]
  simp only [BitVec.toNat_ofNat]
  omega

/-- How many rows each expert's tiles hold, and where they end. -/
theorem rows_apply (e : Fin 8) : res_main_v20 V0 (ValueIdx.ix1 e) = BitVec.ofNat 32 (T V0 e.val * 512) := by
  have hl := Plan.tiles_le (choices V0) e.val
  unfold res_main_v20 res_main_call0_v2 res_main_call0_v0
  refine (congrArg (IntOp.muli · 512#32) (Plan.tiles_ap (choices V0) bcast_S_S8 (res_main_v17 V0) (hits_apply V0) e)).trans ?_
  apply BitVec.eq_of_toNat_eq
  show (BitVec.ofNat 32 _ * 512#32).toNat = _
  rw [BitVec.toNat_mul]
  simp only [BitVec.toNat_ofNat]
  show Plan.tiles (choices V0) e.val % 2 ^ 32 * (512 % 2 ^ 32) % 2 ^ 32 = Plan.tiles (choices V0) e.val * 512 % 2 ^ 32
  omega

theorem ends_apply (e : Fin 8) : res_main_v21 V0 (ix1 e) = BitVec.ofNat 32 (Plan.ends (T V0) e.val * 512) := by
  rw [Plan.ix1_eq, ← Plan.ends_mul]
  unfold res_main_v21
  exact Plan.ends_ap _ (fun e => T V0 e * 512) (rows_apply V0) _ rfl _ _ e

/-- The gate of a row at expert `e`, `o` being the expert of the row's tile: one exactly when they are the same. -/
def gate (o : ℕ) (e : Fin 8) : EReal := if e.val = o then 1 else 0

theorem gate_apply (r : Fin 36352) (e : Fin 8) : res_main_v34 V0 (ix2 r e) = gate (Plan.own (T V0) (r.val / 512)) e := by
  have hr := r.isLt
  have he : Plan.ends (T V0) e.val ≤ 512 := Plan.ends_tiles_le (choices V0) e.isLt
  have hte : T V0 e.val ≤ Plan.ends (T V0) e.val := Plan.le_ends _ _
  have h1 (x : BitVec 1) : FloatOps.uitofp (F := Ideal) FTy.f32 x = if x = 1#1 then (1 : EReal) else 0 := by
    rcases BitVec.eq_zero_or_eq_one x with rfl | rfl
    · show ((0#1).toNat : EReal) = _
      simp
    · show ((1#1).toNat : EReal) = _
      simp
  have andi_one (a b : BitVec 1) : IntOp.andi a b = 1#1 ↔ a = 1#1 ∧ b = 1#1 := by revert a b; decide
  have hsub : IntOp.subi (res_main_v21 V0 (ix1 e)) (res_main_v20 V0 (ix1 e)) = BitVec.ofNat 32 ((Plan.ends (T V0) e.val - T V0 e.val) * 512) := by
    rw [ends_apply, Plan.ix1_eq, rows_apply]
    apply BitVec.eq_of_toNat_eq
    show (BitVec.ofNat 32 _ - BitVec.ofNat 32 _).toNat = _
    rw [BitVec.toNat_sub]
    simp only [BitVec.toNat_ofNat]
    generalize Plan.ends (T V0) e.val = a at *
    generalize T V0 e.val = b at *
    omega
  pointwise [res_main_v34, res_main_v24]
  rw [h1, hsub, ends_apply]
  unfold gate
  refine if_congr ?_ rfl rfl
  rw [andi_one, Plan.sge_word (by omega) (by omega), Plan.slt_word (by omega) (by omega), ← Plan.mine_iff (T V0) (r.val / 512) e.isLt]
  generalize Plan.ends (T V0) e.val = a at *
  generalize T V0 e.val = b at *
  omega

/-- The rows of expert `e`. -/
abbrev row (e : Fin 8) (r : Fin 36352) (j : Fin 1024) : EReal := mlp (unpack (X V0 r)) (W1 V0 e) (W3 V0 e) (fun q => W2 V0 e q j)

theorem a0_apply (r : Fin 36352) (q : Fin 3584) : @Eq EReal (res_main_v44 V0 (ix2 r q)) (∑ k, unpack (X V0 r) k * W1 V0 0 k q) := by
  pointwise [res_main_v44]
  exact Finset.sum_congr rfl fun k _ => congrArg₂ (· * ·) (u_apply V0 r k) (w1_apply V0 _ k q)

theorem a1_apply (r : Fin 36352) (q : Fin 3584) : @Eq EReal (res_main_v59 V0 (ix2 r q)) (∑ k, unpack (X V0 r) k * W1 V0 1 k q) := by
  pointwise [res_main_v59]
  exact Finset.sum_congr rfl fun k _ => congrArg₂ (· * ·) (u_apply V0 r k) (w1_apply V0 _ k q)

theorem a2_apply (r : Fin 36352) (q : Fin 3584) : @Eq EReal (res_main_v74 V0 (ix2 r q)) (∑ k, unpack (X V0 r) k * W1 V0 2 k q) := by
  pointwise [res_main_v74]
  exact Finset.sum_congr rfl fun k _ => congrArg₂ (· * ·) (u_apply V0 r k) (w1_apply V0 _ k q)

theorem a3_apply (r : Fin 36352) (q : Fin 3584) : @Eq EReal (res_main_v89 V0 (ix2 r q)) (∑ k, unpack (X V0 r) k * W1 V0 3 k q) := by
  pointwise [res_main_v89]
  exact Finset.sum_congr rfl fun k _ => congrArg₂ (· * ·) (u_apply V0 r k) (w1_apply V0 _ k q)

theorem a4_apply (r : Fin 36352) (q : Fin 3584) : @Eq EReal (res_main_v104 V0 (ix2 r q)) (∑ k, unpack (X V0 r) k * W1 V0 4 k q) := by
  pointwise [res_main_v104]
  exact Finset.sum_congr rfl fun k _ => congrArg₂ (· * ·) (u_apply V0 r k) (w1_apply V0 _ k q)

theorem a5_apply (r : Fin 36352) (q : Fin 3584) : @Eq EReal (res_main_v119 V0 (ix2 r q)) (∑ k, unpack (X V0 r) k * W1 V0 5 k q) := by
  pointwise [res_main_v119]
  exact Finset.sum_congr rfl fun k _ => congrArg₂ (· * ·) (u_apply V0 r k) (w1_apply V0 _ k q)

theorem a6_apply (r : Fin 36352) (q : Fin 3584) : @Eq EReal (res_main_v134 V0 (ix2 r q)) (∑ k, unpack (X V0 r) k * W1 V0 6 k q) := by
  pointwise [res_main_v134]
  exact Finset.sum_congr rfl fun k _ => congrArg₂ (· * ·) (u_apply V0 r k) (w1_apply V0 _ k q)

theorem a7_apply (r : Fin 36352) (q : Fin 3584) : @Eq EReal (res_main_v149 V0 (ix2 r q)) (∑ k, unpack (X V0 r) k * W1 V0 7 k q) := by
  pointwise [res_main_v149]
  exact Finset.sum_congr rfl fun k _ => congrArg₂ (· * ·) (u_apply V0 r k) (w1_apply V0 _ k q)

theorem res_apply (r : Fin 36352) (j : Fin 1024) :
    @Eq EReal (val3 V0 (Proc.devRef .tc main_v161) (ix2 r j)) (∑ e : Fin 8, gate (Plan.own (T V0) (r.val / 512)) e * row V0 e r j) := by
  rw [val3_main_v161]
  pointwise [res_main_v116]
  simp only [a0_apply, a1_apply, a2_apply, a3_apply, a4_apply, a5_apply, a6_apply, a7_apply, u_apply, gate_apply, w3_apply, w2_apply, ← zero_sub]
  rw [Fin.sum_univ_eight]
  rfl

/-- The gates leave the row of the tile's own expert, or zero. -/
theorem gate_sum (o : ℕ) (f : Fin 8 → EReal) : ∑ e : Fin 8, gate o e * f e = if h : o < 8 then f ⟨o, h⟩ else 0 := by
  unfold gate
  by_cases h : o < 8
  · rw [dif_pos h, Finset.sum_eq_single (⟨o, h⟩ : Fin 8)]
    · rw [if_pos rfl, one_mul]
    · intro e _ he
      rw [if_neg fun h' => he (Fin.ext h'), zero_mul]
    · exact fun h' => absurd (Finset.mem_univ _) h'
  · rw [dif_neg h]
    refine Finset.sum_eq_zero fun e _ => ?_
    rw [if_neg (by have := e.isLt; omega), zero_mul]

end Cert.ExpertsRef

end
-- ==== Proof.ExpertsBody.lean ====
/-
The experts' call: what the body does in each of its cases — a tile's first half, used or not, and its second.
-/
module

public import proofs.«01_k».proof.Proof.ExpertsKit
public import Idealize.ShloMosaic.Lib.VecWindow

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (pf : pre0.Contents (Elt F))

/-- A load of a whole memref reads its contents. -/
theorem ld {sp : Space} {s : Shape} {e : EltTy} {M : Memref sig .tc sp s e} (h : M.IsWhole) {off : Fin s.rank → ℕ}
    (inb : ∀ a, off a + s.size a ≤ s.size a) (x : Vec F s e) :
    View.readAt (Elt F) M.view (Rect.unit off s.size inb).toLoadRect (h.unread x) = x :=
  (View.readAt_full _ _ _).trans (h.read_unread x)

set_option maxHeartbeats 1000000 in
/-- A used tile's first half: the rows are unpacked and the first part of the result is computed. -/
theorem run_first (c : Dev nD) (i : grid0.Coords) (arg4 : Memref sig .tc .vmem S512x512 .i32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x512 .i32) (x1 : Vec F S1x1024x1792 .bf16) (x2 : Vec F S1x1024x1792 .bf16) (x3 : Vec F S1x1792x1024 .bf16) (x4 : Vec F S512x1024 .f32) (xs0 : Vec F S512x1024 .bf16) (xs1 : Vec F S512x1024 .f32) (xt0 : TbBuf (F := F) c teM) (hc1 : cond1 i (pf.atD 1 ![0])) (hc2 : ¬ (k0_cond2 i (pf.atD 1 ![0]) = 1#1)) (hc3 : ¬ (k0_cond3 i (pf.atD 1 ![0]) = 1#1)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ tbPt c teM xt0 ∗ tbPt c nuM (pf 1)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (k0_pay4 x0) ∗ owns (c : Thread nD τ) arg10 fullShare (k0_pay5 x0 x1 x2 x3) ∗ tbPt c teM xt0 ∗ tbPt c nuM (pf 1)) -∗ K ⟨⟩))
          ⊢ wp frame (wpE (defs₀ (F := F)) Variants.none c none) E (cc0_moe_experts i teM hteM nuM hnuM arg4 harg4 arg5 harg5 arg6 harg6 arg7 harg7 arg8 harg8 arg9 harg9 arg10 harg10) K := by
    intro E K
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%f9, %hf9, HS0⟩, ⟨%f10, %hf10, HS1⟩, HT0, HT1, Hk⟩
    obtain rfl := harg4.eq_unread hf0; obtain rfl := harg5.eq_unread hf1; obtain rfl := harg6.eq_unread hf2; obtain rfl := harg7.eq_unread hf3
    obtain rfl := harg8.eq_unread hf4; obtain rfl := harg9.eq_unread hf9; obtain rfl := harg10.eq_unread hf10
    sl_exec (disch := first | sl_exact hc1 | sl_exact hc2 | sl_exact hc3)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [HS0]
    · iexists _; isplitr; swap; · iexact HS0
      ipureintro; refine (View.read_writes_full _ _ _ _ _).trans ?_; rw [ld harg4 inb_S512x512_S512x512_0_0 x0]
    isplitl [HS1]
    · iexists _; isplitr; swap; · iexact HS1
      ipureintro; refine (View.read_writes_full _ _ _ _ _).trans ?_; rw [ld harg4 inb_S512x512_S512x512_0_0 x0, ld harg5 inb_S1x1024x1792_S1x1024x1792_0_0_0 x1, ld harg6 inb_S1x1024x1792_S1x1024x1792_0_0_0 x2, ld harg7 inb_S1x1792x1024_S1x1792x1024_0_0_0 x3]
    isplitl [HT0]; · iexact HT0
    iexact HT1

set_option maxHeartbeats 1000000 in
/-- A used tile's second half: the other part is added and the sum stored. -/
theorem run_second (c : Dev nD) (i : grid0.Coords) (arg4 : Memref sig .tc .vmem S512x512 .i32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x512 .i32) (x1 : Vec F S1x1024x1792 .bf16) (x2 : Vec F S1x1024x1792 .bf16) (x3 : Vec F S1x1792x1024 .bf16) (x4 : Vec F S512x1024 .f32) (xs0 : Vec F S512x1024 .bf16) (xs1 : Vec F S512x1024 .f32) (xt0 : TbBuf (F := F) c teM) (hc1 : ¬ (cond1 i (pf.atD 1 ![0]))) (hc2 : k0_cond2 i (pf.atD 1 ![0]) = 1#1) (hc3 : ¬ (k0_cond3 i (pf.atD 1 ![0]) = 1#1)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ tbPt c teM xt0 ∗ tbPt c nuM (pf 1)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay1 xs1 xs0 x1 x2 x3) ∗ owns (c : Thread nD τ) arg9 fullShare xs0 ∗ owns (c : Thread nD τ) arg10 fullShare xs1 ∗ tbPt c teM xt0 ∗ tbPt c nuM (pf 1)) -∗ K ⟨⟩))
          ⊢ wp frame (wpE (defs₀ (F := F)) Variants.none c none) E (cc0_moe_experts i teM hteM nuM hnuM arg4 harg4 arg5 harg5 arg6 harg6 arg7 harg7 arg8 harg8 arg9 harg9 arg10 harg10) K := by
    intro E K
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%f9, %hf9, HS0⟩, ⟨%f10, %hf10, HS1⟩, HT0, HT1, Hk⟩
    obtain rfl := harg4.eq_unread hf0; obtain rfl := harg5.eq_unread hf1; obtain rfl := harg6.eq_unread hf2; obtain rfl := harg7.eq_unread hf3
    obtain rfl := harg8.eq_unread hf4; obtain rfl := harg9.eq_unread hf9; obtain rfl := harg10.eq_unread hf10
    sl_exec (disch := first | sl_exact hc1 | sl_exact hc2 | sl_exact hc3)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; refine (View.read_writes_full _ _ _ _ _).trans ?_; rw [ld harg5 inb_S1x1024x1792_S1x1024x1792_0_0_0 x1, ld harg6 inb_S1x1024x1792_S1x1024x1792_0_0_0 x2, ld harg7 inb_S1x1792x1024_S1x1792x1024_0_0_0 x3, ld harg9 inb_S512x1024_S512x1024_0_0 xs0, ld harg10 inb_S512x1024_S512x1024_0_0 xs1]
    isplitl [HS0]
    · iexists _; isplitr; swap; · iexact HS0
      ipureintro; exact hf9
    isplitl [HS1]
    · iexists _; isplitr; swap; · iexact HS1
      ipureintro; exact hf10
    isplitl [HT0]; · iexact HT0
    iexact HT1

set_option maxHeartbeats 1000000 in
/-- An unused tile's second half stores zeros. -/
theorem run_zero (c : Dev nD) (i : grid0.Coords) (arg4 : Memref sig .tc .vmem S512x512 .i32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x512 .i32) (x1 : Vec F S1x1024x1792 .bf16) (x2 : Vec F S1x1024x1792 .bf16) (x3 : Vec F S1x1792x1024 .bf16) (x4 : Vec F S512x1024 .f32) (xs0 : Vec F S512x1024 .bf16) (xs1 : Vec F S512x1024 .f32) (xt0 : TbBuf (F := F) c teM) (hc1 : ¬ (cond1 i (pf.atD 1 ![0]))) (hc2 : ¬ (k0_cond2 i (pf.atD 1 ![0]) = 1#1)) (hc3 : k0_cond3 i (pf.atD 1 ![0]) = 1#1) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ tbPt c teM xt0 ∗ tbPt c nuM (pf 1)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare k0_pay2 ∗ owns (c : Thread nD τ) arg9 fullShare xs0 ∗ owns (c : Thread nD τ) arg10 fullShare xs1 ∗ tbPt c teM xt0 ∗ tbPt c nuM (pf 1)) -∗ K ⟨⟩))
          ⊢ wp frame (wpE (defs₀ (F := F)) Variants.none c none) E (cc0_moe_experts i teM hteM nuM hnuM arg4 harg4 arg5 harg5 arg6 harg6 arg7 harg7 arg8 harg8 arg9 harg9 arg10 harg10) K := by
    intro E K
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%f9, %hf9, HS0⟩, ⟨%f10, %hf10, HS1⟩, HT0, HT1, Hk⟩
    obtain rfl := harg4.eq_unread hf0; obtain rfl := harg5.eq_unread hf1; obtain rfl := harg6.eq_unread hf2; obtain rfl := harg7.eq_unread hf3
    obtain rfl := harg8.eq_unread hf4; obtain rfl := harg9.eq_unread hf9; obtain rfl := harg10.eq_unread hf10
    sl_exec (disch := first | sl_exact hc1 | sl_exact hc2 | sl_exact hc3)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact (View.read_writes_full _ _ _ _ _)
    isplitl [HS0]
    · iexists _; isplitr; swap; · iexact HS0
      ipureintro; exact hf9
    isplitl [HS1]
    · iexists _; isplitr; swap; · iexact HS1
      ipureintro; exact hf10
    isplitl [HT0]; · iexact HT0
    iexact HT1

set_option maxHeartbeats 1000000 in
/-- An unused tile's first half does nothing. -/
theorem run_skip (c : Dev nD) (i : grid0.Coords) (arg4 : Memref sig .tc .vmem S512x512 .i32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec F S512x512 .i32) (x1 : Vec F S1x1024x1792 .bf16) (x2 : Vec F S1x1024x1792 .bf16) (x3 : Vec F S1x1792x1024 .bf16) (x4 : Vec F S512x1024 .f32) (xs0 : Vec F S512x1024 .bf16) (xs1 : Vec F S512x1024 .f32) (xt0 : TbBuf (F := F) c teM) (hc1 : ¬ (cond1 i (pf.atD 1 ![0]))) (hc2 : ¬ (k0_cond2 i (pf.atD 1 ![0]) = 1#1)) (hc3 : ¬ (k0_cond3 i (pf.atD 1 ![0]) = 1#1)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ tbPt c teM xt0 ∗ tbPt c nuM (pf 1)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare xs0 ∗ owns (c : Thread nD τ) arg10 fullShare xs1 ∗ tbPt c teM xt0 ∗ tbPt c nuM (pf 1)) -∗ K ⟨⟩))
          ⊢ wp frame (wpE (defs₀ (F := F)) Variants.none c none) E (cc0_moe_experts i teM hteM nuM hnuM arg4 harg4 arg5 harg5 arg6 harg6 arg7 harg7 arg8 harg8 arg9 harg9 arg10 harg10) K := by
    intro E K
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%f9, %hf9, HS0⟩, ⟨%f10, %hf10, HS1⟩, HT0, HT1, Hk⟩
    obtain rfl := harg4.eq_unread hf0; obtain rfl := harg5.eq_unread hf1; obtain rfl := harg6.eq_unread hf2; obtain rfl := harg7.eq_unread hf3
    obtain rfl := harg8.eq_unread hf4; obtain rfl := harg9.eq_unread hf9; obtain rfl := harg10.eq_unread hf10
    sl_exec (disch := first | sl_exact hc1 | sl_exact hc2 | sl_exact hc3)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [HS0]
    · iexists _; isplitr; swap; · iexact HS0
      ipureintro; exact hf9
    isplitl [HS1]
    · iexists _; isplitr; swap; · iexact HS1
      ipureintro; exact hf10
    isplitl [HT0]; · iexact HT0
    iexact HT1

end Cert.Experts

end
-- ==== Proof.ExpertsRun.lean ====
/-
The experts' call: the run. The proof data says what each window's buffer holds after each point and what the two
scratch buffers carry from a used tile's first half to its second; the run then ends with every array at its
stated contents and every counter at zero.
-/
module

public import proofs.«01_k».proof.Proof.ExpertsBody

@[expose] public section

set_option maxRecDepth 16384

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the call computes, block by block -/

/-- The point before. -/
def pred (t : Fin grid0.N) : Fin grid0.N := ⟨t.val - 1, lt_of_le_of_lt (Nat.sub_le _ _) t.isLt⟩

/-- The unpacked rows, and the first part of the result, after a used tile's first half `s`. -/
abbrev keptX (hO : Ok m) (c : Dev nD) (s : Fin (cfgM m hO).N) : Vec F S512x1024 .bf16 := k0_pay4 (iblk m hO c 0 s)
abbrev keptAcc (hO : Ok m) (c : Dev nD) (s : Fin (cfgM m hO).N) : Vec F S512x1024 .f32 :=
  k0_pay5 (iblk m hO c 0 s) (iblk m hO c 1 s) (iblk m hO c 2 s) (iblk m hO c 3 s)

/-- The output's block as a tile's second half leaves it. -/
def outBlk (hO : Ok m) (c : Dev nD) (t : Fin (cfgM m hO).N) : Vec F S512x1024 .f32 :=
  if Used (nu m) (t.val / 2) then
    k0_pay1 (keptAcc m hO c (pred t)) (keptX m hO c (pred t)) (iblk m hO c 1 t) (iblk m hO c 2 t) (iblk m hO c 3 t)
  else k0_pay2

/-- What the scratch buffers carry to point `t`. -/
def Carry (hO : Ok m) (c : Dev nD) (t : ℕ) (d0 : Vec F S512x1024 .bf16) (d1 : Vec F S512x1024 .f32) : Prop :=
  ∀ s : Fin (cfgM m hO).N, s.val + 1 = t → t % 2 = 1 → Used (nu m) (t / 2) → d0 = keptX m hO c s ∧ d1 = keptAcc m hO c s

def kept (hO : Ok m) (c : Dev nD) (t : ℕ) : sProp 𝕄 :=
  iprop(∃ d0 d1, ⌜Carry m hO c t d0 d1⌝ ∗ owns (c : Thread nD τ) xM fullShare d0 ∗ owns (c : Thread nD τ) accM fullShare d1)

def inv (hO : Ok m) (c : Dev nD) (t : ℕ) : sProp 𝕄 :=
  iprop(kept m hO c t ∗ (∃ r, prngReg c r) ∗ tbPt c teM (tbl m 0) ∗ tbPt c nuM (tbl m 1))

/-- The proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outBlk m hO c t
  Φ t := inv m hO c t.val
  q _ := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = outBlk m hO c t := by dsimp only [dats]; try rfl
theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d
theorem leaves_0 (hO : Ok m) (c : Dev nD) (t : Fin (cfgM m hO).N) :
    (dats m hO 0 c).leavesExact 0 t = owns (c : Thread nD τ) (ms_0 m hO t) fullShare (iblk m hO c 0 t) := by
  rw [show (dats m hO 0 c).leavesExact 0 t = owns (c : Thread nD τ) (ms_0 m hO t) fullShare ((dats m hO 0 c).after 0 t) from by
      unfold Dat.leavesExact; rw [live_0 m hO t]; try rfl, after_0]
theorem leaves_1 (hO : Ok m) (c : Dev nD) (t : Fin (cfgM m hO).N) :
    (dats m hO 0 c).leavesExact 1 t = owns (c : Thread nD τ) (ms_1 m hO t) fullShare (iblk m hO c 1 t) := by
  rw [show (dats m hO 0 c).leavesExact 1 t = owns (c : Thread nD τ) (ms_1 m hO t) fullShare ((dats m hO 0 c).after 1 t) from by
      unfold Dat.leavesExact; rw [live_1 m hO t]; try rfl, after_1]
theorem leaves_2 (hO : Ok m) (c : Dev nD) (t : Fin (cfgM m hO).N) :
    (dats m hO 0 c).leavesExact 2 t = owns (c : Thread nD τ) (ms_2 m hO t) fullShare (iblk m hO c 2 t) := by
  rw [show (dats m hO 0 c).leavesExact 2 t = owns (c : Thread nD τ) (ms_2 m hO t) fullShare ((dats m hO 0 c).after 2 t) from by
      unfold Dat.leavesExact; rw [live_2 m hO t]; try rfl, after_2]
theorem leaves_3 (hO : Ok m) (c : Dev nD) (t : Fin (cfgM m hO).N) :
    (dats m hO 0 c).leavesExact 3 t = owns (c : Thread nD τ) (ms_3 m hO t) fullShare (iblk m hO c 3 t) := by
  rw [show (dats m hO 0 c).leavesExact 3 t = owns (c : Thread nD τ) (ms_3 m hO t) fullShare ((dats m hO 0 c).after 3 t) from by
      unfold Dat.leavesExact; rw [live_3 m hO t]; try rfl, after_3]
theorem leaves_4_first (hO : Ok m) (c : Dev nD) (t : Fin (cfgM m hO).N) (h : t.val % 2 = 0) :
    (dats m hO 0 c).leavesExact 4 t = iprop(∃ d, owns (c : Thread nD τ) (ms_4 m hO t) fullShare ((dats m hO 0 c).before 4 t d)) := by
  have hi : (cfgM m hO).idle 4 (grid0.coords t) = true := by rw [idle_4, h]; rfl
  have hf : ((cfgM m hO).win 4).flush t = false := by
    rw [← Bool.not_eq_true, flush_4]; omega
  unfold Dat.leavesExact; rw [hi, hf]; try rfl
theorem leaves_4_second (hO : Ok m) (c : Dev nD) (t : Fin (cfgM m hO).N) (h : t.val % 2 = 1) :
    (dats m hO 0 c).leavesExact 4 t = owns (c : Thread nD τ) (ms_4 m hO t) fullShare (outBlk m hO c t) := by
  have hi : (cfgM m hO).idle 4 (grid0.coords t) = false := by rw [idle_4, h]; rfl
  rw [show (dats m hO 0 c).leavesExact 4 t = owns (c : Thread nD τ) (ms_4 m hO t) fullShare ((dats m hO 0 c).after 4 t) from by
      unfold Dat.leavesExact; rw [hi]; try rfl, after_4]

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 1600000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [leaves_0, leaves_1, leaves_2, leaves_3]
  rw [show (dats m hO 0 c).Φ t.castSucc = inv m hO c t.val from rfl, show (dats m hO 0 c).Φ t.succ = inv m hO c (t.val + 1) from rfl,
    show (dats m hO 0 c).owesAt () t.succ = (dats m hO 0 c).owesAt () t.castSucc from rfl]
  unfold inv kept
  have hN : t.val < 142 := lt_of_lt_of_eq t.isLt (show (cfgM m hO).N = 142 from N_0)
  have c1 := hcond1 t (nu m)
  have c2 := hcond2 t (nu m)
  have c3 := hcond3 t (nu m)
  rcases Nat.mod_two_eq_zero_or_one t.val with hp | hp
  · rw [leaves_4_first m hO c t hp]
    by_cases hu : Used (nu m) (t.val / 2)
    · iintro ⟨⟨⟨%ds0, %ds1, %hC, HS0, HS1⟩, Hg, HT0, HT1⟩, Ho, ⟨%d0, H0⟩, ⟨%d1, H1⟩, ⟨%d2, H2⟩, ⟨%d3, H3⟩, ⟨%d4, H4⟩⟩
      iapply ((run_first (tbl m) c (grid0.coords t) _ _ _ _ _ _ _ _ _ _ _ _ _ _ (iblk m hO c 0 t) (iblk m hO c 1 t) (iblk m hO c 2 t) (iblk m hO c 3 t) _ _ _ (tbl m 0) (c1.mpr ⟨hp, hu⟩) (fun e => by have := c2.mp e; omega) (fun e => by have := c3.mp e; omega)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1]
        · iexists (keptX m hO c t), (keptAcc m hO c t)
          isplitr
          · ipureintro; intro s hs _ _; obtain rfl : s = t := Fin.ext (by omega); exact ⟨rfl, rfl⟩
          isplitl [HS0]; · iexact HS0
          iexact HS1
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · iintro ⟨⟨⟨%ds0, %ds1, %hC, HS0, HS1⟩, Hg, HT0, HT1⟩, Ho, ⟨%d0, H0⟩, ⟨%d1, H1⟩, ⟨%d2, H2⟩, ⟨%d3, H3⟩, ⟨%d4, H4⟩⟩
      iapply ((run_skip (tbl m) c (grid0.coords t) _ _ _ _ _ _ _ _ _ _ _ _ _ _ (iblk m hO c 0 t) (iblk m hO c 1 t) (iblk m hO c 2 t) (iblk m hO c 3 t) _ _ _ (tbl m 0) (fun e => hu (c1.mp e).2) (fun e => by have := c2.mp e; omega) (fun e => by have := c3.mp e; omega)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1]
        · iexists ds0, ds1
          isplitr
          · ipureintro; intro s hs hq hv; exact absurd hv (by rwa [show (t.val + 1) / 2 = t.val / 2 by omega])
          isplitl [HS0]; · iexact HS0
          iexact HS1
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
  · rw [leaves_4_second m hO c t hp]
    by_cases hu : Used (nu m) (t.val / 2)
    · rw [show outBlk m hO c t = _ from if_pos hu]
      iintro ⟨⟨⟨%ds0, %ds1, %hC, HS0, HS1⟩, Hg, HT0, HT1⟩, Ho, ⟨%d0, H0⟩, ⟨%d1, H1⟩, ⟨%d2, H2⟩, ⟨%d3, H3⟩, ⟨%d4, H4⟩⟩
      obtain ⟨rfl, rfl⟩ := hC (pred t) (by show t.val - 1 + 1 = t.val; omega) hp hu
      iapply ((run_second (tbl m) c (grid0.coords t) _ _ _ _ _ _ _ _ _ _ _ _ _ _ (iblk m hO c 0 t) (iblk m hO c 1 t) (iblk m hO c 2 t) (iblk m hO c 3 t) _ _ _ (tbl m 0) (fun e => by have := c1.mp e; omega) (c2.mpr ⟨hp, hu⟩) (fun e => (c3.mp e).2 hu)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1]
        · iexists (keptX m hO c (pred t)), (keptAcc m hO c (pred t))
          isplitr
          · ipureintro; intro s hs hq hv; omega
          isplitl [HS0]; · iexact HS0
          iexact HS1
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4
    · rw [show outBlk m hO c t = _ from if_neg hu]
      iintro ⟨⟨⟨%ds0, %ds1, %hC, HS0, HS1⟩, Hg, HT0, HT1⟩, Ho, ⟨%d0, H0⟩, ⟨%d1, H1⟩, ⟨%d2, H2⟩, ⟨%d3, H3⟩, ⟨%d4, H4⟩⟩
      iapply ((run_zero (tbl m) c (grid0.coords t) _ _ _ _ _ _ _ _ _ _ _ _ _ _ (iblk m hO c 0 t) (iblk m hO c 1 t) (iblk m hO c 2 t) (iblk m hO c 3 t) _ _ _ (tbl m 0) (fun e => by have := c1.mp e; omega) (fun e => hu (c2.mp e).2) (c3.mpr ⟨hp, hu⟩)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HT0]; · iexact HT0
      isplitl [HT1]; · iexact HT1
      iintro ⟨H0, H1, H2, H3, H4, HS0, HS1, HT0, HT1⟩
      isplitl [HS0 HS1 Hg HT0 HT1]
      · isplitl [HS0 HS1]
        · iexists ds0, ds1
          isplitr
          · ipureintro; intro s hs hq hv; omega
          isplitl [HS0]; · iexact HS0
          iexact HS1
        isplitl [Hg]; · iexact Hg
        isplitl [HT0]; · iexact HT0
        iexact HT1
      isplitl [Ho]; · iexact Ho
      isplitl [H0]; · iexact H0
      isplitl [H1]; · iexact H1
      isplitl [H2]; · iexact H2
      isplitl [H3]; · iexact H3
      iexact H4

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

theorem inv_in (hO : Ok m) (c : Dev nD) : iprop(Pipeline.ΦA spec0 c ∗ Pipeline.ΦT pre0 (tbl m) c) ⊢ (inv m hO c 0 : sProp 𝕄) := by
  rw [PhiA_eq, PhiT_eq]; unfold inv kept
  iintro ⟨⟨⟨⟨%d0, H0⟩, ⟨%d1, H1⟩⟩, Hg⟩, HT0, HT1⟩
  isplitl [H0 H1]
  · iexists d0, d1
    isplitr
    · ipureintro; intro s hs; omega
    isplitl [H0]; · iexact H0
    iexact H1
  isplitl [Hg]; · iexact Hg
  isplitl [HT0]; · iexact HT0
  iexact HT1

theorem inv_out (hO : Ok m) (c : Dev nD) (t : ℕ) : (inv m hO c t : sProp 𝕄) ⊢ Pipeline.ΦA spec0 c := by
  rw [PhiA_eq]; unfold inv kept
  iintro ⟨⟨%d0, %d1, -, H0, H1⟩, Hg, -, -⟩
  isplitl [H0 H1]
  · isplitl [H0]
    · iexists _; iexact H0
    iexists _; iexact H1
  iexact Hg

set_option backward.isDefEq.respectTransparency.types false in
/-- Every execution ends, with the arrays at what the proof data says and every counter at zero. -/
theorem run_main (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := fun c => inv_in m hO c) (hout := fun c => inv_out m hO c _)

end Cert.Experts

end
-- ==== Proof.ExpertsValue.lean ====
/-
The experts' call: its result array as a function of its arguments, over the extended reals. Row `r` is in tile
`r / 512`; in a used tile the row goes through the tile's expert, in the others the result is zero.
-/
module

public import proofs.«01_k».proof.Proof.ExpertsRun
public import proofs.«01_k».proof.Proof.ExpertsIndex
public import proofs.«01_k».proof.Proof.ExpertsPay
public import Idealize.ShloMosaic.Lib.Pipeline.Value

@[expose] public section

set_option maxRecDepth 16384

noncomputable section

namespace Cert.Experts

open Cert.KernelIdeal Cert.KernelIdeal.Gen
open Idealize.ShloMosaic Idealize.ShloMosaic.TcCoe Idealize.ShloMosaic.Pointwise
open Idealize.SL Idealize.SL.RA
open Idealize.ShloMosaic.Pipeline (Dat Cfg Window)

attribute [local irreducible] V tbl

section blocks

variable {F : FTy → Type} [FloatOps F]
variable (pf : pre0.Contents (Elt F))

/-! ## Where the windows' blocks lie -/

theorem emb0 (hO : ok0 pf) (hn : 1 ≤ (nuOf pf).toInt) (t : Fin (cfg0 (F := F) ⟨pf, hO⟩).N) (r l : Fin 512)
    (R : Fin 36352) (hR : R.val = rowTile pf (grid0.coords t) * 512 + r.val) :
    (((cfg0 (F := F) ⟨pf, hO⟩).win 0).blk t).view.emb (ix2 r l) = (ix2 R l) := by
  refine funext fun a => Fin.ext ?_
  fin_cases a
  · show cc0_transform_0 Facts₀.inb_S1_S1_0 Facts₀.numel1_S1 pf (grid0.coords t) 0 * 512 + 1 * r.val = R.val
    rw [tr0 _ _ _ _ hn, hR]
    show rowTile _ _ * 512 + 1 * r.val = _
    omega
  · show cc0_transform_0 Facts₀.inb_S1_S1_0 Facts₀.numel1_S1 pf (grid0.coords t) 1 * 512 + 1 * l.val = l.val
    rw [tr0 _ _ _ _ hn]
    show 0 * 512 + 1 * l.val = _
    omega

theorem emb1 (hO : ok0 pf) (t : Fin (cfg0 (F := F) ⟨pf, hO⟩).N) (k : Fin 1024) (q : Fin 1792)
    (e : Fin 8) (he : e.val = (teOf pf (grid0.coords t 0).val).toNat) (Q : Fin 3584) (hQ : Q.val = half pf (grid0.coords t) * 1792 + q.val) :
    (((cfg0 (F := F) ⟨pf, hO⟩).win 1).blk t).view.emb (ix3 0 k q) = (ix3 e k Q) := by
  refine funext fun a => Fin.ext ?_
  fin_cases a
  · show cc0_transform_1 Facts₀.k0_off1_inb Facts₀.numel1_S1 Facts₀.inb_S1_S1_0 pf (grid0.coords t) 0 * 1 + 1 * 0 = e.val
    rw [tr1, he]
    show (teOf pf (grid0.coords t 0).val).toNat * 1 + 1 * 0 = _
    omega
  · show cc0_transform_1 Facts₀.k0_off1_inb Facts₀.numel1_S1 Facts₀.inb_S1_S1_0 pf (grid0.coords t) 1 * 1024 + 1 * k.val = k.val
    rw [tr1]
    show 0 * 1024 + 1 * k.val = _
    omega
  · show cc0_transform_1 Facts₀.k0_off1_inb Facts₀.numel1_S1 Facts₀.inb_S1_S1_0 pf (grid0.coords t) 2 * 1792 + 1 * q.val = Q.val
    rw [tr1, hQ]
    show half pf (grid0.coords t) * 1792 + 1 * q.val = _
    omega

theorem emb2 (hO : ok0 pf) (t : Fin (cfg0 (F := F) ⟨pf, hO⟩).N) (k : Fin 1024) (q : Fin 1792)
    (e : Fin 8) (he : e.val = (teOf pf (grid0.coords t 0).val).toNat) (Q : Fin 3584) (hQ : Q.val = half pf (grid0.coords t) * 1792 + q.val) :
    (((cfg0 (F := F) ⟨pf, hO⟩).win 2).blk t).view.emb (ix3 0 k q) = (ix3 e k Q) := by
  refine funext fun a => Fin.ext ?_
  fin_cases a
  · show cc0_transform_2 Facts₀.k0_off1_inb Facts₀.numel1_S1 Facts₀.inb_S1_S1_0 pf (grid0.coords t) 0 * 1 + 1 * 0 = e.val
    rw [tr2, he]
    show (teOf pf (grid0.coords t 0).val).toNat * 1 + 1 * 0 = _
    omega
  · show cc0_transform_2 Facts₀.k0_off1_inb Facts₀.numel1_S1 Facts₀.inb_S1_S1_0 pf (grid0.coords t) 1 * 1024 + 1 * k.val = k.val
    rw [tr2]
    show 0 * 1024 + 1 * k.val = _
    omega
  · show cc0_transform_2 Facts₀.k0_off1_inb Facts₀.numel1_S1 Facts₀.inb_S1_S1_0 pf (grid0.coords t) 2 * 1792 + 1 * q.val = Q.val
    rw [tr2, hQ]
    show half pf (grid0.coords t) * 1792 + 1 * q.val = _
    omega

theorem emb3 (hO : ok0 pf) (t : Fin (cfg0 (F := F) ⟨pf, hO⟩).N) (q : Fin 1792) (j : Fin 1024)
    (e : Fin 8) (he : e.val = (teOf pf (grid0.coords t 0).val).toNat) (Q : Fin 3584) (hQ : Q.val = half pf (grid0.coords t) * 1792 + q.val) :
    (((cfg0 (F := F) ⟨pf, hO⟩).win 3).blk t).view.emb (ix3 0 q j) = (ix3 e Q j) := by
  refine funext fun a => Fin.ext ?_
  fin_cases a
  · show cc0_transform_3 Facts₀.k0_off1_inb Facts₀.numel1_S1 Facts₀.inb_S1_S1_0 pf (grid0.coords t) 0 * 1 + 1 * 0 = e.val
    rw [tr3, he]
    show (teOf pf (grid0.coords t 0).val).toNat * 1 + 1 * 0 = _
    omega
  · show cc0_transform_3 Facts₀.k0_off1_inb Facts₀.numel1_S1 Facts₀.inb_S1_S1_0 pf (grid0.coords t) 1 * 1792 + 1 * q.val = Q.val
    rw [tr3, hQ]
    show half pf (grid0.coords t) * 1792 + 1 * q.val = _
    omega
  · show cc0_transform_3 Facts₀.k0_off1_inb Facts₀.numel1_S1 Facts₀.inb_S1_S1_0 pf (grid0.coords t) 2 * 1024 + 1 * j.val = j.val
    rw [tr3]
    show 0 * 1024 + 1 * j.val = _
    omega

theorem emb4 (hO : ok0 pf) (t : Fin (cfg0 (F := F) ⟨pf, hO⟩).N) (r : Fin 512) (j : Fin 1024) (R : Fin 36352) (hR : R.val = t.val / 2 * 512 + r.val) :
    (((cfg0 (F := F) ⟨pf, hO⟩).win 4).blk t).view.emb (ix2 r j) = ix2 R j := by
  have hN : t.val < 142 := lt_of_lt_of_eq t.isLt (show (cfg0 (F := F) ⟨pf, hO⟩).N = 142 from N_0)
  refine funext fun a => Fin.ext ?_
  fin_cases a
  · show (BitVec.ofNat 32 (grid0.coords t 0).val).toNat * 512 + 1 * r.val = R.val
    rw [co0, BitVec.toNat_ofNat, Nat.mod_eq_of_lt (by omega)]; omega
  · show 0 * 1024 + 1 * j.val = j.val
    omega

/-- The output's block is the whole of what is written back, and reads its rows of the array. -/
theorem cut4 (hO : ok0 pf) (t : Fin (cfg0 (F := F) ⟨pf, hO⟩).N) (X : Vec F S512x1024 .f32) (r : Fin 512) (j : Fin 1024) :
    ((cfg0 (F := F) ⟨pf, hO⟩).win 4).cut ((cfg0 (F := F) ⟨pf, hO⟩).grid.coords t) X (ix2 r j) = X (ix2 r j) := rfl

theorem read4 (hO : ok0 pf) (t : Fin (cfg0 (F := F) ⟨pf, hO⟩).N) (c : Dev nD) (B : Buf (Elt F) ((c.tc : Thread nD τ).loc main_v54))
    (r : Fin 512) (j : Fin 1024) (R : Fin 36352) (hR : R.val = t.val / 2 * 512 + r.val) :
    (((cfg0 (F := F) ⟨pf, hO⟩).win 4).blk t).view.read (Elt F) B (ix2 r j) = B (ix2 R j) :=
  congrArg B (emb4 pf hO t r j R hR)

variable (m : (ℓ : Loc nD τ sig) → Buf (Elt F) ℓ)

/-! ## The windows' blocks at coordinates -/

theorem iblk0_apply (hO : Ok m) (hn : 1 ≤ (nuOf (tbl m)).toInt) (c : Dev nD) (t : Fin (cfgM m hO).N) (r l : Fin 512)
    (R : Fin 36352) (hR : R.val = rowTile (tbl m) (grid0.coords t) * 512 + r.val) :
    iblk m hO c 0 t (ix2 r l) = V m c main_arg1 (ix2 R l) :=
  congrArg (V m c main_arg1) (emb0 (tbl m) hO hn t r l R hR)

theorem iblk1_apply (hO : Ok m) (c : Dev nD) (t : Fin (cfgM m hO).N) (k : Fin 1024) (q : Fin 1792)
    (e : Fin 8) (he : e.val = (teOf (tbl m) (grid0.coords t 0).val).toNat) (Q : Fin 3584) (hQ : Q.val = half (tbl m) (grid0.coords t) * 1792 + q.val) :
    iblk m hO c 1 t (ix3 0 k q) = V m c main_v51 (ix3 e k Q) :=
  congrArg (V m c main_v51) (emb1 (tbl m) hO t k q e he Q hQ)

theorem iblk2_apply (hO : Ok m) (c : Dev nD) (t : Fin (cfgM m hO).N) (k : Fin 1024) (q : Fin 1792)
    (e : Fin 8) (he : e.val = (teOf (tbl m) (grid0.coords t 0).val).toNat) (Q : Fin 3584) (hQ : Q.val = half (tbl m) (grid0.coords t) * 1792 + q.val) :
    iblk m hO c 2 t (ix3 0 k q) = V m c main_v52 (ix3 e k Q) :=
  congrArg (V m c main_v52) (emb2 (tbl m) hO t k q e he Q hQ)

theorem iblk3_apply (hO : Ok m) (c : Dev nD) (t : Fin (cfgM m hO).N) (q : Fin 1792) (j : Fin 1024)
    (e : Fin 8) (he : e.val = (teOf (tbl m) (grid0.coords t 0).val).toNat) (Q : Fin 3584) (hQ : Q.val = half (tbl m) (grid0.coords t) * 1792 + q.val) :
    iblk m hO c 3 t (ix3 0 q j) = V m c main_v53 (ix3 e Q j) :=
  congrArg (V m c main_v53) (emb3 (tbl m) hO t q j e he Q hQ)

end blocks

/-! ## The result -/

/-- The result at row `r` and column `j`: `n` tiles are used, tile `a` is the rows of expert `te a`. -/
def G (te : ℕ → BitVec 32) (n : BitVec 32) (X : S36352x512.Idx → BitVec 32) (W1 W3 : S8x1024x3584.Idx → EReal)
    (W2 : S8x3584x1024.Idx → EReal) (r : Fin 36352) (j : Fin 1024) : EReal :=
  if Used n (r.val / 512) then
    if h : (te (r.val / 512)).toNat < 8 then
      mlp (unpack fun l => X (ix2 r l)) (fun k q => W1 (ix3 ⟨_, h⟩ k q)) (fun k q => W3 (ix3 ⟨_, h⟩ k q)) (fun q => W2 (ix3 ⟨_, h⟩ q j))
    else 0
  else 0

variable (m : (ℓ : Loc nD τ sig) → Buf (Elt Ideal) ℓ)

/-- The result array. -/
def outArr (c : Dev nD) : Buf (Elt Ideal) ((c.tc : Thread nD τ).loc main_v54) := fun i : S36352x1024.Idx =>
  G (teOf (tbl m)) (nuOf (tbl m)) (V m c main_arg1) (V m c main_v51) (V m c main_v52) (V m c main_v53) (i 0) (i 1)

/-- A tile's second half leaves the tile's rows of the result. -/
theorem outBlk_apply (hO : Ok m) (ht : ∀ a < 71, (teOf (tbl m) a).toNat < 8) (hn : 1 ≤ (nuOf (tbl m)).toInt) (c : Dev nD)
    (t : Fin (cfgM m hO).N) (hp : t.val % 2 = 1) (r : Fin 512) (j : Fin 1024) (R : Fin 36352) (hR : R.val = t.val / 2 * 512 + r.val) :
    outBlk m hO c t (ix2 r j) = outArr m c (ix2 R j) := by
  have hN : t.val < 142 := lt_of_lt_of_eq t.isLt (show (cfgM m hO).N = 142 from N_0)
  have hq : R.val / 512 = t.val / 2 := by omega
  show outBlk m hO c t (ix2 r j) = G _ _ _ _ _ _ R j
  unfold outBlk G
  rw [hq]
  by_cases hu : Used (nu m) (t.val / 2)
  · have hu' : Used (nuOf (tbl m)) (t.val / 2) := hu
    rw [if_pos hu, if_pos hu', dif_pos (ht _ (by omega))]
    refine (pay1_apply _ _ _ _ _ r j).trans ?_
    refine (congrArg (· + _) (pay5_apply _ _ _ _ r j)).trans ?_
    have hpv : (pred t).val / 2 = t.val / 2 := by show (t.val - 1) / 2 = _; omega
    have e0 : ∀ s : Fin grid0.N, s.val / 2 = t.val / 2 → (t.val / 2) = (grid0.coords s 0).val := fun s hs => by rw [co0, hs]
    have hh0 : half (tbl m) (grid0.coords (pred t)) = 0 := by
      unfold half; rw [co0, hpv, if_pos hu', co1]; show (t.val - 1) % 2 = 0; omega
    have hh1 : half (tbl m) (grid0.coords t) = 1 := by
      unfold half; rw [co0, if_pos hu', co1]; exact hp
    have hr0 : rowTile (tbl m) (grid0.coords (pred t)) = t.val / 2 := by
      unfold rowTile; rw [co0, hpv, if_pos hu']
    have hx : (fun l => iblk m hO c 0 (pred t) (ix2 r l)) = fun l => V m c main_arg1 (ix2 R l) :=
      funext fun l => iblk0_apply m hO hn c (pred t) r l R (by rw [hr0]; exact hR)
    have e1 := e0 t rfl
    have e2 := e0 (pred t) hpv
    unfold mlp
    rw [sum_halves]
    refine congrArg₂ _ (Finset.sum_congr rfl fun q _ => ?_) (Finset.sum_congr rfl fun q _ => ?_)
    · refine congrArg₂ (· * ·) (unit_congr (congrArg unpack hx) (funext fun k => ?_) (funext fun k => ?_)) ?_
      · exact iblk1_apply m hO c (pred t) k q _ (by rw [← e2]) _ (by rw [hh0])
      · exact iblk2_apply m hO c (pred t) k q _ (by rw [← e2]) _ (by rw [hh0])
      · exact iblk3_apply m hO c (pred t) q j _ (by rw [← e2]) _ (by rw [hh0])
    · refine congrArg₂ (· * ·) (unit_congr (funext fun k => (pay4_apply _ r k).trans (congrArg (unpack · k) hx)) (funext fun k => ?_) (funext fun k => ?_)) ?_
      · exact iblk1_apply m hO c t k q _ (by rw [← e1]) _ (by rw [hh1])
      · exact iblk2_apply m hO c t k q _ (by rw [← e1]) _ (by rw [hh1])
      · exact iblk3_apply m hO c t q j _ (by rw [← e1]) _ (by rw [hh1])
  · have hu' : ¬ Used (nuOf (tbl m)) (t.val / 2) := hu
    rw [if_neg hu, if_neg hu']
    exact pay2_apply r j

/-- The call's result array. -/
theorem final (hO : Ok m) (ht : ∀ a < 71, (teOf (tbl m) a).toNat < 8) (hn : 1 ≤ (nuOf (tbl m)).toInt) (c : Dev nD) :
    (dats m hO 0 c).arrAt 4 (cfgM m hO).N = outArr m c := by
  refine (dats m hO 0 c).arrAt_eq_of_cover 4 _ (fun t hf => ?_) fun (i : S36352x1024.Idx) => ?_
  · have hp := (flush_4 m hO t).mp hf
    have hN : t.val < 142 := lt_of_lt_of_eq t.isLt (show (cfgM m hO).N = 142 from N_0)
    refine funext fun (y : S512x1024.Idx) => ?_
    obtain ⟨r, j, rfl⟩ : ∃ (r : Fin 512) (j : Fin 1024), y = ix2 r j := ⟨y 0, y 1, eq_ix2 y⟩
    have hr := r.isLt
    refine ((cut4 (tbl m) hO t ((dats m hO 0 c).after 4 t) r j).trans ?_).trans (read4 (tbl m) hO t c (outArr m c) r j ⟨t.val / 2 * 512 + r.val, by omega⟩ rfl).symm
    refine (congrFun (after_4 m hO c t) (ix2 r j)).trans ?_
    exact outBlk_apply m hO ht hn c t hp r j _ rfl
  · obtain ⟨R, j, rfl⟩ : ∃ (R : Fin 36352) (j : Fin 1024), i = ix2 R j := ⟨i 0, i 1, eq_ix2 i⟩
    have hR := R.isLt
    have hlt : 2 * (R.val / 512) + 1 < (cfgM m hO).N := by rw [show (cfgM m hO).N = 142 from N_0]; omega
    refine ⟨⟨2 * (R.val / 512) + 1, hlt⟩, (flush_4 m hO _).mpr (by show (2 * (R.val / 512) + 1) % 2 = 1; omega), ?_⟩
    rw [← emb4 (tbl m) hO ⟨2 * (R.val / 512) + 1, hlt⟩ ⟨R.val % 512, by omega⟩ j R (by show R.val = (2 * (R.val / 512) + 1) / 2 * 512 + R.val % 512; omega)]
    exact (((cfgM m hO).win 4).blk _).view.emb_mem_set _

end Cert.Experts

end
-- ==== Proof.lean ====
/-
The certificate of the experts' call and of the further calls of the trunk. One run (`Proof/ExpertsRun.lean`) serves both frames and the value claim: the
result array's entry (r, j) is row r through the expert its tile names (`Proof/ExpertsValue.lean`), and the reference's
gated sum over the experts is the same entry (`Proof/ExpertsRef.lean`). The further calls have their claims in
modules of their own.
-/
module

public import proofs.«01_k».proof.Defs
public import proofs.«01_k».proof.Proof.Gen.Kernel
public import proofs.«01_k».proof.Proof.ExpertsPre
public import proofs.«01_k».proof.Proof.MergeClaim
public import proofs.«01_k».proof.Proof.FinalClaim
public import proofs.«01_k».proof.Proof.AttnClaim
public import proofs.«01_k».proof.Proof.DenseClaim
public import proofs.«01_k».proof.Proof.ProjClaim
public import proofs.«01_k».proof.Proof.EmbedClaim
public import proofs.«01_k».proof.Proof.ExpertsSame
public import proofs.«01_k».proof.Proof.ExpertsRef
public import proofs.«01_k».proof.Proof.ExpertsValue
public import Idealize.ShloMosaic.Lib.Pipeline.ValueKit.Geometry

@[expose] public section

noncomputable section

namespace Cert.Proof

open Idealize.ShloMosaic Idealize.SL.Sem Idealize.ShloMosaic.Pointwise Idealize.ShloMosaic.StableHlo Cert.Experts

section Args

open Cert.KernelIdeal Cert.KernelIdeal.Gen

variable {F : FTy → Type} [FloatOps F] (m : (ℓ : Loc nD τ sig) → Buf (Elt F) ℓ)

/-- After the run: every argument array as it was. -/
theorem post_args (hO : Ok m) {r : PUnit × MemSt nD τ sig (Elt F)}
    (h : Pipeline.FramePost (Pipeline.pin pcfgs fun _ => adm m hO) (dats m hO) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (by decide : main_arg0 ∈ Pipeline.restRefs sig spec0)).trans (V_arg m c main_arg0 (by decide)),
    ((h.in_eq c 0 rfl).trans (A_eq m hO c 0)).trans (V_arg m c main_arg1 (by decide)),
    ((h c).2 main_arg2 (by decide : main_arg2 ∈ Pipeline.restRefs sig spec0)).trans (V_arg m c main_arg2 (by decide)),
    ((h c).2 main_arg3 (by decide : main_arg3 ∈ Pipeline.restRefs sig spec0)).trans (V_arg m c main_arg3 (by decide)),
    ((h c).2 main_arg4 (by decide : main_arg4 ∈ Pipeline.restRefs sig spec0)).trans (V_arg m c main_arg4 (by decide))⟩

/-- The run from a memory whose choices meet the precondition. -/
theorem frame (ρ : Dev nD → PrngReg) (h : ∀ c : Dev nD, (Cert.Pre_chosen.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) = fun _ => 1#1) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  have hp := pre_tables m h
  have hO : Ok m := ok_of (tbl m) hp.1 hp.2
  exact (θ_run defs _ _).mono (fun r hr => ⟨post_args m hO hr.1, hr.2⟩) (run_main m ρ hO)

end Args

set_option maxHeartbeats 8000000 in
theorem frame_p : Cert.quiescent_Kernel := by
  intro m g hp
  rw [same_defs, same_main]
  exact frame (F := Bits) m g hp

theorem frame_pi : Cert.quiescent_KernelIdeal := fun m g hp => frame (F := Ideal) m g hp

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ri_pre : Cert.quiescent_ReferenceIdeal_pre_chosen := fun m g _ => frame_ri m g trivial

/-- The two results, entry by entry. -/
theorem value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.val3 (launchContents m' c) (Proc.devRef .tc Cert.ReferenceIdeal.main_v161) = outArr m c := by
  obtain rfl : c = 0 := Subsingleton.elim _ _
  refine funext fun (y : Cert.KernelIdeal.S36352x1024.Idx) => ?_
  obtain ⟨r, j, rfl⟩ : ∃ (r : Fin 36352) (j : Fin 1024), y = ix2 r j := ⟨y 0, y 1, eq_ix2 y⟩
  have hr := r.isLt
  refine (Cert.ExpertsRef.res_apply (launchContents m' 0) r j).trans ?_
  rw [Cert.ExpertsRef.gate_sum]
  have ec : Cert.ExpertsRef.choices (launchContents m' 0) = choices m 0 :=
    congrArg (fun x => shapeCast Cert.KernelIdeal.S32768 x Cert.KernelIdeal.Facts₀.shapeCasts_S16384x2_S32768) h0
  have ex : Cert.ExpertsRef.X (launchContents m' 0) r = fun l => V m 0 Cert.KernelIdeal.main_arg1 (ix2 r l) :=
    funext fun l => (congrFun h1 _).trans (congrFun (V_arg m 0 Cert.KernelIdeal.main_arg1 (by decide)) _).symm
  have e1 : Cert.ExpertsRef.W1 (launchContents m' 0) = fun e k q => V m 0 Cert.KernelIdeal.main_v51 (ix3 e k q) :=
    funext fun e => funext fun k => funext fun q => (congrFun (congrArg (fun x => shapeCast Cert.KernelIdeal.S8x1024x3584 x Cert.KernelIdeal.Facts₀.shapeCasts_S8192x3584_S8x1024x3584) h2) _).trans (congrFun (w1_eq m 0) _).symm
  have e3 : Cert.ExpertsRef.W3 (launchContents m' 0) = fun e k q => V m 0 Cert.KernelIdeal.main_v52 (ix3 e k q) :=
    funext fun e => funext fun k => funext fun q => (congrFun (congrArg (fun x => shapeCast Cert.KernelIdeal.S8x1024x3584 x Cert.KernelIdeal.Facts₀.shapeCasts_S8192x3584_S8x1024x3584) h3) _).trans (congrFun (w3_eq m 0) _).symm
  have e2 : Cert.ExpertsRef.W2 (launchContents m' 0) = fun e q j => V m 0 Cert.KernelIdeal.main_v53 (ix3 e q j) :=
    funext fun e => funext fun q => funext fun j => (congrFun (congrArg (fun x => shapeCast Cert.KernelIdeal.S8x3584x1024 x Cert.KernelIdeal.Facts₀.shapeCasts_S28672x1024_S8x3584x1024) h4) _).trans (congrFun (w2_eq m 0) _).symm
  show _ = G _ _ _ _ _ _ r j
  unfold G
  simp only [Cert.ExpertsRef.row, Cert.ExpertsRef.T, ec, ex, e1, e3, e2]
  by_cases ho : Cert.Plan.own (T m) (r.val / 512) < 8
  · have et := te_own m (r.val / 512) (by omega) ho
    have hf : (⟨(teOf (tbl m) (r.val / 512)).toNat, by omega⟩ : Fin 8) = ⟨Cert.Plan.own (T m) (r.val / 512), ho⟩ := Fin.ext et
    rw [dif_pos ho, if_pos ((used_iff m _).mpr ho), dif_pos (by omega), hf]
  · rw [dif_neg ho, if_neg fun h => ho ((used_iff m _).mp h)]

theorem algebraic : Cert.algebraic_KernelIdeal_ReferenceIdeal := by
  intro m g m' g' hp ha
  have hq := pre_tables m hp
  have hO : Ok m := ok_of (tbl m) hq.1 hq.2
  refine ⟨fun c => outArr m c, ?_, ?_⟩
  · refine (θ_run Cert.KernelIdeal.defs _ _).mono (fun r hr c => ⟨?_, post_args m hO hr.1 c⟩) (run_main m g hO)
    exact (hr.1.out_eq c 4).trans (final m hO hq.1 hq.2 c)
  · refine (θ_run Cert.ReferenceIdeal.defs _ _).mono (fun r hr c => ⟨?_, (hr c).2⟩) (Cert.ReferenceIdeal.Value.run (F := Ideal) m' g')
    obtain ⟨h0, h1, h2, h3, h4⟩ := ha c
    exact ((hr c).1.trans (Cert.ReferenceIdeal.Value.val3_main_v161 (launchContents m' c)).symm).trans (value m m' c h0 h1 h2 h3 h4)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_chosen.Gen.facts,
    frame_p, frame_pi, frame_ri, frame_ri_pre,
    Cert.DenseClaim.frame_p, Cert.DenseClaim.frame_pi, Cert.DenseClaim.frame_ri,
    Cert.ProjClaim.frame_p, Cert.ProjClaim.frame_pi, Cert.ProjClaim.frame_ri,
    Cert.EmbedClaim.frame_p, Cert.EmbedClaim.frame_pi, Cert.EmbedClaim.frame_ri,
    Cert.FinalClaim.frame_p, Cert.FinalClaim.frame_pi, Cert.FinalClaim.frame_ri,
    Cert.MergeClaim.frame_p, Cert.MergeClaim.frame_pi, Cert.MergeClaim.frame_ri,
    Cert.AttnClaim.frame_p, Cert.AttnClaim.frame_pi, Cert.AttnClaim.frame_ri,
    trivial, algebraic, trivial, Cert.DenseClaim.algebraic, trivial, Cert.ProjClaim.algebraic, trivial, Cert.EmbedClaim.algebraic,
    trivial, Cert.FinalClaim.algebraic, trivial, Cert.MergeClaim.algebraic,
    Cert.AttnClaim.preserves, Cert.AttnClaim.algebraic⟩

end Cert.Proof

end
